-- ==== Defs.lean ====
def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_scales_finite [hPre_down_scales_finite : Cert.Pre_down_scales_finite.Facts] (m : (ℓ : Loc Cert.DownIdeal.nD Cert.DownIdeal.τ Cert.DownIdeal.sig) → Buf (Elt Ideal) ℓ) : Prop :=
  ∀ c : Dev Cert.DownIdeal.nD,
    (Cert.Pre_down_scales_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_scales_finite [hPre_down_scales_finite : Cert.Pre_down_scales_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_scales_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8))) = (fun _ => 1#1)

def Pre_DownRef (m : (ℓ : Loc Cert.DownRef.nD Cert.DownRef.τ Cert.DownRef.sig) → Buf (Elt Bits) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ r.2.sem = fun _ => 0)

def quiescent_DownIdeal_pre_down_scales_finite [hDownIdeal : Cert.DownIdeal.Facts] [hPre_down_scales_finite : Cert.Pre_down_scales_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_scales_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8))
      ∧ r.2.sem = fun _ => 0)

def quiescent_DownRefIdeal_pre_down_scales_finite [hDownRefIdeal : Cert.DownRefIdeal.Facts] [hPre_down_scales_finite : Cert.Pre_down_scales_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_scales_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8))
      ∧ r.2.sem = fun _ => 0)

def quiescent_DownRef [hDownRef : Cert.DownRef.Facts] : Prop :=
  ∀ (m : (ℓ : Loc Cert.DownRef.nD Cert.DownRef.τ Cert.DownRef.sig) → Buf (Elt Bits) ℓ) (g : Dev Cert.DownRef.nD → PrngReg), Pre_DownRef m →
    θ_run (Cert.DownRef.defs (F := Bits)) (onTc (τ := Cert.DownRef.τ) (Cert.DownRef.main (F := Bits))) ⟨m, fun _ => 0, g⟩ (fun r => (∀ c : Dev Cert.DownRef.nD,
      r.2.mem ((c.tc : Thread Cert.DownRef.nD Cert.DownRef.τ).loc Cert.DownRef.main_arg0) = m ((c.tc : Thread Cert.DownRef.nD Cert.DownRef.τ).loc Cert.DownRef.main_arg0)
      ∧ r.2.mem ((c.tc : Thread Cert.DownRef.nD Cert.DownRef.τ).loc Cert.DownRef.main_arg1) = m ((c.tc : Thread Cert.DownRef.nD Cert.DownRef.τ).loc Cert.DownRef.main_arg1)
      ∧ r.2.mem ((c.tc : Thread Cert.DownRef.nD Cert.DownRef.τ).loc Cert.DownRef.main_arg2) = m ((c.tc : Thread Cert.DownRef.nD Cert.DownRef.τ).loc Cert.DownRef.main_arg2)
      ∧ r.2.mem ((c.tc : Thread Cert.DownRef.nD Cert.DownRef.τ).loc Cert.DownRef.main_arg3) = m ((c.tc : Thread Cert.DownRef.nD Cert.DownRef.τ).loc Cert.DownRef.main_arg3)
      ∧ r.2.mem ((c.tc : Thread Cert.DownRef.nD Cert.DownRef.τ).loc Cert.DownRef.main_arg4) = m ((c.tc : Thread Cert.DownRef.nD Cert.DownRef.τ).loc Cert.DownRef.main_arg4)
      ∧ r.2.mem ((c.tc : Thread Cert.DownRef.nD Cert.DownRef.τ).loc Cert.DownRef.main_arg5) = m ((c.tc : Thread Cert.DownRef.nD Cert.DownRef.τ).loc Cert.DownRef.main_arg5)
      ∧ r.2.mem ((c.tc : Thread Cert.DownRef.nD Cert.DownRef.τ).loc Cert.DownRef.main_arg6) = m ((c.tc : Thread Cert.DownRef.nD Cert.DownRef.τ).loc Cert.DownRef.main_arg6)
      ∧ r.2.mem ((c.tc : Thread Cert.DownRef.nD Cert.DownRef.τ).loc Cert.DownRef.main_arg7) = m ((c.tc : Thread Cert.DownRef.nD Cert.DownRef.τ).loc Cert.DownRef.main_arg7)
      ∧ r.2.mem ((c.tc : Thread Cert.DownRef.nD Cert.DownRef.τ).loc Cert.DownRef.main_arg8) = m ((c.tc : Thread Cert.DownRef.nD Cert.DownRef.τ).loc Cert.DownRef.main_arg8))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def preserves_Gateup_GateupIdeal : Prop :=
  IdealRules.named_const.Statement Cert.GateupIdeal.κ "neg_log2e" .f32 0xBFB8AA3B#32 ((-((Real.log 2)⁻¹) : ℝ) : EReal)
  ∧ IdealRules.named_const.Statement Cert.GateupIdeal.κ "inv_448" .f32 0x3B124925#32 ((1 / 448 : ℝ) : EReal)

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)
      ∧ m' ((c.tc : Thread Cert.GateupRefIdeal.nD Cert.GateupRefIdeal.τ).loc Cert.GateupRefIdeal.main_arg3) = m ((c.tc : Thread Cert.GateupIdeal.nD Cert.GateupIdeal.τ).loc Cert.GateupIdeal.main_arg3)) →
    ∃ (v0 : (c : Dev Cert.GateupIdeal.nD) → Buf (Elt Ideal) ((c.tc : Thread Cert.GateupIdeal.nD Cert.GateupIdeal.τ).loc Cert.GateupIdeal.main_v1_0)) (v1 : (c : Dev Cert.GateupIdeal.nD) → Buf (Elt Ideal) ((c.tc : Thread Cert.GateupIdeal.nD Cert.GateupIdeal.τ).loc Cert.GateupIdeal.main_v1_1)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v1_0) = v0 c
          ∧ r.2.mem ((c.tc : Thread Cert.GateupIdeal.nD Cert.GateupIdeal.τ).loc Cert.GateupIdeal.main_v1_1) = v1 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v0_0) = v0 c
          ∧ r.2.mem ((c.tc : Thread Cert.GateupRefIdeal.nD Cert.GateupRefIdeal.τ).loc Cert.GateupRefIdeal.main_v0_1) = v1 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2)
          ∧ r.2.mem ((c.tc : Thread Cert.GateupRefIdeal.nD Cert.GateupRefIdeal.τ).loc Cert.GateupRefIdeal.main_arg3) = m' ((c.tc : Thread Cert.GateupRefIdeal.nD Cert.GateupRefIdeal.τ).loc Cert.GateupRefIdeal.main_arg3))

def preserves_Down_DownIdeal : Prop :=
  IdealRules.named_const.Statement Cert.DownIdeal.κ "inv_448" .f32 0x3B124925#32 ((1 / 448 : ℝ) : EReal)
  ∧ IdealRules.named_const.Statement Cert.DownIdeal.κ "log2e" .f32 0x3FB8AA3B#32 (((Real.log 2)⁻¹ : ℝ) : EReal)

def algebraic_DownIdeal_DownRefIdeal_pre_down_scales_finite [hDownIdeal : Cert.DownIdeal.Facts] [hDownRefIdeal : Cert.DownRefIdeal.Facts] [hPre_down_scales_finite : Cert.Pre_down_scales_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_scales_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)) (v3 : (c : Dev Cert.DownIdeal.nD) → Buf (Elt Ideal) ((c.tc : Thread Cert.DownIdeal.nD Cert.DownIdeal.τ).loc Cert.DownIdeal.main_v2_3)) (v4 : (c : Dev Cert.DownIdeal.nD) → Buf (Elt Ideal) ((c.tc : Thread Cert.DownIdeal.nD Cert.DownIdeal.τ).loc Cert.DownIdeal.main_v2_4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_v2_3) = v3 c
          ∧ r.2.mem ((c.tc : Thread Cert.DownIdeal.nD Cert.DownIdeal.τ).loc Cert.DownIdeal.main_v2_4) = v4 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_v0_3) = v3 c
          ∧ r.2.mem ((c.tc : Thread Cert.DownRefIdeal.nD Cert.DownRefIdeal.τ).loc Cert.DownRefIdeal.main_v0_4) = v4 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8))

def preserves_DownRef_DownRefIdeal : Prop :=
  IdealRules.named_const.Statement Cert.DownRefIdeal.κ "inv_448" .f32 0x3B124925#32 ((1 / 448 : ℝ) : EReal)
  ∧ IdealRules.named_const.Statement Cert.DownRefIdeal.κ "log2e" .f32 0x3FB8AA3B#32 (((Real.log 2)⁻¹ : ℝ) : EReal)

def preserves_Oproj_OprojIdeal : Prop :=
  IdealRules.named_const.Statement Cert.OprojIdeal.κ "inv_448" .f32 0x3B124925#32 ((1 / 448 : ℝ) : EReal)
  ∧ IdealRules.named_const.Statement Cert.OprojIdeal.κ "inv_2304" .f32 0x39E38E39#32 ((1 / 2304 : ℝ) : EReal)

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v5_0)) (v1 : (c : Dev Cert.OprojIdeal.nD) → Buf (Elt Ideal) ((c.tc : Thread Cert.OprojIdeal.nD Cert.OprojIdeal.τ).loc Cert.OprojIdeal.main_v5_1)) (v2 : (c : Dev Cert.OprojIdeal.nD) → Buf (Elt Ideal) ((c.tc : Thread Cert.OprojIdeal.nD Cert.OprojIdeal.τ).loc Cert.OprojIdeal.main_v5_2)) (v3 : (c : Dev Cert.OprojIdeal.nD) → Buf (Elt Ideal) ((c.tc : Thread Cert.OprojIdeal.nD Cert.OprojIdeal.τ).loc Cert.OprojIdeal.main_v5_3)) (v4 : (c : Dev Cert.OprojIdeal.nD) → Buf (Elt Ideal) ((c.tc : Thread Cert.OprojIdeal.nD Cert.OprojIdeal.τ).loc Cert.OprojIdeal.main_v5_4)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v5_0) = v0 c
          ∧ r.2.mem ((c.tc : Thread Cert.OprojIdeal.nD Cert.OprojIdeal.τ).loc Cert.OprojIdeal.main_v5_1) = v1 c
          ∧ r.2.mem ((c.tc : Thread Cert.OprojIdeal.nD Cert.OprojIdeal.τ).loc Cert.OprojIdeal.main_v5_2) = v2 c
          ∧ r.2.mem ((c.tc : Thread Cert.OprojIdeal.nD Cert.OprojIdeal.τ).loc Cert.OprojIdeal.main_v5_3) = v3 c
          ∧ r.2.mem ((c.tc : Thread Cert.OprojIdeal.nD Cert.OprojIdeal.τ).loc Cert.OprojIdeal.main_v5_4) = v4 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_v0_3) = v3 c
          ∧ r.2.mem ((c.tc : Thread Cert.OprojRefIdeal.nD Cert.OprojRefIdeal.τ).loc Cert.OprojRefIdeal.main_v0_4) = v4 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6))

def preserves_Qkv_QkvIdeal : Prop :=
  IdealRules.named_const.Statement Cert.QkvIdeal.κ "inv_2304" .f32 0x39E38E39#32 ((1 / 2304 : ℝ) : EReal)
  ∧ IdealRules.named_const.Statement Cert.QkvIdeal.κ "inv_448" .f32 0x3B124925#32 ((1 / 448 : ℝ) : EReal)
  ∧ IdealRules.named_const.Statement Cert.QkvIdeal.κ "inv_96" .f32 0x3C2AAAAB#32 ((1 / 96 : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)) (v3 : (c : Dev Cert.QkvIdeal.nD) → Buf (Elt Ideal) ((c.tc : Thread Cert.QkvIdeal.nD Cert.QkvIdeal.τ).loc Cert.QkvIdeal.main_v9_3)) (v4 : (c : Dev Cert.QkvIdeal.nD) → Buf (Elt Ideal) ((c.tc : Thread Cert.QkvIdeal.nD Cert.QkvIdeal.τ).loc Cert.QkvIdeal.main_v9_4)) (v5 : (c : Dev Cert.QkvIdeal.nD) → Buf (Elt Ideal) ((c.tc : Thread Cert.QkvIdeal.nD Cert.QkvIdeal.τ).loc Cert.QkvIdeal.main_v9_5)) (v6 : (c : Dev Cert.QkvIdeal.nD) → Buf (Elt Ideal) ((c.tc : Thread Cert.QkvIdeal.nD Cert.QkvIdeal.τ).loc Cert.QkvIdeal.main_v9_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_v9_3) = v3 c
          ∧ r.2.mem ((c.tc : Thread Cert.QkvIdeal.nD Cert.QkvIdeal.τ).loc Cert.QkvIdeal.main_v9_4) = v4 c
          ∧ r.2.mem ((c.tc : Thread Cert.QkvIdeal.nD Cert.QkvIdeal.τ).loc Cert.QkvIdeal.main_v9_5) = v5 c
          ∧ r.2.mem ((c.tc : Thread Cert.QkvIdeal.nD Cert.QkvIdeal.τ).loc Cert.QkvIdeal.main_v9_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_v0_6) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def Claim : Prop :=
  ∃ (hGateup : Cert.Gateup.Facts) (hGateupIdeal : Cert.GateupIdeal.Facts) (hGateupRefIdeal : Cert.GateupRefIdeal.Facts) (hDown : Cert.Down.Facts) (hDownIdeal : Cert.DownIdeal.Facts) (hDownRefIdeal : Cert.DownRefIdeal.Facts) (hDownRef : Cert.DownRef.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts) (hPre_down_scales_finite : Cert.Pre_down_scales_finite.Facts),
    quiescent_Gateup (hGateup := hGateup)
    ∧ quiescent_GateupIdeal (hGateupIdeal := hGateupIdeal)
    ∧ quiescent_GateupRefIdeal (hGateupRefIdeal := hGateupRefIdeal)
    ∧ quiescent_Down (hDown := hDown)
    ∧ quiescent_DownIdeal (hDownIdeal := hDownIdeal)
    ∧ quiescent_DownIdeal_pre_down_scales_finite (hDownIdeal := hDownIdeal) (hPre_down_scales_finite := hPre_down_scales_finite)
    ∧ quiescent_DownRefIdeal (hDownRefIdeal := hDownRefIdeal)
    ∧ quiescent_DownRefIdeal_pre_down_scales_finite (hDownRefIdeal := hDownRefIdeal) (hPre_down_scales_finite := hPre_down_scales_finite)
    ∧ quiescent_DownRef (hDownRef := hDownRef)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Gateup_GateupIdeal
    ∧ algebraic_GateupIdeal_GateupRefIdeal (hGateupIdeal := hGateupIdeal) (hGateupRefIdeal := hGateupRefIdeal)
    ∧ preserves_Down_DownIdeal
    ∧ algebraic_DownIdeal_DownRefIdeal_pre_down_scales_finite (hDownIdeal := hDownIdeal) (hDownRefIdeal := hDownRefIdeal) (hPre_down_scales_finite := hPre_down_scales_finite)
    ∧ preserves_DownRef_DownRefIdeal
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Pre_down_scales_finite.lean ====
abbrev S6x2048x6144 : Shape := ⟨3, ![6, 2048, 6144]⟩
abbrev S6x1x2048 : Shape := ⟨3, ![6, 1, 2048]⟩
abbrev S6144x2304 : Shape := ⟨2, ![6144, 2304]⟩
abbrev S2304 : Shape := ⟨1, ![2304]⟩
abbrev S6x2048x2304 : Shape := ⟨3, ![6, 2048, 2304]⟩
abbrev S6x2304 : Shape := ⟨2, ![6, 2304]⟩
abbrev S6x24x2048 : Shape := ⟨3, ![6, 24, 2048]⟩
abbrev S6x18x2048 : Shape := ⟨3, ![6, 18, 2048]⟩
abbrev S_ : Shape := ⟨0, ![]⟩

class Facts : Prop where
  slices_S6x24x2048_S6x18x2048_0_0_0 : S6x24x2048.Slices ![0, 0, 0] S6x18x2048
  bcast_S_S6x18x2048 : S_.BroadcastsInDim S6x18x2048 (![] : Fin 0 → Fin S6x18x2048.rank)

variable [Facts]

def fn {F : FTy → Type} [FloatOps F] (main_arg0 : FVec F S6x2048x6144 .fp8e4m3) (main_arg1 : FVec F S6x1x2048 .f32) (main_arg2 : FVec F S6144x2304 .fp8e4m3) (main_arg3 : FVec F S2304 .f32) (main_arg4 : FVec F S6x2048x2304 .f32) (main_arg5 : FVec F S6x2048x2304 .bf16) (main_arg6 : FVec F S6x2304 .f32) (main_arg7 : FVec F S6x2048x2304 .fp8e4m3) (main_arg8 : FVec F S6x24x2048 .f32) : IVec S6x18x2048 1 :=
  let main_v0 : FVec F S6x18x2048 .f32 := (extractStridedSlice S6x18x2048 ![0, 0, 0] · slices_S6x24x2048_S6x18x2048_0_0_0) main_arg8
  let main_v1 : FVec F S6x18x2048 .f32 := Host.absf main_v0
  let main_cst : FVec F S_ .f32 := constant S_ .f32 0x7F800000#32
  let main_v2 : FVec F S6x18x2048 .f32 := broadcastInDim S6x18x2048 ![] bcast_S_S6x18x2048 main_cst
  let main_v3 : IVec S6x18x2048 1 := cmpf .olt main_v1 main_v2
  main_v3
-- ==== Gateup.lean ====
abbrev S6x2048x2304 : Shape := ⟨3, ![6, 2048, 2304]⟩
abbrev S6x1x2048 : Shape := ⟨3, ![6, 1, 2048]⟩
abbrev S2304x12288 : Shape := ⟨2, ![2304, 12288]⟩
abbrev S12288 : Shape := ⟨1, ![12288]⟩
abbrev S1x12288 : Shape := ⟨2, ![1, 12288]⟩
abbrev S6x2048x6144 : Shape := ⟨3, ![6, 2048, 6144]⟩
abbrev S1x512x2304 : Shape := ⟨3, ![1, 512, 2304]⟩
abbrev S1x1x512 : Shape := ⟨3, ![1, 1, 512]⟩
abbrev S1x512x6144 : Shape := ⟨3, ![1, 512, 6144]⟩
abbrev S512x6144 : Shape := ⟨2, ![512, 6144]⟩
abbrev S512x2304 : Shape := ⟨2, ![512, 2304]⟩
abbrev S1x512 : Shape := ⟨2, ![1, 512]⟩
abbrev S128x512 : Shape := ⟨2, ![128, 512]⟩
abbrev S512x128 : Shape := ⟨2, ![512, 128]⟩
abbrev S512x512 : Shape := ⟨2, ![512, 512]⟩
abbrev S2304x512 : Shape := ⟨2, ![2304, 512]⟩
abbrev S512 : Shape := ⟨1, ![512]⟩
abbrev S512x1 : Shape := ⟨2, ![512, 1]⟩
abbrev S8x512 : Shape := ⟨2, ![8, 512]⟩
abbrev S1x512x512 : Shape := ⟨3, ![1, 512, 512]⟩

abbrev nBuf : Space → Nat
  | .hbm => 7
  | .vmem => 11
  | .smem => 0
  | _ => 0

abbrev bufTy : (tb : Table) → Fin (tcTables nBuf tb) → BufTy
  | .hbm, ⟨0, _⟩ => ⟨S6x2048x2304, .fp8e4m3⟩
  | .hbm, ⟨1, _⟩ => ⟨S6x1x2048, .f32⟩
  | .hbm, ⟨2, _⟩ => ⟨S2304x12288, .fp8e4m3⟩
  | .hbm, ⟨3, _⟩ => ⟨S12288, .f32⟩
  | .hbm, ⟨4, _⟩ => ⟨S1x12288, .f32⟩
  | .hbm, ⟨5, _⟩ => ⟨S6x2048x6144, .fp8e4m3⟩
  | .hbm, ⟨6, _⟩ => ⟨S6x1x2048, .f32⟩
  | .local _ .vmem, ⟨0, _⟩ => ⟨S1x512x2304, .fp8e4m3⟩
  | .local _ .vmem, ⟨1, _⟩ => ⟨S1x512x2304, .fp8e4m3⟩
  | .local _ .vmem, ⟨2, _⟩ => ⟨S1x1x512, .f32⟩
  | .local _ .vmem, ⟨3, _⟩ => ⟨S1x1x512, .f32⟩
  | .local _ .vmem, ⟨4, _⟩ => ⟨S2304x12288, .fp8e4m3⟩
  | .local _ .vmem, ⟨5, _⟩ => ⟨S1x12288, .f32⟩
  | .local _ .vmem, ⟨6, _⟩ => ⟨S1x512x6144, .fp8e4m3⟩
  | .local _ .vmem, ⟨7, _⟩ => ⟨S1x512x6144, .fp8e4m3⟩
  | .local _ .vmem, ⟨8, _⟩ => ⟨S1x1x512, .f32⟩
  | .local _ .vmem, ⟨9, _⟩ => ⟨S1x1x512, .f32⟩
  | .local _ .vmem, ⟨10, _⟩ => ⟨S512x6144, .f32⟩
  | _, _ => ⟨S6x2048x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x6144 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateupIdeal.lean ====
variable {F : FTy → Type} [FloatOps F] [Named F]
def κ : String → Option EReal := fun
  | "inv_448" => some ((1 / 448 : ℝ) : EReal)
  | "neg_log2e" => some ((-((Real.log 2)⁻¹) : ℝ) : EReal)
  | _ => none
-- ==== GateupRefIdeal.lean ====
abbrev S6x2048x2304 : Shape := ⟨3, ![6, 2048, 2304]⟩
abbrev S6x1x2048 : Shape := ⟨3, ![6, 1, 2048]⟩
abbrev S2304x12288 : Shape := ⟨2, ![2304, 12288]⟩
abbrev S12288 : Shape := ⟨1, ![12288]⟩
abbrev S6x2048x6144 : Shape := ⟨3, ![6, 2048, 6144]⟩
abbrev S6x2048x1 : Shape := ⟨3, ![6, 2048, 1]⟩
abbrev S6x2048x12288 : Shape := ⟨3, ![6, 2048, 12288]⟩
abbrev S1x1x12288 : Shape := ⟨3, ![1, 1, 12288]⟩
abbrev S6x2048 : Shape := ⟨2, ![6, 2048]⟩

abbrev nBuf : Space → Nat
  | .hbm => 6
  | .vmem => 6
  | .smem => 0
  | _ => 0

abbrev bufTy : (tb : Table) → Fin (tcTables nBuf tb) → BufTy
  | .hbm, ⟨0, _⟩ => ⟨S6x2048x2304, .fp8e4m3⟩
  | .hbm, ⟨1, _⟩ => ⟨S6x1x2048, .f32⟩
  | .hbm, ⟨2, _⟩ => ⟨S2304x12288, .fp8e4m3⟩
  | .hbm, ⟨3, _⟩ => ⟨S12288, .f32⟩
  | .hbm, ⟨4, _⟩ => ⟨S6x2048x6144, .fp8e4m3⟩
  | .hbm, ⟨5, _⟩ => ⟨S6x1x2048, .f32⟩
  | .local _ .vmem, ⟨0, _⟩ => ⟨S6x2048x2304, .fp8e4m3⟩
  | .local _ .vmem, ⟨1, _⟩ => ⟨S6x1x2048, .f32⟩
  | .local _ .vmem, ⟨2, _⟩ => ⟨S2304x12288, .fp8e4m3⟩
  | .local _ .vmem, ⟨3, _⟩ => ⟨S12288, .f32⟩
  | .local _ .vmem, ⟨4, _⟩ => ⟨S6x2048x6144, .fp8e4m3⟩
  | .local _ .vmem, ⟨5, _⟩ => ⟨S6x1x2048, .f32⟩
  | _, _ => ⟨S6x2048x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x2048x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S6x2048x6144 : Shape := ⟨3, ![6, 2048, 6144]⟩
abbrev S6x1x2048 : Shape := ⟨3, ![6, 1, 2048]⟩
abbrev S6144x2304 : Shape := ⟨2, ![6144, 2304]⟩
abbrev S2304 : Shape := ⟨1, ![2304]⟩
abbrev S6x2048x2304 : Shape := ⟨3, ![6, 2048, 2304]⟩
abbrev S6x2304 : Shape := ⟨2, ![6, 2304]⟩
abbrev S6x24x2048 : Shape := ⟨3, ![6, 24, 2048]⟩
abbrev S1x2304 : Shape := ⟨2, ![1, 2304]⟩
abbrev S6x1x2304 : Shape := ⟨3, ![6, 1, 2304]⟩
abbrev S6x18x2048 : Shape := ⟨3, ![6, 18, 2048]⟩
abbrev S1x512x6144 : Shape := ⟨3, ![1, 512, 6144]⟩
abbrev S1x1x512 : Shape := ⟨3, ![1, 1, 512]⟩
abbrev S1x512x2304 : Shape := ⟨3, ![1, 512, 2304]⟩
abbrev S1x1x2304 : Shape := ⟨3, ![1, 1, 2304]⟩
abbrev S1x24x512 : Shape := ⟨3, ![1, 24, 512]⟩
abbrev S1x18x512 : Shape := ⟨3, ![1, 18, 512]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S512x6144 : Shape := ⟨2, ![512, 6144]⟩
abbrev S512x2304 : Shape := ⟨2, ![512, 2304]⟩
abbrev S18x512 : Shape := ⟨2, ![18, 512]⟩
abbrev S54x512 : Shape := ⟨2, ![54, 512]⟩
abbrev S74x512 : Shape := ⟨2, ![74, 512]⟩
abbrev S128x2304 : Shape := ⟨2, ![128, 2304]⟩
abbrev S512 : Shape := ⟨1, ![512]⟩
abbrev S1x512x128 : Shape := ⟨3, ![1, 512, 128]⟩

abbrev nBuf : Space → Nat
  | .hbm => 16
  | .vmem => 26
  | .smem => 0
  | _ => 0

abbrev bufTy : (tb : Table) → Fin (tcTables nBuf tb) → BufTy
  | .hbm, ⟨0, _⟩ => ⟨S6x2048x6144, .fp8e4m3⟩
  | .hbm, ⟨1, _⟩ => ⟨S6x1x2048, .f32⟩
  | .hbm, ⟨2, _⟩ => ⟨S6144x2304, .fp8e4m3⟩
  | .hbm, ⟨3, _⟩ => ⟨S2304, .f32⟩
  | .hbm, ⟨4, _⟩ => ⟨S6x2048x2304, .f32⟩
  | .hbm, ⟨5, _⟩ => ⟨S6x2048x2304, .bf16⟩
  | .hbm, ⟨6, _⟩ => ⟨S6x2304, .f32⟩
  | .hbm, ⟨7, _⟩ => ⟨S6x2048x2304, .fp8e4m3⟩
  | .hbm, ⟨8, _⟩ => ⟨S6x24x2048, .f32⟩
  | .hbm, ⟨9, _⟩ => ⟨S1x2304, .f32⟩
  | .hbm, ⟨10, _⟩ => ⟨S6x1x2304, .f32⟩
  | .hbm, ⟨11, _⟩ => ⟨S6x2048x2304, .bf16⟩
  | .hbm, ⟨12, _⟩ => ⟨S6x2048x2304, .fp8e4m3⟩
  | .hbm, ⟨13, _⟩ => ⟨S6x18x2048, .f32⟩
  | .hbm, ⟨14, _⟩ => ⟨S6x2048x2304, .fp8e4m3⟩
  | .hbm, ⟨15, _⟩ => ⟨S6x18x2048, .f32⟩
  | .local _ .vmem, ⟨0, _⟩ => ⟨S1x512x6144, .fp8e4m3⟩
  | .local _ .vmem, ⟨1, _⟩ => ⟨S1x512x6144, .fp8e4m3⟩
  | .local _ .vmem, ⟨2, _⟩ => ⟨S1x1x512, .f32⟩
  | .local _ .vmem, ⟨3, _⟩ => ⟨S1x1x512, .f32⟩
  | .local _ .vmem, ⟨4, _⟩ => ⟨S6144x2304, .fp8e4m3⟩
  | .local _ .vmem, ⟨5, _⟩ => ⟨S1x2304, .f32⟩
  | .local _ .vmem, ⟨6, _⟩ => ⟨S1x512x2304, .f32⟩
  | .local _ .vmem, ⟨7, _⟩ => ⟨S1x512x2304, .f32⟩
  | .local _ .vmem, ⟨8, _⟩ => ⟨S1x512x2304, .bf16⟩
  | .local _ .vmem, ⟨9, _⟩ => ⟨S1x512x2304, .bf16⟩
  | .local _ .vmem, ⟨10, _⟩ => ⟨S1x1x2304, .f32⟩
  | .local _ .vmem, ⟨11, _⟩ => ⟨S1x1x2304, .f32⟩
  | .local _ .vmem, ⟨12, _⟩ => ⟨S1x512x2304, .fp8e4m3⟩
  | .local _ .vmem, ⟨13, _⟩ => ⟨S1x512x2304, .fp8e4m3⟩
  | .local _ .vmem, ⟨14, _⟩ => ⟨S1x24x512, .f32⟩
  | .local _ .vmem, ⟨15, _⟩ => ⟨S1x24x512, .f32⟩
  | .local _ .vmem, ⟨16, _⟩ => ⟨S1x512x2304, .bf16⟩
  | .local _ .vmem, ⟨17, _⟩ => ⟨S1x512x2304, .bf16⟩
  | .local _ .vmem, ⟨18, _⟩ => ⟨S1x512x2304, .fp8e4m3⟩
  | .local _ .vmem, ⟨19, _⟩ => ⟨S1x512x2304, .fp8e4m3⟩
  | .local _ .vmem, ⟨20, _⟩ => ⟨S1x18x512, .f32⟩
  | .local _ .vmem, ⟨21, _⟩ => ⟨S1x18x512, .f32⟩
  | .local _ .vmem, ⟨22, _⟩ => ⟨S1x512x2304, .fp8e4m3⟩
  | .local _ .vmem, ⟨23, _⟩ => ⟨S1x512x2304, .fp8e4m3⟩
  | .local _ .vmem, ⟨24, _⟩ => ⟨S1x18x512, .f32⟩
  | .local _ .vmem, ⟨25, _⟩ => ⟨S1x18x512, .f32⟩
  | _, _ => ⟨S6x2048x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![6, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6144x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2304 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x24x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2304 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x18x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2304 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x18x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DownIdeal.lean ====
variable {F : FTy → Type} [FloatOps F] [Named F]
def κ : String → Option EReal := fun
  | "inv_448" => some ((1 / 448 : ℝ) : EReal)
  | "log2e" => some (((Real.log 2)⁻¹ : ℝ) : EReal)
  | _ => none
-- ==== DownRefIdeal.lean ====
variable {F : FTy → Type} [FloatOps F] [Named F]
def κ : String → Option EReal := fun
  | "inv_448" => some ((1 / 448 : ℝ) : EReal)
  | "log2e" => some (((Real.log 2)⁻¹ : ℝ) : EReal)
  | _ => none
-- ==== DownRef.lean ====
abbrev S6x2048x6144 : Shape := ⟨3, ![6, 2048, 6144]⟩
abbrev S6x1x2048 : Shape := ⟨3, ![6, 1, 2048]⟩
abbrev S6144x2304 : Shape := ⟨2, ![6144, 2304]⟩
abbrev S2304 : Shape := ⟨1, ![2304]⟩
abbrev S6x2048x2304 : Shape := ⟨3, ![6, 2048, 2304]⟩
abbrev S6x2304 : Shape := ⟨2, ![6, 2304]⟩
abbrev S6x24x2048 : Shape := ⟨3, ![6, 24, 2048]⟩
abbrev S6x18x2048 : Shape := ⟨3, ![6, 18, 2048]⟩
abbrev S6x2048x1 : Shape := ⟨3, ![6, 2048, 1]⟩
abbrev S1x1x2304 : Shape := ⟨3, ![1, 1, 2304]⟩
abbrev S6x1x2304 : Shape := ⟨3, ![6, 1, 2304]⟩
abbrev S6x2048x24 : Shape := ⟨3, ![6, 2048, 24]⟩
abbrev S6x2048x18 : Shape := ⟨3, ![6, 2048, 18]⟩
abbrev S6x2048x18x128 : Shape := ⟨4, ![6, 2048, 18, 128]⟩
abbrev S6x2048x18x1 : Shape := ⟨4, ![6, 2048, 18, 1]⟩

abbrev nBuf : Space → Nat
  | .hbm => 14
  | .vmem => 14
  | .smem => 0
  | _ => 0

abbrev bufTy : (tb : Table) → Fin (tcTables nBuf tb) → BufTy
  | .hbm, ⟨0, _⟩ => ⟨S6x2048x6144, .fp8e4m3⟩
  | .hbm, ⟨1, _⟩ => ⟨S6x1x2048, .f32⟩
  | .hbm, ⟨2, _⟩ => ⟨S6144x2304, .fp8e4m3⟩
  | .hbm, ⟨3, _⟩ => ⟨S2304, .f32⟩
  | .hbm, ⟨4, _⟩ => ⟨S6x2048x2304, .f32⟩
  | .hbm, ⟨5, _⟩ => ⟨S6x2048x2304, .bf16⟩
  | .hbm, ⟨6, _⟩ => ⟨S6x2304, .f32⟩
  | .hbm, ⟨7, _⟩ => ⟨S6x2048x2304, .fp8e4m3⟩
  | .hbm, ⟨8, _⟩ => ⟨S6x24x2048, .f32⟩
  | .hbm, ⟨9, _⟩ => ⟨S6x2048x2304, .bf16⟩
  | .hbm, ⟨10, _⟩ => ⟨S6x2048x2304, .fp8e4m3⟩
  | .hbm, ⟨11, _⟩ => ⟨S6x18x2048, .f32⟩
  | .hbm, ⟨12, _⟩ => ⟨S6x2048x2304, .fp8e4m3⟩
  | .hbm, ⟨13, _⟩ => ⟨S6x18x2048, .f32⟩
  | .local _ .vmem, ⟨0, _⟩ => ⟨S6x2048x6144, .fp8e4m3⟩
  | .local _ .vmem, ⟨1, _⟩ => ⟨S6x1x2048, .f32⟩
  | .local _ .vmem, ⟨2, _⟩ => ⟨S6144x2304, .fp8e4m3⟩
  | .local _ .vmem, ⟨3, _⟩ => ⟨S2304, .f32⟩
  | .local _ .vmem, ⟨4, _⟩ => ⟨S6x2048x2304, .f32⟩
  | .local _ .vmem, ⟨5, _⟩ => ⟨S6x2048x2304, .bf16⟩
  | .local _ .vmem, ⟨6, _⟩ => ⟨S6x2304, .f32⟩
  | .local _ .vmem, ⟨7, _⟩ => ⟨S6x2048x2304, .fp8e4m3⟩
  | .local _ .vmem, ⟨8, _⟩ => ⟨S6x24x2048, .f32⟩
  | .local _ .vmem, ⟨9, _⟩ => ⟨S6x2048x2304, .bf16⟩
  | .local _ .vmem, ⟨10, _⟩ => ⟨S6x2048x2304, .fp8e4m3⟩
  | .local _ .vmem, ⟨11, _⟩ => ⟨S6x18x2048, .f32⟩
  | .local _ .vmem, ⟨12, _⟩ => ⟨S6x2048x2304, .fp8e4m3⟩
  | .local _ .vmem, ⟨13, _⟩ => ⟨S6x18x2048, .f32⟩
  | _, _ => ⟨S6x2048x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x2048x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x24x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2048x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2048x2304 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x18x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x2048x2304 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x18x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Oproj.lean ====
abbrev S6x2304x2048 : Shape := ⟨3, ![6, 2304, 2048]⟩
abbrev S6x2048x2304 : Shape := ⟨3, ![6, 2048, 2304]⟩
abbrev S24x96x2304 : Shape := ⟨3, ![24, 96, 2304]⟩
abbrev S2304 : Shape := ⟨1, ![2304]⟩
abbrev S6x2304 : Shape := ⟨2, ![6, 2304]⟩
abbrev S2304x2304 : Shape := ⟨2, ![2304, 2304]⟩
abbrev S1x2304 : Shape := ⟨2, ![1, 2304]⟩
abbrev S6x1x2304 : Shape := ⟨3, ![6, 1, 2304]⟩
abbrev S6x1x2048 : Shape := ⟨3, ![6, 1, 2048]⟩
abbrev S1x2304x512 : Shape := ⟨3, ![1, 2304, 512]⟩
abbrev S1x512x2304 : Shape := ⟨3, ![1, 512, 2304]⟩
abbrev S1x1x2304 : Shape := ⟨3, ![1, 1, 2304]⟩
abbrev S1x1x512 : Shape := ⟨3, ![1, 1, 512]⟩
abbrev S2304x512 : Shape := ⟨2, ![2304, 512]⟩
abbrev S512 : Shape := ⟨1, ![512]⟩
abbrev S1x512 : Shape := ⟨2, ![1, 512]⟩
abbrev S512x2304 : Shape := ⟨2, ![512, 2304]⟩
abbrev S128x512 : Shape := ⟨2, ![128, 512]⟩
abbrev S512x128 : Shape := ⟨2, ![512, 128]⟩
abbrev S512x1 : Shape := ⟨2, ![512, 1]⟩
abbrev S8x512 : Shape := ⟨2, ![8, 512]⟩

abbrev nBuf : Space → Nat
  | .hbm => 17
  | .vmem => 21
  | .smem => 0
  | _ => 0

abbrev bufTy : (tb : Table) → Fin (tcTables nBuf tb) → BufTy
  | .hbm, ⟨0, _⟩ => ⟨S6x2304x2048, .f32⟩
  | .hbm, ⟨1, _⟩ => ⟨S6x2048x2304, .bf16⟩
  | .hbm, ⟨2, _⟩ => ⟨S24x96x2304, .fp8e4m3⟩
  | .hbm, ⟨3, _⟩ => ⟨S2304, .f32⟩
  | .hbm, ⟨4, _⟩ => ⟨S6x2304, .f32⟩
  | .hbm, ⟨5, _⟩ => ⟨S2304, .f32⟩
  | .hbm, ⟨6, _⟩ => ⟨S6x2304, .f32⟩
  | .hbm, ⟨7, _⟩ => ⟨S2304x2304, .fp8e4m3⟩
  | .hbm, ⟨8, _⟩ => ⟨S1x2304, .f32⟩
  | .hbm, ⟨9, _⟩ => ⟨S6x1x2304, .f32⟩
  | .hbm, ⟨10, _⟩ => ⟨S1x2304, .f32⟩
  | .hbm, ⟨11, _⟩ => ⟨S6x1x2304, .f32⟩
  | .hbm, ⟨12, _⟩ => ⟨S6x2304x2048, .fp8e4m3⟩
  | .hbm, ⟨13, _⟩ => ⟨S6x1x2048, .f32⟩
  | .hbm, ⟨14, _⟩ => ⟨S6x2048x2304, .f32⟩
  | .hbm, ⟨15, _⟩ => ⟨S6x2048x2304, .fp8e4m3⟩
  | .hbm, ⟨16, _⟩ => ⟨S6x1x2048, .f32⟩
  | .local _ .vmem, ⟨0, _⟩ => ⟨S1x2304x512, .f32⟩
  | .local _ .vmem, ⟨1, _⟩ => ⟨S1x2304x512, .f32⟩
  | .local _ .vmem, ⟨2, _⟩ => ⟨S1x512x2304, .bf16⟩
  | .local _ .vmem, ⟨3, _⟩ => ⟨S1x512x2304, .bf16⟩
  | .local _ .vmem, ⟨4, _⟩ => ⟨S2304x2304, .fp8e4m3⟩
  | .local _ .vmem, ⟨5, _⟩ => ⟨S1x2304, .f32⟩
  | .local _ .vmem, ⟨6, _⟩ => ⟨S1x1x2304, .f32⟩
  | .local _ .vmem, ⟨7, _⟩ => ⟨S1x1x2304, .f32⟩
  | .local _ .vmem, ⟨8, _⟩ => ⟨S1x2304, .f32⟩
  | .local _ .vmem, ⟨9, _⟩ => ⟨S1x1x2304, .f32⟩
  | .local _ .vmem, ⟨10, _⟩ => ⟨S1x1x2304, .f32⟩
  | .local _ .vmem, ⟨11, _⟩ => ⟨S1x2304x512, .fp8e4m3⟩
  | .local _ .vmem, ⟨12, _⟩ => ⟨S1x2304x512, .fp8e4m3⟩
  | .local _ .vmem, ⟨13, _⟩ => ⟨S1x1x512, .f32⟩
  | .local _ .vmem, ⟨14, _⟩ => ⟨S1x1x512, .f32⟩
  | .local _ .vmem, ⟨15, _⟩ => ⟨S1x512x2304, .f32⟩
  | .local _ .vmem, ⟨16, _⟩ => ⟨S1x512x2304, .f32⟩
  | .local _ .vmem, ⟨17, _⟩ => ⟨S1x512x2304, .fp8e4m3⟩
  | .local _ .vmem, ⟨18, _⟩ => ⟨S1x512x2304, .fp8e4m3⟩
  | .local _ .vmem, ⟨19, _⟩ => ⟨S1x1x512, .f32⟩
  | .local _ .vmem, ⟨20, _⟩ => ⟨S1x1x512, .f32⟩
  | _, _ => ⟨S6x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![6, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2304x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2304 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2304 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OprojIdeal.lean ====
variable {F : FTy → Type} [FloatOps F] [Named F]
def κ : String → Option EReal := fun
  | "inv_2304" => some ((1 / 2304 : ℝ) : EReal)
  | "inv_448" => some ((1 / 448 : ℝ) : EReal)
  | _ => none
-- ==== OprojRefIdeal.lean ====
abbrev S6x2304x2048 : Shape := ⟨3, ![6, 2304, 2048]⟩
abbrev S6x2048x2304 : Shape := ⟨3, ![6, 2048, 2304]⟩
abbrev S24x96x2304 : Shape := ⟨3, ![24, 96, 2304]⟩
abbrev S2304 : Shape := ⟨1, ![2304]⟩
abbrev S6x2304 : Shape := ⟨2, ![6, 2304]⟩
abbrev S6x1x2048 : Shape := ⟨3, ![6, 1, 2048]⟩
abbrev S6x2048 : Shape := ⟨2, ![6, 2048]⟩
abbrev S6x2048x1 : Shape := ⟨3, ![6, 2048, 1]⟩
abbrev S6x1x2304 : Shape := ⟨3, ![6, 1, 2304]⟩
abbrev S2304x2304 : Shape := ⟨2, ![2304, 2304]⟩
abbrev S1x1x2304 : Shape := ⟨3, ![1, 1, 2304]⟩

abbrev nBuf : Space → Nat
  | .hbm => 12
  | .vmem => 12
  | .smem => 0
  | _ => 0

abbrev bufTy : (tb : Table) → Fin (tcTables nBuf tb) → BufTy
  | .hbm, ⟨0, _⟩ => ⟨S6x2304x2048, .f32⟩
  | .hbm, ⟨1, _⟩ => ⟨S6x2048x2304, .bf16⟩
  | .hbm, ⟨2, _⟩ => ⟨S24x96x2304, .fp8e4m3⟩
  | .hbm, ⟨3, _⟩ => ⟨S2304, .f32⟩
  | .hbm, ⟨4, _⟩ => ⟨S6x2304, .f32⟩
  | .hbm, ⟨5, _⟩ => ⟨S2304, .f32⟩
  | .hbm, ⟨6, _⟩ => ⟨S6x2304, .f32⟩
  | .hbm, ⟨7, _⟩ => ⟨S6x2304x2048, .fp8e4m3⟩
  | .hbm, ⟨8, _⟩ => ⟨S6x1x2048, .f32⟩
  | .hbm, ⟨9, _⟩ => ⟨S6x2048x2304, .f32⟩
  | .hbm, ⟨10, _⟩ => ⟨S6x2048x2304, .fp8e4m3⟩
  | .hbm, ⟨11, _⟩ => ⟨S6x1x2048, .f32⟩
  | .local _ .vmem, ⟨0, _⟩ => ⟨S6x2304x2048, .f32⟩
  | .local _ .vmem, ⟨1, _⟩ => ⟨S6x2048x2304, .bf16⟩
  | .local _ .vmem, ⟨2, _⟩ => ⟨S24x96x2304, .fp8e4m3⟩
  | .local _ .vmem, ⟨3, _⟩ => ⟨S2304, .f32⟩
  | .local _ .vmem, ⟨4, _⟩ => ⟨S6x2304, .f32⟩
  | .local _ .vmem, ⟨5, _⟩ => ⟨S2304, .f32⟩
  | .local _ .vmem, ⟨6, _⟩ => ⟨S6x2304, .f32⟩
  | .local _ .vmem, ⟨7, _⟩ => ⟨S6x2304x2048, .fp8e4m3⟩
  | .local _ .vmem, ⟨8, _⟩ => ⟨S6x1x2048, .f32⟩
  | .local _ .vmem, ⟨9, _⟩ => ⟨S6x2048x2304, .f32⟩
  | .local _ .vmem, ⟨10, _⟩ => ⟨S6x2048x2304, .fp8e4m3⟩
  | .local _ .vmem, ⟨11, _⟩ => ⟨S6x1x2048, .f32⟩
  | _, _ => ⟨S6x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x2304x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x96x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2304x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2048x2304 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2048x2304 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv.lean ====
abbrev S6x2048x2304 : Shape := ⟨3, ![6, 2048, 2304]⟩
abbrev S2304 : Shape := ⟨1, ![2304]⟩
abbrev S6x2304 : Shape := ⟨2, ![6, 2304]⟩
abbrev S2304x3840 : Shape := ⟨2, ![2304, 3840]⟩
abbrev S3840 : Shape := ⟨1, ![3840]⟩
abbrev S96 : Shape := ⟨1, ![96]⟩
abbrev S6x48x2048 : Shape := ⟨3, ![6, 48, 2048]⟩
abbrev S1x2304 : Shape := ⟨2, ![1, 2304]⟩
abbrev S6x1x2304 : Shape := ⟨3, ![6, 1, 2304]⟩
abbrev S3840x2304 : Shape := ⟨2, ![3840, 2304]⟩
abbrev S3840x1 : Shape := ⟨2, ![3840, 1]⟩
abbrev S3840x128 : Shape := ⟨2, ![3840, 128]⟩
abbrev S96x1 : Shape := ⟨2, ![96, 1]⟩
abbrev S96x128 : Shape := ⟨2, ![96, 128]⟩
abbrev S6x1x2048 : Shape := ⟨3, ![6, 1, 2048]⟩
abbrev S6x2304x2048 : Shape := ⟨3, ![6, 2304, 2048]⟩
abbrev S6x768x2048 : Shape := ⟨3, ![6, 768, 2048]⟩
abbrev S6x8x2048 : Shape := ⟨3, ![6, 8, 2048]⟩
abbrev S1x512x2304 : Shape := ⟨3, ![1, 512, 2304]⟩
abbrev S1x1x2304 : Shape := ⟨3, ![1, 1, 2304]⟩
abbrev S1x48x512 : Shape := ⟨3, ![1, 48, 512]⟩
abbrev S1x1x512 : Shape := ⟨3, ![1, 1, 512]⟩
abbrev S1x2304x512 : Shape := ⟨3, ![1, 2304, 512]⟩
abbrev S1x768x512 : Shape := ⟨3, ![1, 768, 512]⟩
abbrev S1x8x512 : Shape := ⟨3, ![1, 8, 512]⟩
abbrev S4x96x128 : Shape := ⟨3, ![4, 96, 128]⟩
abbrev S512x2304 : Shape := ⟨2, ![512, 2304]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S8x512 : Shape := ⟨2, ![8, 512]⟩
abbrev S1x512 : Shape := ⟨2, ![1, 512]⟩
abbrev S48x512 : Shape := ⟨2, ![48, 512]⟩
abbrev S48x128 : Shape := ⟨2, ![48, 128]⟩
abbrev S1x48x128 : Shape := ⟨3, ![1, 48, 128]⟩
abbrev S1x96x128 : Shape := ⟨3, ![1, 96, 128]⟩
abbrev S96x512 : Shape := ⟨2, ![96, 512]⟩
abbrev S768x2304 : Shape := ⟨2, ![768, 2304]⟩
abbrev S768x512 : Shape := ⟨2, ![768, 512]⟩
abbrev S96x8x512 : Shape := ⟨3, ![96, 8, 512]⟩
abbrev S768x128 : Shape := ⟨2, ![768, 128]⟩
abbrev S8x96x512 : Shape := ⟨3, ![8, 96, 512]⟩
abbrev S8x1x512 : Shape := ⟨3, ![8, 1, 512]⟩
abbrev S1x96x512 : Shape := ⟨3, ![1, 96, 512]⟩

abbrev nBuf : Space → Nat
  | .hbm => 25
  | .vmem => 29
  | .smem => 0
  | _ => 0

abbrev bufTy : (tb : Table) → Fin (tcTables nBuf tb) → BufTy
  | .hbm, ⟨0, _⟩ => ⟨S6x2048x2304, .bf16⟩
  | .hbm, ⟨1, _⟩ => ⟨S2304, .f32⟩
  | .hbm, ⟨2, _⟩ => ⟨S6x2304, .f32⟩
  | .hbm, ⟨3, _⟩ => ⟨S2304x3840, .fp8e4m3⟩
  | .hbm, ⟨4, _⟩ => ⟨S3840, .f32⟩
  | .hbm, ⟨5, _⟩ => ⟨S96, .f32⟩
  | .hbm, ⟨6, _⟩ => ⟨S96, .f32⟩
  | .hbm, ⟨7, _⟩ => ⟨S6x48x2048, .f32⟩
  | .hbm, ⟨8, _⟩ => ⟨S6x48x2048, .f32⟩
  | .hbm, ⟨9, _⟩ => ⟨S1x2304, .f32⟩
  | .hbm, ⟨10, _⟩ => ⟨S6x1x2304, .f32⟩
  | .hbm, ⟨11, _⟩ => ⟨S3840x2304, .fp8e4m3⟩
  | .hbm, ⟨12, _⟩ => ⟨S3840x1, .f32⟩
  | .hbm, ⟨13, _⟩ => ⟨S3840x128, .f32⟩
  | .hbm, ⟨14, _⟩ => ⟨S96x1, .f32⟩
  | .hbm, ⟨15, _⟩ => ⟨S96x128, .f32⟩
  | .hbm, ⟨16, _⟩ => ⟨S96x1, .f32⟩
  | .hbm, ⟨17, _⟩ => ⟨S96x128, .f32⟩
  | .hbm, ⟨18, _⟩ => ⟨S6x2048x2304, .fp8e4m3⟩
  | .hbm, ⟨19, _⟩ => ⟨S6x1x2048, .f32⟩
  | .hbm, ⟨20, _⟩ => ⟨S6x2304x2048, .bf16⟩
  | .hbm, ⟨21, _⟩ => ⟨S6x768x2048, .fp8e4m3⟩
  | .hbm, ⟨22, _⟩ => ⟨S6x8x2048, .f32⟩
  | .hbm, ⟨23, _⟩ => ⟨S6x768x2048, .fp8e4m3⟩
  | .hbm, ⟨24, _⟩ => ⟨S6x8x2048, .f32⟩
  | .local _ .vmem, ⟨0, _⟩ => ⟨S1x512x2304, .bf16⟩
  | .local _ .vmem, ⟨1, _⟩ => ⟨S1x512x2304, .bf16⟩
  | .local _ .vmem, ⟨2, _⟩ => ⟨S1x2304, .f32⟩
  | .local _ .vmem, ⟨3, _⟩ => ⟨S1x1x2304, .f32⟩
  | .local _ .vmem, ⟨4, _⟩ => ⟨S1x1x2304, .f32⟩
  | .local _ .vmem, ⟨5, _⟩ => ⟨S3840x2304, .fp8e4m3⟩
  | .local _ .vmem, ⟨6, _⟩ => ⟨S3840x128, .f32⟩
  | .local _ .vmem, ⟨7, _⟩ => ⟨S96x128, .f32⟩
  | .local _ .vmem, ⟨8, _⟩ => ⟨S96x128, .f32⟩
  | .local _ .vmem, ⟨9, _⟩ => ⟨S1x48x512, .f32⟩
  | .local _ .vmem, ⟨10, _⟩ => ⟨S1x48x512, .f32⟩
  | .local _ .vmem, ⟨11, _⟩ => ⟨S1x48x512, .f32⟩
  | .local _ .vmem, ⟨12, _⟩ => ⟨S1x48x512, .f32⟩
  | .local _ .vmem, ⟨13, _⟩ => ⟨S1x512x2304, .fp8e4m3⟩
  | .local _ .vmem, ⟨14, _⟩ => ⟨S1x512x2304, .fp8e4m3⟩
  | .local _ .vmem, ⟨15, _⟩ => ⟨S1x1x512, .f32⟩
  | .local _ .vmem, ⟨16, _⟩ => ⟨S1x1x512, .f32⟩
  | .local _ .vmem, ⟨17, _⟩ => ⟨S1x2304x512, .bf16⟩
  | .local _ .vmem, ⟨18, _⟩ => ⟨S1x2304x512, .bf16⟩
  | .local _ .vmem, ⟨19, _⟩ => ⟨S1x768x512, .fp8e4m3⟩
  | .local _ .vmem, ⟨20, _⟩ => ⟨S1x768x512, .fp8e4m3⟩
  | .local _ .vmem, ⟨21, _⟩ => ⟨S1x8x512, .f32⟩
  | .local _ .vmem, ⟨22, _⟩ => ⟨S1x8x512, .f32⟩
  | .local _ .vmem, ⟨23, _⟩ => ⟨S1x768x512, .fp8e4m3⟩
  | .local _ .vmem, ⟨24, _⟩ => ⟨S1x768x512, .fp8e4m3⟩
  | .local _ .vmem, ⟨25, _⟩ => ⟨S1x8x512, .f32⟩
  | .local _ .vmem, ⟨26, _⟩ => ⟨S1x8x512, .f32⟩
  | .local _ .vmem, ⟨27, _⟩ => ⟨S4x96x128, .f32⟩
  | .local _ .vmem, ⟨28, _⟩ => ⟨S4x96x128, .f32⟩
  | _, _ => ⟨S6x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![6, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3840x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3840x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x48x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x48x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2304 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2304x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x768x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== QkvIdeal.lean ====
variable {F : FTy → Type} [FloatOps F] [Named F]
def κ : String → Option EReal := fun
  | "inv_2304" => some ((1 / 2304 : ℝ) : EReal)
  | "inv_448" => some ((1 / 448 : ℝ) : EReal)
  | "inv_96" => some ((1 / 96 : ℝ) : EReal)
  | _ => none
-- ==== QkvRefIdeal.lean ====
abbrev S6x2048x2304 : Shape := ⟨3, ![6, 2048, 2304]⟩
abbrev S2304 : Shape := ⟨1, ![2304]⟩
abbrev S6x2304 : Shape := ⟨2, ![6, 2304]⟩
abbrev S2304x3840 : Shape := ⟨2, ![2304, 3840]⟩
abbrev S3840 : Shape := ⟨1, ![3840]⟩
abbrev S96 : Shape := ⟨1, ![96]⟩
abbrev S6x48x2048 : Shape := ⟨3, ![6, 48, 2048]⟩
abbrev S6x1x2048 : Shape := ⟨3, ![6, 1, 2048]⟩
abbrev S6x2304x2048 : Shape := ⟨3, ![6, 2304, 2048]⟩
abbrev S6x768x2048 : Shape := ⟨3, ![6, 768, 2048]⟩
abbrev S6x8x2048 : Shape := ⟨3, ![6, 8, 2048]⟩
abbrev S6x2048 : Shape := ⟨2, ![6, 2048]⟩
abbrev S6x2048x1 : Shape := ⟨3, ![6, 2048, 1]⟩
abbrev S1x1x2304 : Shape := ⟨3, ![1, 1, 2304]⟩
abbrev S6x1x2304 : Shape := ⟨3, ![6, 1, 2304]⟩
abbrev S6x2048x3840 : Shape := ⟨3, ![6, 2048, 3840]⟩
abbrev S1x1x3840 : Shape := ⟨3, ![1, 1, 3840]⟩
abbrev S6x2048x48 : Shape := ⟨3, ![6, 2048, 48]⟩
abbrev S6x2048x24x96 : Shape := ⟨4, ![6, 2048, 24, 96]⟩
abbrev S6x2048x768 : Shape := ⟨3, ![6, 2048, 768]⟩
abbrev S6x2048x8x96 : Shape := ⟨4, ![6, 2048, 8, 96]⟩
abbrev S6x2048x24 : Shape := ⟨3, ![6, 2048, 24]⟩
abbrev S6x2048x24x1 : Shape := ⟨4, ![6, 2048, 24, 1]⟩
abbrev S1x1x1x96 : Shape := ⟨4, ![1, 1, 1, 96]⟩
abbrev S6x2048x24x48x2 : Shape := ⟨5, ![6, 2048, 24, 48, 2]⟩
abbrev S6x2048x24x48x1 : Shape := ⟨5, ![6, 2048, 24, 48, 1]⟩
abbrev S6x2048x24x48 : Shape := ⟨4, ![6, 2048, 24, 48]⟩
abbrev S6x2048x1x48 : Shape := ⟨4, ![6, 2048, 1, 48]⟩
abbrev S6x2048x8 : Shape := ⟨3, ![6, 2048, 8]⟩
abbrev S6x2048x8x1 : Shape := ⟨4, ![6, 2048, 8, 1]⟩
abbrev S6x2048x8x48x2 : Shape := ⟨5, ![6, 2048, 8, 48, 2]⟩
abbrev S6x2048x8x48x1 : Shape := ⟨5, ![6, 2048, 8, 48, 1]⟩
abbrev S6x2048x8x48 : Shape := ⟨4, ![6, 2048, 8, 48]⟩

abbrev nBuf : Space → Nat
  | .hbm => 16
  | .vmem => 16
  | .smem => 0
  | _ => 0

abbrev bufTy : (tb : Table) → Fin (tcTables nBuf tb) → BufTy
  | .hbm, ⟨0, _⟩ => ⟨S6x2048x2304, .bf16⟩
  | .hbm, ⟨1, _⟩ => ⟨S2304, .f32⟩
  | .hbm, ⟨2, _⟩ => ⟨S6x2304, .f32⟩
  | .hbm, ⟨3, _⟩ => ⟨S2304x3840, .fp8e4m3⟩
  | .hbm, ⟨4, _⟩ => ⟨S3840, .f32⟩
  | .hbm, ⟨5, _⟩ => ⟨S96, .f32⟩
  | .hbm, ⟨6, _⟩ => ⟨S96, .f32⟩
  | .hbm, ⟨7, _⟩ => ⟨S6x48x2048, .f32⟩
  | .hbm, ⟨8, _⟩ => ⟨S6x48x2048, .f32⟩
  | .hbm, ⟨9, _⟩ => ⟨S6x2048x2304, .fp8e4m3⟩
  | .hbm, ⟨10, _⟩ => ⟨S6x1x2048, .f32⟩
  | .hbm, ⟨11, _⟩ => ⟨S6x2304x2048, .bf16⟩
  | .hbm, ⟨12, _⟩ => ⟨S6x768x2048, .fp8e4m3⟩
  | .hbm, ⟨13, _⟩ => ⟨S6x8x2048, .f32⟩
  | .hbm, ⟨14, _⟩ => ⟨S6x768x2048, .fp8e4m3⟩
  | .hbm, ⟨15, _⟩ => ⟨S6x8x2048, .f32⟩
  | .local _ .vmem, ⟨0, _⟩ => ⟨S6x2048x2304, .bf16⟩
  | .local _ .vmem, ⟨1, _⟩ => ⟨S2304, .f32⟩
  | .local _ .vmem, ⟨2, _⟩ => ⟨S6x2304, .f32⟩
  | .local _ .vmem, ⟨3, _⟩ => ⟨S2304x3840, .fp8e4m3⟩
  | .local _ .vmem, ⟨4, _⟩ => ⟨S3840, .f32⟩
  | .local _ .vmem, ⟨5, _⟩ => ⟨S96, .f32⟩
  | .local _ .vmem, ⟨6, _⟩ => ⟨S96, .f32⟩
  | .local _ .vmem, ⟨7, _⟩ => ⟨S6x48x2048, .f32⟩
  | .local _ .vmem, ⟨8, _⟩ => ⟨S6x48x2048, .f32⟩
  | .local _ .vmem, ⟨9, _⟩ => ⟨S6x2048x2304, .fp8e4m3⟩
  | .local _ .vmem, ⟨10, _⟩ => ⟨S6x1x2048, .f32⟩
  | .local _ .vmem, ⟨11, _⟩ => ⟨S6x2304x2048, .bf16⟩
  | .local _ .vmem, ⟨12, _⟩ => ⟨S6x768x2048, .fp8e4m3⟩
  | .local _ .vmem, ⟨13, _⟩ => ⟨S6x8x2048, .f32⟩
  | .local _ .vmem, ⟨14, _⟩ => ⟨S6x768x2048, .fp8e4m3⟩
  | .local _ .vmem, ⟨15, _⟩ => ⟨S6x8x2048, .f32⟩
  | _, _ => ⟨S6x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S6x2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x3840 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x48x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x48x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2048x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2304x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x768x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x768x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x8x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Gateup.Pay.lean ====
/- The kernel's chunks are the same computation twelve times over, cut into payloads at different places. This module
   writes each payload with one chunk term, one step of the running maximum and one term of the codes, for any float
   instance. -/
module

public import proofs.«01_k».proof.Proof.Gen.GateupIdeal.Value

@[expose] public section

set_option maxRecDepth 16384

namespace Cert.GateupIdeal.Gen

open Idealize.ShloMosaic Idealize.ShloMosaic.TcCoe

variable {F : FTy → Type} [FloatOps F] [Named F]

/-- A chunk as the kernel stores it in the scratch. -/
noncomputable def stored (A : FVec F S512x512 .f32) : FVec F S512x512 .f32 := shapeCast S512x512 A shapeCasts_S512x512_S512x512

/-- The running maximum over a chunk's four groups of 128 lanes. -/
noncomputable def step (T : FVec F S512x128 .f32) (A : FVec F S512x512 .f32) : FVec F S512x128 .f32 :=
  maximumf (maximumf (maximumf (maximumf T
    (extractStridedSlice S512x128 ![0, 0] (absf A) slices_S512x512_o0_0_S512x128))
    (extractStridedSlice S512x128 ![0, 128] (absf A) slices_S512x512_o0_128_S512x128))
    (extractStridedSlice S512x128 ![0, 256] (absf A) slices_S512x512_o0_256_S512x128))
    (extractStridedSlice S512x128 ![0, 384] (absf A) slices_S512x512_o0_384_S512x128)

/-- The largest magnitude of a row, from the running maximum. -/
noncomputable def rowTop (T : FVec F S512x128 .f32) : FVec F S512x1 .f32 :=
  shapeCast S512x1 (multiReduction .maximumf [1] S512 T 0xFF800000#32 reduces_S512x128_S512 (.inl rfl) rfl) shapeCasts_S512_S512x1

/-- The scale of a row, from its largest magnitude. -/
noncomputable def scl (M : FVec F S512x1 .f32) : FVec F S512x1 .f32 :=
  select (cmpf .oeq M (broadcast S512x1 (Scalar.ofBits .f32 0x00000000#32))) (broadcast S512x1 (Scalar.ofBits .f32 0x3F800000#32))
    (mulf M (broadcast S512x1 (Named.named κ "inv_448" 0x3B124925#32)))

/-- The scales as the kernel stores them, along the lanes. -/
noncomputable def sclRow (s : FVec F S512x1 .f32) : FVec F S1x1x512 .f32 :=
  shapeCast S1x1x512 (extractStridedSlice S1x512 ![0, 0] (extractStridedSlice S8x512 ![0, 0]
    (transpose S128x512 [1, 0] (broadcastTo S512x128 (shapeCast S512x1 s shapeCasts_S512x1_S512x1) broadcasts_S512x1_S512x128)
      transposes_S512x128_p1_0_S128x512) slices_S128x512_o0_0_S8x512) slices_S8x512_o0_0_S1x512) shapeCasts_S1x512_S1x1x512

/-- One over the scales. -/
noncomputable def recip (s : FVec F S512x1 .f32) : FVec F S512x1 .f32 :=
  divf (broadcast S512x1 (Scalar.ofBits .f32 0x3F800000#32)) s

section
variable (v0 : Vec F S1x512x2304 .fp8e4m3) (v2 : Vec F S1x1x512 .f32) (h : FVec F S512x2304 .fp8e4m3) (hs A : FVec F S512x512 .f32)
  (w wu w' wu' : Vec F S2304x512 .fp8e4m3) (s su s' su' : Vec F S1x512 .f32) (T : FVec F S512x128 .f32) (i : FVec F S512x1 .f32)

theorem e7 : k0_pay7 v0 v2 w s wu su = k0_pay9 (k0_pay4 v0) (k0_pay5 v2) w s wu su := rfl
theorem e8 : k0_pay8 v0 v2 w s wu su = stored (k0_pay9 (k0_pay4 v0) (k0_pay5 v2) w s wu su) := rfl
theorem e10 : k0_pay10 h hs w s wu su = stored (k0_pay9 h hs w s wu su) := rfl
theorem e11 : k0_pay11 h hs T A w s wu su = step (step T A) (k0_pay9 h hs w s wu su) := rfl
theorem e12 : k0_pay12 h hs w s wu su = k0_pay9 h hs w s wu su := rfl
theorem e13 : k0_pay13 h hs w s wu su = stored (k0_pay9 h hs w s wu su) := rfl
theorem e14 : k0_pay14 h hs T w s wu su = step T (k0_pay9 h hs w s wu su) := rfl
theorem e16 : k0_pay16 h hs (k0_pay15 h hs w) s wu su = k0_pay9 h hs w s wu su := rfl
theorem e17 : k0_pay17 h hs (k0_pay15 h hs w) s wu su = stored (k0_pay9 h hs w s wu su) := rfl
theorem e18 : k0_pay18 h hs T (k0_pay15 h hs w) s wu su = step T (k0_pay9 h hs w s wu su) := rfl
theorem e22 : k0_pay22 (k0_pay19 h hs w s) (k0_pay20 h hs wu) su = stored (k0_pay9 h hs w s wu su) := rfl
theorem e23 : k0_pay23 T (k0_pay19 h hs w s) (k0_pay20 h hs wu) su = step T (k0_pay9 h hs w s wu su) := rfl
theorem e28 : k0_pay28 (k0_pay24 h hs w s) (k0_pay25 h hs wu su) (k0_pay26 h hs w s) = stored (k0_pay9 h hs w s wu su) := rfl
theorem e29 : k0_pay29 T (k0_pay24 h hs w s) (k0_pay25 h hs wu su) (k0_pay26 h hs w s) = step T (k0_pay9 h hs w s wu su) := rfl
theorem e30 : k0_pay30 h hs w s wu su = k0_pay9 h hs w s wu su := rfl
theorem e31 : k0_pay31 A = stored A := rfl
theorem e33 : k0_pay33 h hs w s wu su = stored (k0_pay9 h hs w s wu su) := rfl
theorem e37 : k0_pay37 h hs w s wu su = stored (k0_pay9 h hs w s wu su) := rfl
theorem e38 : k0_pay38 h hs (k0_pay34 h hs w s wu su) (k0_pay35 h hs T A w s wu su) w' s' wu' su' =
    step (step (step T A) (k0_pay9 h hs w s wu su)) (k0_pay9 h hs w' s' wu' su') := rfl
theorem e40 : k0_pay40 h hs w s wu su = stored (k0_pay9 h hs w s wu su) := rfl
theorem e41 : k0_pay41 h hs T w s wu su = step T (k0_pay9 h hs w s wu su) := rfl
theorem e44 : k0_pay44 h hs (k0_pay42 h hs w s) wu su = stored (k0_pay9 h hs w s wu su) := rfl
theorem e45 : k0_pay45 h hs T (k0_pay42 h hs w s) wu su = step T (k0_pay9 h hs w s wu su) := rfl
theorem e49 : k0_pay49 (k0_pay46 h hs w s) (k0_pay47 h hs wu) su = stored (k0_pay9 h hs w s wu su) := rfl
theorem e51 : k0_pay51 T (k0_pay46 h hs w s) (k0_pay47 h hs wu) su = sclRow (scl (rowTop (step T (k0_pay9 h hs w s wu su)))) := rfl
theorem e52 : k0_pay52 T (k0_pay46 h hs w s) (k0_pay47 h hs wu) su = recip (scl (rowTop (step T (k0_pay9 h hs w s wu su)))) := rfl
theorem e54 : k0_pay54 i A = k0_pay53 i A := rfl
theorem e55 : k0_pay55 i A = k0_pay53 i A := rfl
theorem e57 : k0_pay57 (k0_pay56 i A) (Scalar.ofBits .f32 0xC3E00000#32) = k0_pay53 i A := rfl
theorem e58 : k0_pay58 i A = k0_pay53 i A := rfl
theorem e59 : k0_pay59 i A = k0_pay53 i A := rfl
theorem e61 : k0_pay61 (Scalar.ofBits .f32 0x43E00000#32) (k0_pay60 i A) = k0_pay53 i A := rfl
theorem e62 : k0_pay62 i A = k0_pay53 i A := rfl
theorem e63 : k0_pay63 i A = k0_pay53 i A := rfl
theorem e1 : k0_pay1 (k0_pay64 i A) = k0_pay53 i A := rfl
theorem e2 : k0_pay2 i A = k0_pay53 i A := rfl
theorem e3 : k0_pay3 i A = k0_pay53 i A := rfl
end

/-! ## The chunks of a block -/

section
variable (x0 : Vec F S1x512x2304 .fp8e4m3) (x1 : Vec F S1x1x512 .f32) (x2 : Vec F S2304x12288 .fp8e4m3) (x3 : Vec F S1x12288 .f32)

theorem inb2 (o : ℕ) (ho : o ≤ 11776) : ∀ a, (![0, o] : Fin 2 → Nat) a + S2304x512.size a ≤ S2304x12288.size a := by
  intro a; fin_cases a <;> simp [S2304x512, S2304x12288] <;> omega
theorem inb3 (o : ℕ) (ho : o ≤ 11776) : ∀ a, (![0, o] : Fin 2 → Nat) a + S1x512.size a ≤ S1x12288.size a := by
  intro a; fin_cases a <;> simp [S1x512, S1x12288] <;> omega
theorem inbS (o : ℕ) (ho : o ≤ 5632) : ∀ a, (![0, o] : Fin 2 → Nat) a + S512x512.size a ≤ S512x6144.size a := by
  intro a; fin_cases a <;> simp [S512x512, S512x6144] <;> omega
theorem inbO (o : ℕ) (ho : o ≤ 5632) : ∀ a, (![0, 0, o] : Fin 3 → Nat) a + S1x512x512.size a ≤ S1x512x6144.size a := by
  intro a; fin_cases a <;> simp [S1x512x512, S1x512x6144] <;> omega

/-- The activations of the columns from `o` on. -/
noncomputable def chunk (o : ℕ) (ho : o ≤ 5632) : FVec F S512x512 .f32 :=
  k0_pay9 (k0_pay4 (View.ld x0 (Rect.unit ![0, 0, 0] S1x512x2304.size inb_S1x512x2304_S1x512x2304_0_0_0)))
    (k0_pay5 (View.ld x1 (Rect.unit ![0, 0, 0] S1x1x512.size inb_S1x1x512_S1x1x512_0_0_0)))
    (View.ld x2 (Rect.unit ![0, o] S2304x512.size (inb2 o (by omega)))) (View.ld x3 (Rect.unit ![0, o] S1x512.size (inb3 o (by omega))))
    (View.ld x2 (Rect.unit ![0, o + 6144] S2304x512.size (inb2 (o + 6144) (by omega))))
    (View.ld x3 (Rect.unit ![0, o + 6144] S1x512.size (inb3 (o + 6144) (by omega))))

/-- Where the chunks begin. -/
def offs : List {o : ℕ // o ≤ 5632} :=
  [⟨0, by omega⟩, ⟨512, by omega⟩, ⟨1024, by omega⟩, ⟨1536, by omega⟩, ⟨2048, by omega⟩, ⟨2560, by omega⟩,
   ⟨3072, by omega⟩, ⟨3584, by omega⟩, ⟨4096, by omega⟩, ⟨4608, by omega⟩, ⟨5120, by omega⟩, ⟨5632, by omega⟩]

/-- The running maximum after every chunk. -/
noncomputable def tops : FVec F S512x128 .f32 := offs.foldl (fun T o => step T (chunk x0 x1 x2 x3 o.1 o.2)) k0_pay6

/-- The scales of the block's rows. -/
noncomputable def scales : FVec F S512x1 .f32 := scl (rowTop (tops x0 x1 x2 x3))

/-- The scratch's stores. -/
noncomputable def scrs : List (View.Piece (Elt F) S512x6144 .f32) :=
  offs.reverse.map fun o => ⟨Rect.unit ![0, o.1] S512x512.size (inbS o.1 o.2), stored (chunk x0 x1 x2 x3 o.1 o.2)⟩

/-- The stores of the codes. -/
noncomputable def codes : List (View.Piece (Elt F) S1x512x6144 .fp8e4m3) :=
  offs.reverse.map fun o => ⟨Rect.unit ![0, 0, o.1] S1x512x512.size (inbO o.1 o.2),
    k0_pay53 (recip (scales x0 x1 x2 x3)) ((View.whole cc0_scratch0).readCov (scrs x0 x1 x2 x3)
      (Rect.unit (s := S512x6144) ![0, o.1] S512x512.size (inbS o.1 o.2)).toLoadRect)⟩
end

variable (m : (ℓ : Loc nD τ sig) → Buf (Elt F) ℓ)

/-- The block of codes a point leaves is the canon of its stores. -/
theorem out4_read (c : Dev nD) (t : Fin grid0.N) :
    (outsAt0 m c t).1 = View.canon (codes (iblk m c 0 t) (iblk m c 1 t) (iblk m c 2 t) (iblk m c 3 t)) := by
  unfold outsAt0 out0_A_4
  dsimp only
  rw [View.read_writes_eq_canon _ _ _ (cover0_A_4 c _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  simp only [e7, e8, e10, e11, e12, e13, e14, e16, e17, e18, e22, e23, e28, e29, e30, e31, e33, e37, e38, e40, e41, e44, e45,
    e49, e52, e54, e55, e57, e58, e59, e61, e62, e63, e1, e2, e3]
  rfl

/-- The row of scales a point leaves. -/
theorem out5_read (c : Dev nD) (t : Fin grid0.N) :
    (outsAt0 m c t).2 = sclRow (scales (iblk m c 0 t) (iblk m c 1 t) (iblk m c 2 t) (iblk m c 3 t)) := by
  unfold outsAt0 out0_A_5
  dsimp only
  rw [View.read_writes_eq_canon _ _ _ (cover0_A_5 c _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread]
  simp only [e7, e8, e10, e11, e12, e13, e14, e16, e17, e18, e22, e23, e28, e29, e30, e31, e33, e37, e38, e40, e41, e44, e45,
    e49, e51]
  exact View.canon_unit_zero (S := S1x1x512) (by funext a; fin_cases a <;> rfl) inb_S1x1x512_S1x1x512_0_0_0 _

end Cert.GateupIdeal.Gen
-- ==== Proof.Lib.Consts.lean ====
/- The literals of the programs as extended reals. -/
module

public import Idealize.ShloMosaic.Lib.Pointwise

@[expose] public section

namespace Cert.Lib

open Idealize.ShloMosaic

theorem lit_zero : Ideal.ofBits .f32 0x00000000#32 = (0 : EReal) := by
  simp [Ideal.ofBits, Ideal.ieee]

theorem lit_one : Ideal.ofBits .f32 0x3F800000#32 = (1 : EReal) := by
  simp [Ideal.ofBits, Ideal.ieee, -EReal.coe_mul]; norm_num

theorem lit_448 : Ideal.ofBits .f32 0x43E00000#32 = ((448 : ℝ) : EReal) := by
  simp [Ideal.ofBits, Ideal.ieee, -EReal.coe_mul]; norm_num

theorem lit_neg448 : Ideal.ofBits .f32 0xC3E00000#32 = ((-448 : ℝ) : EReal) := by
  simp [Ideal.ofBits, Ideal.ieee, -EReal.coe_mul]; norm_num

theorem lit_2304 : Ideal.ofBits .f32 0x45100000#32 = ((2304 : ℝ) : EReal) := by
  simp [Ideal.ofBits, Ideal.ieee, -EReal.coe_mul]; norm_num

theorem lit_96 : Ideal.ofBits .f32 0x42C00000#32 = ((96 : ℝ) : EReal) := by
  simp [Ideal.ofBits, Ideal.ieee, -EReal.coe_mul]; norm_num

theorem lit_bot : Ideal.ofBits .f32 0xFF800000#32 = (⊥ : EReal) := by
  simp [Ideal.ofBits, Ideal.ieee]

/-- The small number added under the square roots is positive. -/
theorem lit_eps : ∃ e : ℝ, 0 < e ∧ Ideal.ofBits .f32 0x358637BD#32 = (e : EReal) := by
  refine ⟨_, ?_, by simp [Ideal.ofBits, Ideal.ieee, -EReal.coe_mul]; rfl⟩
  norm_num

end Cert.Lib
-- ==== Proof.Lib.Math.lean ====
/- Facts about extended reals that the three calls share: the quantiser's scale and codes, the gate, the root mean square. -/
module

public import proofs.«01_k».proof.Proof.Lib.Consts

@[expose] public section

namespace Cert.Lib

open Idealize.ShloMosaic

/-- The kernel's exponential of base two at `g` times minus the reciprocal of `log 2` is the exponential of `-g`. -/
theorem exp2_neg (g : EReal) : Ideal.exp2 (g * ((-((Real.log 2)⁻¹) : ℝ) : EReal)) = Ideal.exp (-g) := by
  have hl : 0 < Real.log 2 := Real.log_pos (by norm_num)
  have hn : (-((Real.log 2)⁻¹) : ℝ) < 0 := by simpa using hl
  induction g using EReal.rec with
  | bot => rw [EReal.bot_mul_coe_of_neg hn]; rfl
  | top => rw [EReal.top_mul_coe_of_neg hn]; rfl
  | coe r =>
    rw [← EReal.coe_mul, ← EReal.coe_neg, Ideal.exp2_coe, Ideal.exp_coe]
    congr 1
    rw [Real.rpow_eq_pow, Real.rpow_def_of_pos (by norm_num)]
    congr 1
    field_simp

/-- The gate as the kernel writes it is the logistic function. -/
theorem gate_eq (g : EReal) :
    Ideal.div 1 (1 + Ideal.exp2 (g * ((-((Real.log 2)⁻¹) : ℝ) : EReal))) = Ideal.logistic g := by
  rw [exp2_neg]; rfl

/-- The absolute value. -/
noncomputable def absE (x : EReal) : EReal := max x (-x)

theorem absE_nonneg (x : EReal) : 0 ≤ absE x := by
  rcases le_total 0 x with h | h
  · exact le_max_of_le_left h
  · exact le_max_of_le_right (by simpa using EReal.neg_le_neg_iff.mpr h)

/-- The quantiser's scale of a largest absolute value `a`: `a / 448`, and one where `a` is zero. -/
noncomputable def scaleE (a : EReal) : EReal := if a = 0 then 1 else a * ((1 / 448 : ℝ) : EReal)

theorem scaleE_ne_zero (a : EReal) : scaleE a ≠ 0 := by
  unfold scaleE
  split_ifs with h
  · exact one_ne_zero
  · rw [mul_ne_zero_iff]
    exact ⟨h, by norm_num⟩

/-- The codes the quantiser makes of `x` at scale `s`: `x / s`, cut to [-448, 448]. -/
noncomputable def codeE (x s : EReal) : EReal := min ((448 : ℝ) : EReal) (max ((-448 : ℝ) : EReal) (Ideal.div x s))

/-- Off zero, a quotient is the product with the reciprocal. -/
theorem mul_div_one (x s : EReal) (h : s ≠ 0) : x * Ideal.div 1 s = Ideal.div x s := by
  simp [Ideal.div, h]

theorem div_448 (a : EReal) : Ideal.div a ((448 : ℝ) : EReal) = a * ((1 / 448 : ℝ) : EReal) := Ideal.div_coe (by norm_num) a

/-- The largest of a family is at most `c` when every member is. -/
theorem fold_max_le_iff {ι : Type} [Fintype ι] (f : ι → EReal) (c : EReal) :
    (Finset.univ : Finset ι).fold max ⊥ f ≤ c ↔ ∀ k, f k ≤ c := by
  simp [Finset.fold_max_le]

end Cert.Lib
-- ==== Proof.Lib.Quant.lean ====
/- The quantiser's vector expressions read at an index, for any shape. -/
module

public import proofs.«01_k».proof.Proof.Lib.Math

@[expose] public section

namespace Cert.Lib

open Idealize.ShloMosaic

variable {s : Shape}

theorem sc_zero : (Scalar.ofBits .f32 0x00000000#32 : Ideal .f32) = (0 : EReal) := lit_zero
theorem sc_one : (Scalar.ofBits .f32 0x3F800000#32 : Ideal .f32) = (1 : EReal) := lit_one
theorem sc_448 : (Scalar.ofBits .f32 0x43E00000#32 : Ideal .f32) = ((448 : ℝ) : EReal) := lit_448
theorem sc_neg448 : (Scalar.ofBits .f32 0xC3E00000#32 : Ideal .f32) = ((-448 : ℝ) : EReal) := lit_neg448

/-- A value cut to [-448, 448]. -/
noncomputable def clampE (x : EReal) : EReal := min ((448 : ℝ) : EReal) (max ((-448 : ℝ) : EReal) x)

theorem clamp_generic (A : FVec Ideal s .f32) (h : FTy.bits .fp8e4m3 < FTy.bits .f32) (lo hi : Ideal .f32) (i : s.Idx) :
    (truncf .fp8e4m3 (minimumf (broadcast s hi) (maximumf (broadcast s lo) A)) h : FVec Ideal s .fp8e4m3) i
      = min hi (max lo (A i)) := rfl

/-- The codes at an index. -/
theorem codes_apply (A : FVec Ideal s .f32) (h : FTy.bits .fp8e4m3 < FTy.bits .f32) (i : s.Idx) :
    (truncf .fp8e4m3 (minimumf (broadcast s (Scalar.ofBits .f32 0x43E00000#32))
      (maximumf (broadcast s (Scalar.ofBits .f32 0xC3E00000#32)) A)) h : FVec Ideal s .fp8e4m3) i = clampE (A i) := by
  rw [clamp_generic, sc_448, sc_neg448]; rfl

theorem select_generic (A B C D : FVec Ideal s .f32) (i : s.Idx) :
    select (cmpf .oeq A B) C D i = if A i = B i then C i else D i := by
  pointwise

/-- The scale at an index, the division written out. -/
theorem scale_apply (A : FVec Ideal s .f32) (i : s.Idx) :
    select (cmpf .oeq A (broadcast s (Scalar.ofBits .f32 0x00000000#32))) (broadcast s (Scalar.ofBits .f32 0x3F800000#32))
      (divf A (broadcast s (Scalar.ofBits .f32 0x43E00000#32))) i = scaleE (A i) := by
  rw [sc_zero, sc_one, sc_448, select_generic, ValueIdx.divf_apply]
  simp only [ValueIdx.broadcast_apply, div_448]
  rfl

/-- The scale at an index, the division as the product with `1 / 448`. -/
theorem scale_mul_apply (A : FVec Ideal s .f32) (c : Ideal .f32) (hc : c = ((1 / 448 : ℝ) : EReal)) (i : s.Idx) :
    select (cmpf .oeq A (broadcast s (Scalar.ofBits .f32 0x00000000#32))) (broadcast s (Scalar.ofBits .f32 0x3F800000#32))
      (mulf A (broadcast s c)) i = scaleE (A i) := by
  rw [sc_zero, sc_one, select_generic, ValueIdx.mulf_apply, hc]
  simp only [ValueIdx.broadcast_apply]
  rfl

/-- The reciprocal of a vector at an index. -/
theorem recip_apply (A : FVec Ideal s .f32) (i : s.Idx) :
    divf (broadcast s (Scalar.ofBits .f32 0x3F800000#32)) A i = Ideal.div 1 (A i) := by
  rw [sc_one]; rfl

theorem clamp_div (x t : EReal) : clampE (Ideal.div x (scaleE t)) = codeE x (scaleE t) := rfl

theorem clamp_mul (x t : EReal) : clampE (x * Ideal.div 1 (scaleE t)) = codeE x (scaleE t) := by
  rw [mul_div_one _ _ (scaleE_ne_zero t)]; rfl

theorem absf_apply (A : FVec Ideal s .f32) (i : s.Idx) : absf A i = absE (A i) := rfl

end Cert.Lib
-- ==== Proof.Gateup.Block.lean ====
/- The kernel's block, index by index: its chunks are the gated activations of the block, its scales and codes the
   quantiser's. -/
module

public import proofs.«01_k».proof.Proof.Gateup.Pay
public import proofs.«01_k».proof.Proof.Lib.Quant
public import Idealize.ShloMosaic.Lib.Pipeline.ValueKit.Tiles

@[expose] public section

set_option maxRecDepth 16384

namespace Cert.GateupIdeal.Gen

open Idealize.ShloMosaic Idealize.ShloMosaic.TcCoe Cert.Lib

theorem named_log : Named.named (F := Ideal) (φ := .f32) κ "neg_log2e" 0xBFB8AA3B#32 = ((-((Real.log 2)⁻¹) : ℝ) : EReal) :=
  IdealRules.named_const.ideal_named_scalar _ _ _ _ rfl

theorem named_448 : Named.named (F := Ideal) (φ := .f32) κ "inv_448" 0x3B124925#32 = ((1 / 448 : ℝ) : EReal) :=
  IdealRules.named_const.ideal_named_scalar _ _ _ _ rfl

/-- One projection of a chunk at an index. -/
noncomputable def cproj (h : FVec Ideal S512x2304 .fp8e4m3) (hs : FVec Ideal S512x512 .f32) (w : Vec Ideal S2304x512 .fp8e4m3)
    (s : Vec Ideal S1x512 .f32) (n j : Fin 512) : EReal :=
  (∑ k : Fin 2304, h (ix2 n k) * w (ix2 k j)) * hs (ix2 n j) * s (ix2 (0 : Fin 1) j)

section
variable (h : FVec Ideal S512x2304 .fp8e4m3) (hs : FVec Ideal S512x512 .f32) (w wu : Vec Ideal S2304x512 .fp8e4m3)
  (s su : Vec Ideal S1x512 .f32)

theorem pay9_apply (n j : Fin 512) : k0_pay9 h hs w s wu su (ix2 n j)
    = cproj h hs w s n j * Ideal.logistic (cproj h hs w s n j) * cproj h hs wu su n j := by
  unfold k0_pay9
  pointwise
  rw [named_log]
  show _ * Ideal.div 1 (1 + Ideal.exp2 (_ * _)) * _ = _
  rw [gate_eq]
  rfl
end

theorem pay5_apply (v : Vec Ideal S1x1x512 .f32) (n j : Fin 512) : k0_pay5 v (ix2 n j) = v (ix3 (0 : Fin 1) (0 : Fin 1) n) := by
  unfold k0_pay5
  pointwise
  split_ifs <;> rfl

theorem pay4_apply (v : Vec Ideal S1x512x2304 .fp8e4m3) (n : Fin 512) (k : Fin 2304) : k0_pay4 v (ix2 n k) = v (ix3 (0 : Fin 1) n k) := by
  unfold k0_pay4
  pointwise

theorem stored_eq (A : FVec Ideal S512x512 .f32) : stored A = A := by
  funext i; idx_vars i; unfold stored; pointwise

theorem step_apply (T : FVec Ideal S512x128 .f32) (A : FVec Ideal S512x512 .f32) (n : Fin 512) (l : Fin 128) :
    step T A (ix2 n l) = max (max (max (max (T (ix2 n l)) (absE (A (ix2 n ⟨l.val, by omega⟩)))) (absE (A (ix2 n ⟨128 + l.val, by omega⟩))))
      (absE (A (ix2 n ⟨256 + l.val, by omega⟩)))) (absE (A (ix2 n ⟨384 + l.val, by omega⟩))) := by
  unfold step
  generalize hB : absf A = B
  have : ∀ i, B i = absE (A i) := fun i => by rw [← hB, absf_apply]
  simp only [← this]
  pointwise

theorem rowTop_apply (T : FVec Ideal S512x128 .f32) (n : Fin 512) (j : Fin 1) :
    rowTop T (ix2 n j) = (Finset.univ : Finset (Fin 128)).fold max ⊥ fun l => T (ix2 n l) := by
  unfold rowTop
  pointwise
  rw [lit_bot]

theorem scl_apply (M : FVec Ideal S512x1 .f32) (i : S512x1.Idx) : scl M i = scaleE (M i) := by
  unfold scl
  exact scale_mul_apply M _ named_448 i

theorem sclRow_apply (s : FVec Ideal S512x1 .f32) (n : Fin 512) (i j : Fin 1) :
    sclRow s (ix3 i j n) = s (ix2 n (0 : Fin 1)) := by
  unfold sclRow
  pointwise

theorem pay53_apply (s : FVec Ideal S512x1 .f32) (A : FVec Ideal S512x512 .f32) (n j : Fin 512) (i : Fin 1)
    (t : EReal) (hs : s (ix2 n (0 : Fin 1)) = scaleE t) :
    k0_pay53 (recip s) A (ix3 i n j) = codeE (A (ix2 n j)) (scaleE t) := by
  unfold k0_pay53
  have key : ∀ B : FVec Ideal S512x512 .fp8e4m3, shapeCast S1x512x512 B shapeCasts_S512x512_S1x512x512 (ix3 i n j) = B (ix2 n j) := by
    intro B; pointwise
  have key2 : ∀ B : FVec Ideal S512x1 .f32, broadcastTo S512x512 B broadcasts_S512x1_S512x512 (ix2 n j) = B (ix2 n (0 : Fin 1)) := by
    intro B; pointwise
  refine (key _).trans ?_
  rw [codes_apply, ValueIdx.mulf_apply, key2]
  unfold recip
  rw [recip_apply, hs, clamp_mul]

theorem pay6_apply (i : S512x128.Idx) : (k0_pay6 : FVec Ideal S512x128 .f32) i = 0 := by
  unfold k0_pay6
  rw [sc_zero]; rfl

/-- The running maximum is at most `c` when it was and the chunk's four groups of lanes are. -/
theorem step_le (T : FVec Ideal S512x128 .f32) (A : FVec Ideal S512x512 .f32) (n : Fin 512) (l : Fin 128) (c : EReal) :
    step T A (ix2 n l) ≤ c ↔ T (ix2 n l) ≤ c ∧ ∀ g : Fin 4, absE (A (ix2 n ⟨128 * g.val + l.val, by omega⟩)) ≤ c := by
  rw [step_apply]
  simp only [max_le_iff]
  constructor
  · rintro ⟨⟨⟨⟨h, h0⟩, h1⟩, h2⟩, h3⟩
    refine ⟨h, fun g => ?_⟩
    match g with
    | ⟨0, _⟩ => simpa using h0
    | ⟨1, _⟩ => exact h1
    | ⟨2, _⟩ => exact h2
    | ⟨3, _⟩ => exact h3
  · rintro ⟨h, hg⟩
    exact ⟨⟨⟨⟨h, by simpa using hg 0⟩, hg 1⟩, hg 2⟩, hg 3⟩

/-! ## The block -/

section
variable (x0 : Vec Ideal S1x512x2304 .fp8e4m3) (x1 : Vec Ideal S1x1x512 .f32) (x2 : Vec Ideal S2304x12288 .fp8e4m3)
  (x3 : Vec Ideal S1x12288 .f32)

/-- Column `j` of the two projections of the block's token `n`. -/
noncomputable def bproj (n : Fin 512) (j : Fin 12288) : EReal :=
  (∑ k : Fin 2304, x0 (ix3 (0 : Fin 1) n k) * x2 (ix2 k j)) * x1 (ix3 (0 : Fin 1) (0 : Fin 1) n) * x3 (ix2 (0 : Fin 1) j)

/-- Column `j` of the block's gated activations. -/
noncomputable def bact (n : Fin 512) (j : Fin 6144) : EReal :=
  bproj x0 x1 x2 x3 n ⟨j.val, by omega⟩ * Ideal.logistic (bproj x0 x1 x2 x3 n ⟨j.val, by omega⟩) * bproj x0 x1 x2 x3 n ⟨6144 + j.val, by omega⟩

/-- The largest absolute value of the activations of the block's token `n`. -/
noncomputable def btop (n : Fin 512) : EReal :=
  (Finset.univ : Finset (Fin 6144)).fold max ⊥ fun j => absE (bact x0 x1 x2 x3 n j)

theorem cproj_ld (o : ℕ) (ho : o ≤ 11776) (n j : Fin 512) :
    cproj (k0_pay4 (View.ld x0 (Rect.unit ![0, 0, 0] S1x512x2304.size inb_S1x512x2304_S1x512x2304_0_0_0)))
      (k0_pay5 (View.ld x1 (Rect.unit ![0, 0, 0] S1x1x512.size inb_S1x1x512_S1x1x512_0_0_0)))
      (View.ld x2 (Rect.unit ![0, o] S2304x512.size (inb2 o ho))) (View.ld x3 (Rect.unit ![0, o] S1x512.size (inb3 o ho))) n j
      = bproj x0 x1 x2 x3 n ⟨o + j.val, by omega⟩ := by
  have z : (![0, 0, 0] : Fin 3 → ℕ) = fun _ => 0 := by funext a; fin_cases a <;> rfl
  have h0 : View.ld x0 (Rect.unit ![0, 0, 0] S1x512x2304.size inb_S1x512x2304_S1x512x2304_0_0_0) = x0 :=
    View.ld_unit_zero (S := S1x512x2304) z _ _
  have h1 : View.ld x1 (Rect.unit ![0, 0, 0] S1x1x512.size inb_S1x1x512_S1x1x512_0_0_0) = x1 :=
    View.ld_unit_zero (S := S1x1x512) z _ _
  have h2 : ∀ k : Fin 2304, View.ld x2 (Rect.unit ![0, o] S2304x512.size (inb2 o ho)) (ix2 k j) = x2 (ix2 k ⟨o + j.val, by omega⟩) :=
    fun k => View.ld_unit_apply_of (S := S2304x12288) x2 ![0, o] S2304x512.size _ (ix2 k j) (ix2 k ⟨o + j.val, by omega⟩) (by
      intro a; fin_cases a <;> simp [ix2])
  have h3 : View.ld x3 (Rect.unit ![0, o] S1x512.size (inb3 o ho)) (ix2 (0 : Fin 1) j) = x3 (ix2 (0 : Fin 1) ⟨o + j.val, by omega⟩) :=
    View.ld_unit_apply_of (S := S1x12288) x3 ![0, o] S1x512.size _ (ix2 (0 : Fin 1) j) (ix2 (0 : Fin 1) ⟨o + j.val, by omega⟩) (by
      intro a; fin_cases a <;> simp [ix2])
  unfold cproj bproj
  rw [h0, h1]
  simp only [h2, h3, pay4_apply, pay5_apply]

theorem chunk_apply (o : ℕ) (ho : o ≤ 5632) (n j : Fin 512) :
    chunk x0 x1 x2 x3 o ho (ix2 n j) = bact x0 x1 x2 x3 n ⟨o + j.val, by omega⟩ := by
  unfold chunk bact
  rw [pay9_apply, cproj_ld x0 x1 x2 x3 o (by omega), cproj_ld x0 x1 x2 x3 (o + 6144) (by omega)]
  congr 2
  exact Fin.ext (by show o + 6144 + j.val = 6144 + (o + j.val); omega)

theorem mem_offs (q : ℕ) (hq : q < 12) : (⟨512 * q, by omega⟩ : {o : ℕ // o ≤ 5632}) ∈ offs := by
  unfold offs
  interval_cases q <;> simp

theorem foldl_le (n : Fin 512) (l : Fin 128) (c : EReal) : ∀ (L : List {o : ℕ // o ≤ 5632}) (T : FVec Ideal S512x128 .f32),
    (L.foldl (fun T o => step T (chunk x0 x1 x2 x3 o.1 o.2)) T) (ix2 n l) ≤ c ↔
      T (ix2 n l) ≤ c ∧ ∀ o ∈ L, ∀ g : Fin 4, absE (chunk x0 x1 x2 x3 o.1 o.2 (ix2 n ⟨128 * g.val + l.val, by omega⟩)) ≤ c
  | [], T => by simp
  | o :: L, T => by
    rw [List.foldl_cons, foldl_le n l c L, step_le]
    simp only [List.mem_cons, forall_eq_or_imp, and_assoc]

theorem rowTop_tops (n : Fin 512) : rowTop (tops x0 x1 x2 x3) (ix2 n (0 : Fin 1)) = btop x0 x1 x2 x3 n := by
  refine eq_of_forall_ge_iff fun c => ?_
  rw [rowTop_apply, fold_max_le_iff]
  unfold btop tops
  rw [fold_max_le_iff]
  simp only [foldl_le, pay6_apply, chunk_apply]
  constructor
  · intro h j
    have hj := (h ⟨j.val % 128, Nat.mod_lt _ (by norm_num)⟩).2 _ (mem_offs (j.val / 512) (by omega)) ⟨j.val % 512 / 128, by omega⟩
    have e : (⟨512 * (j.val / 512) + (128 * (j.val % 512 / 128) + j.val % 128), by omega⟩ : Fin 6144) = j := Fin.ext (by
      show 512 * (j.val / 512) + (128 * (j.val % 512 / 128) + j.val % 128) = j.val; omega)
    exact e ▸ hj
  · intro h l
    exact ⟨(absE_nonneg _).trans (h 0), fun o _ g => h _⟩

theorem scales_apply (n : Fin 512) : scales x0 x1 x2 x3 (ix2 n (0 : Fin 1)) = scaleE (btop x0 x1 x2 x3 n) := by
  unfold scales
  rw [scl_apply, rowTop_tops]

/-- The scratch read back at a chunk's rectangle. -/
theorem scr_apply (o : {o : ℕ // o ≤ 5632}) (ho : o ∈ offs) (n j : Fin 512) :
    (View.whole cc0_scratch0).readCov (scrs x0 x1 x2 x3) (Rect.unit (s := S512x6144) ![0, o.1] S512x512.size (inbS o.1 o.2)).toLoadRect
      (ix2 n j) = bact x0 x1 x2 x3 n ⟨o.1 + j.val, by have := o.2; omega⟩ := by
  rw [View.readCov_eq_canon']
  have he : ∀ (o : {o : ℕ // o ≤ 5632}) (n j : Fin 512), (Rect.unit (s := S512x6144) ![0, o.1] S512x512.size (inbS o.1 o.2)).idx (ix2 n j)
      = (ix2 n ⟨o.1 + j.val, by have := o.2; omega⟩ : S512x6144.Idx) := by
    intro o n j
    funext a; apply Fin.ext; fin_cases a <;> simp [ix2]
  have hc := View.canon_apply_of_pieces (S := S512x6144) (Val := Elt Ideal) (e := .f32)
    (fun y => bact x0 x1 x2 x3 (y 0) (y 1)) (scrs x0 x1 x2 x3) (by
      intro p hp x
      obtain ⟨o, ho, rfl⟩ := List.mem_map.mp hp
      obtain ⟨n, j, rfl⟩ : ∃ n j : Fin 512, x = ix2 n j := ⟨x 0, x 1, by funext a; fin_cases a <;> rfl⟩
      show stored (F := Ideal) (chunk x0 x1 x2 x3 o.1 o.2) (ix2 n j) = bact x0 x1 x2 x3 ((Rect.unit (s := S512x6144) ![0, o.1] S512x512.size (inbS o.1 o.2)).idx (ix2 n j) 0)
        ((Rect.unit (s := S512x6144) ![0, o.1] S512x512.size (inbS o.1 o.2)).idx (ix2 n j) 1)
      rw [he, stored_eq, chunk_apply]
      rfl) ((Rect.unit (s := S512x6144) ![0, o.1] S512x512.size (inbS o.1 o.2)).idx (ix2 n j))
      ⟨_, List.mem_map.mpr ⟨o, List.mem_reverse.mpr ho, rfl⟩, LoadRect.idx_mem _ _⟩
  refine hc.trans ?_
  rw [he]
  rfl

/-- The codes a block holds. -/
theorem codes_canon (n : Fin 512) (j : Fin 6144) (i : Fin 1) :
    View.canon (codes x0 x1 x2 x3) (ix3 i n j) = codeE (bact x0 x1 x2 x3 n j) (scaleE (btop x0 x1 x2 x3 n)) := by
  have he : ∀ (o : {o : ℕ // o ≤ 5632}) (i : Fin 1) (n j : Fin 512),
      (Rect.unit (s := S1x512x6144) ![0, 0, o.1] S1x512x512.size (inbO o.1 o.2)).idx (ix3 i n j)
      = (ix3 i n ⟨o.1 + j.val, by have := o.2; omega⟩ : S1x512x6144.Idx) := by
    intro o i n j
    funext a; apply Fin.ext; fin_cases a <;> simp [ix3]
  have hy : (ix3 i n j : S1x512x6144.Idx) = (Rect.unit (s := S1x512x6144) ![0, 0, 512 * (j.val / 512)] S1x512x512.size
      (inbO _ (by omega))).idx (ix3 i n ⟨j.val % 512, Nat.mod_lt _ (by norm_num)⟩) := by
    rw [he ⟨512 * (j.val / 512), by omega⟩]
    congr 1
    exact Fin.ext (by show j.val = 512 * (j.val / 512) + j.val % 512; omega)
  exact View.canon_apply_of_pieces (S := S1x512x6144) (Val := Elt Ideal) (e := .fp8e4m3)
    (fun y => codeE (bact x0 x1 x2 x3 (y 1) (y 2)) (scaleE (btop x0 x1 x2 x3 (y 1)))) (codes x0 x1 x2 x3) (by
      intro p hp x
      obtain ⟨o, ho, rfl⟩ := List.mem_map.mp hp
      obtain ⟨i, n, j, rfl⟩ : ∃ (i : Fin 1) (n j : Fin 512), x = ix3 i n j := ⟨x 0, x 1, x 2, by funext a; fin_cases a <;> rfl⟩
      show k0_pay53 (F := Ideal) _ _ _ = codeE (bact _ _ _ _ ((Rect.unit (s := S1x512x6144) ![0, 0, o.1] S1x512x512.size (inbO o.1 o.2)).idx (ix3 i n j) 1)
        ((Rect.unit (s := S1x512x6144) ![0, 0, o.1] S1x512x512.size (inbO o.1 o.2)).idx (ix3 i n j) 2))
        (scaleE (btop _ _ _ _ ((Rect.unit (s := S1x512x6144) ![0, 0, o.1] S1x512x512.size (inbO o.1 o.2)).idx (ix3 i n j) 1)))
      rw [he, pay53_apply _ _ _ _ _ _ (scales_apply x0 x1 x2 x3 n), scr_apply x0 x1 x2 x3 o (List.mem_reverse.mp ho)]
      rfl) (ix3 i n j)
      ⟨_, List.mem_map.mpr ⟨⟨512 * (j.val / 512), by omega⟩, List.mem_reverse.mpr (mem_offs _ (by omega)), rfl⟩, by rw [hy]; exact LoadRect.idx_mem _ _⟩

end

end Cert.GateupIdeal.Gen
-- ==== Proof.Gateup.Spec.lean ====
/- The gated projection of the whole arrays, index by index, and the reference's results as it. -/
module

public import proofs.«01_k».proof.Proof.Gen.GateupRefIdeal.Value
public import proofs.«01_k».proof.Proof.Lib.Quant

@[expose] public section

namespace Cert.Gateup.Spec

open Cert.GateupRefIdeal Idealize.ShloMosaic Cert.Lib

variable [Facts] (a0 : Vec Ideal S6x2048x2304 .fp8e4m3) (a1 : Vec Ideal S6x1x2048 .f32) (a2 : Vec Ideal S2304x12288 .fp8e4m3)
    (a3 : Vec Ideal S12288 .f32)

/-- Column `j` of the two projections of token `n` of batch `b`. -/
noncomputable def proj (b : Fin 6) (n : Fin 2048) (j : Fin 12288) : EReal :=
  (∑ k : Fin 2304, a0 (ix3 b n k) * a2 (ix2 k j)) * a1 (ix3 b (0 : Fin 1) n) * a3 (ix1 j)

/-- Column `j` of the gated activations. -/
noncomputable def act (b : Fin 6) (n : Fin 2048) (j : Fin 6144) : EReal :=
  proj a0 a1 a2 a3 b n ⟨j.val, by omega⟩ * Ideal.logistic (proj a0 a1 a2 a3 b n ⟨j.val, by omega⟩) * proj a0 a1 a2 a3 b n ⟨6144 + j.val, by omega⟩

/-- The largest absolute value of a token's activations. -/
noncomputable def top (b : Fin 6) (n : Fin 2048) : EReal :=
  (Finset.univ : Finset (Fin 6144)).fold max ⊥ fun j => absE (act a0 a1 a2 a3 b n j)

theorem pay1_apply (b : Fin 6) (n : Fin 2048) (j : Fin 6144) :
    Gen.k0_pay1 a0 a1 a2 a3 (ix3 b n j) = act a0 a1 a2 a3 b n j := by
  unfold_payloads
  pointwise
  rfl

theorem max_apply (b : Fin 6) (n : Fin 2048) (h : S6x2048x6144.Reduces [2] S6x2048) (h1 h2) :
    multiReduction .maximumf [2] S6x2048 (absf (Gen.k0_pay1 a0 a1 a2 a3)) 0xFF800000#32 h h1 h2 (ix2 b n)
      = top a0 a1 a2 a3 b n := by
  have key : ∀ A : FVec Ideal S6x2048x6144 .f32, multiReduction .maximumf [2] S6x2048 A 0xFF800000#32 h h1 h2 (ix2 b n)
      = (Finset.univ : Finset (Fin 6144)).fold max (Ideal.ofBits .f32 0xFF800000#32) fun j => A (ix3 b n j) := by
    intro A; pointwise
  rw [key, lit_bot]
  simp only [absf_apply, pay1_apply]
  rfl

theorem pay2_apply (b : Fin 6) (n : Fin 2048) (j : Fin 1) :
    Gen.k0_pay2 a0 a1 a2 a3 (ix3 b n j) = scaleE (top a0 a1 a2 a3 b n) := by
  unfold Gen.k0_pay2
  dsimp only
  rw [scale_apply]
  have key : ∀ (A : FVec Ideal S6x2048 .f32) (h : S6x2048.ShapeCasts S6x2048x1), shapeCast S6x2048x1 A h (ix3 b n j) = A (ix2 b n) := by
    intro A h; pointwise
  rw [key]
  exact congrArg scaleE (max_apply a0 a1 a2 a3 b n _ _ _)

theorem pay3_apply (b : Fin 6) (n : Fin 2048) (j : Fin 6144) :
    Gen.k0_pay3 a0 a1 a2 a3 (ix3 b n j) = codeE (act a0 a1 a2 a3 b n j) (scaleE (top a0 a1 a2 a3 b n)) := by
  unfold Gen.k0_pay3
  rw [codes_apply, ValueIdx.divf_apply, pay1_apply]
  have key : ∀ (A : FVec Ideal S6x2048x1 .f32) (h : S6x2048x1.Broadcasts S6x2048x6144),
      broadcastTo S6x2048x6144 A h (ix3 b n j) = A (ix3 b n (0 : Fin 1)) := by
    intro A h; pointwise
  rw [key, pay2_apply, clamp_div]

theorem pay4_apply (b : Fin 6) (n : Fin 2048) (j : Fin 1) :
    Gen.k0_pay4 a0 a1 a2 a3 (ix3 b j n) = scaleE (top a0 a1 a2 a3 b n) := by
  unfold Gen.k0_pay4
  pointwise [pay2_apply]

end Cert.Gateup.Spec
-- ==== Proof.Gateup.Final.lean ====
/- The gate/up projection of the whole sequence: the kernel's 24 blocks are the blocks of the reference's two arrays, and
   they cover them. -/
module

public import proofs.«01_k».proof.Defs
public import proofs.«01_k».proof.Proof.Gateup.Block
public import proofs.«01_k».proof.Proof.Gateup.Spec
public import proofs.«01_k».proof.Proof.Gen.GateupIdeal.Value
public import proofs.«01_k».proof.Proof.Gen.GateupRefIdeal.Value

@[expose] public section

set_option maxRecDepth 16384

namespace Cert.GateupIdeal.Gen

open Idealize.ShloMosaic Idealize.ShloMosaic.TcCoe Idealize.SL.Sem Cert.Lib

variable (m : (ℓ : Loc nD τ sig) → Buf (Elt Ideal) ℓ) (c : Dev nD)

/-- The batch of a grid point. -/
def bat (t : Fin grid0.N) : Fin 6 := ⟨t.val / 4, by have h : t.val < 24 := t.isLt; omega⟩

/-- The token a row of a grid point's block is. -/
def tok (t : Fin grid0.N) (n : Fin 512) : Fin 2048 := ⟨t.val % 4 * 512 + n.val, by omega⟩

/-- The kernel's fourth operand is the fourth argument with a unit axis in front. -/
theorem V_main_v0 : V m c main_v0 = shapeCast S1x12288 (m ((c : Thread nD τ).loc main_arg3)) shapeCasts_S12288_S1x12288 := by
  show StableHlo.after hostOps0 _ (Proc.devRef .tc main_v0) = _
  after_results
  rfl

theorem at0 : ∀ t : Fin grid0.N, win0_0.index t (0 : Fin 3) = t.val / 4 ∧ win0_0.index t (1 : Fin 3) = t.val % 4 ∧ win0_0.index t (2 : Fin 3) = 0 := by
  decide +kernel
theorem at1 : ∀ t : Fin grid0.N, win0_1.index t (0 : Fin 3) = t.val / 4 ∧ win0_1.index t (1 : Fin 3) = 0 ∧ win0_1.index t (2 : Fin 3) = t.val % 4 := by
  decide +kernel
theorem at2 : ∀ t : Fin grid0.N, win0_2.index t (0 : Fin 2) = 0 ∧ win0_2.index t (1 : Fin 2) = 0 := by
  decide +kernel
theorem at3 : ∀ t : Fin grid0.N, win0_3.index t (0 : Fin 2) = 0 ∧ win0_3.index t (1 : Fin 2) = 0 := by
  decide +kernel
theorem at4 : ∀ t : Fin grid0.N, win0_4.index t (0 : Fin 3) = t.val / 4 ∧ win0_4.index t (1 : Fin 3) = t.val % 4 ∧ win0_4.index t (2 : Fin 3) = 0 := by
  decide +kernel
theorem at5 : ∀ t : Fin grid0.N, win0_5.index t (0 : Fin 3) = t.val / 4 ∧ win0_5.index t (1 : Fin 3) = 0 ∧ win0_5.index t (2 : Fin 3) = t.val % 4 := by
  decide +kernel

theorem emb0 (t : Fin grid0.N) (i : Fin 1) (n : Fin 512) (k : Fin 2304) :
    ((cfg0.win 0).blk t).view.emb (ix3 i n k) = ix3 (bat t) (tok t n) k := by
  obtain ⟨e0, e1, e2⟩ := at0 t
  funext a; apply Fin.ext
  match a with
  | ⟨0, _⟩ => show win0_0.index t (0 : Fin 3) * 1 + 1 * i.val = t.val / 4; omega
  | ⟨1, _⟩ => show win0_0.index t (1 : Fin 3) * 512 + 1 * n.val = t.val % 4 * 512 + n.val; omega
  | ⟨2, _⟩ => show win0_0.index t (2 : Fin 3) * 2304 + 1 * k.val = k.val; omega

theorem emb1 (t : Fin grid0.N) (i j : Fin 1) (n : Fin 512) :
    ((cfg0.win 1).blk t).view.emb (ix3 i j n) = ix3 (bat t) (0 : Fin 1) (tok t n) := by
  obtain ⟨e0, e1, e2⟩ := at1 t
  funext a; apply Fin.ext
  match a with
  | ⟨0, _⟩ => show win0_1.index t (0 : Fin 3) * 1 + 1 * i.val = t.val / 4; omega
  | ⟨1, _⟩ => show win0_1.index t (1 : Fin 3) * 1 + 1 * j.val = 0; omega
  | ⟨2, _⟩ => show win0_1.index t (2 : Fin 3) * 512 + 1 * n.val = t.val % 4 * 512 + n.val; omega

theorem emb2 (t : Fin grid0.N) (k : Fin 2304) (j : Fin 12288) :
    ((cfg0.win 2).blk t).view.emb (ix2 k j) = ix2 k j := by
  obtain ⟨e0, e1⟩ := at2 t
  funext a; apply Fin.ext
  match a with
  | ⟨0, _⟩ => show win0_2.index t (0 : Fin 2) * 2304 + 1 * k.val = k.val; omega
  | ⟨1, _⟩ => show win0_2.index t (1 : Fin 2) * 12288 + 1 * j.val = j.val; omega

theorem emb3 (t : Fin grid0.N) (i : Fin 1) (j : Fin 12288) :
    ((cfg0.win 3).blk t).view.emb (ix2 i j) = ix2 (0 : Fin 1) j := by
  obtain ⟨e0, e1⟩ := at3 t
  funext a; apply Fin.ext
  match a with
  | ⟨0, _⟩ => show win0_3.index t (0 : Fin 2) * 1 + 1 * i.val = 0; omega
  | ⟨1, _⟩ => show win0_3.index t (1 : Fin 2) * 12288 + 1 * j.val = j.val; omega

theorem emb4 (t : Fin grid0.N) (i : Fin 1) (n : Fin 512) (j : Fin 6144) :
    ((cfg0.win 4).blk t).view.emb (ix3 i n j) = ix3 (bat t) (tok t n) j := by
  obtain ⟨e0, e1, e2⟩ := at4 t
  funext a; apply Fin.ext
  match a with
  | ⟨0, _⟩ => show win0_4.index t (0 : Fin 3) * 1 + 1 * i.val = t.val / 4; omega
  | ⟨1, _⟩ => show win0_4.index t (1 : Fin 3) * 512 + 1 * n.val = t.val % 4 * 512 + n.val; omega
  | ⟨2, _⟩ => show win0_4.index t (2 : Fin 3) * 6144 + 1 * j.val = j.val; omega

theorem emb5 (t : Fin grid0.N) (i j : Fin 1) (n : Fin 512) :
    ((cfg0.win 5).blk t).view.emb (ix3 i j n) = ix3 (bat t) (0 : Fin 1) (tok t n) := by
  obtain ⟨e0, e1, e2⟩ := at5 t
  funext a; apply Fin.ext
  match a with
  | ⟨0, _⟩ => show win0_5.index t (0 : Fin 3) * 1 + 1 * i.val = t.val / 4; omega
  | ⟨1, _⟩ => show win0_5.index t (1 : Fin 3) * 1 + 1 * j.val = 0; omega
  | ⟨2, _⟩ => show win0_5.index t (2 : Fin 3) * 512 + 1 * n.val = t.val % 4 * 512 + n.val; omega

theorem row_apply (v : Vec Ideal S12288 .f32) (h : S12288.ShapeCasts S1x12288) (j : Fin 12288) :
    shapeCast S1x12288 v h (ix2 (0 : Fin 1) j) = v (ix1 j) := by
  pointwise

/-- The four arguments as launched. -/
abbrev A0 : Vec Ideal S6x2048x2304 .fp8e4m3 := m ((c : Thread nD τ).loc main_arg0)
abbrev A1 : Vec Ideal S6x1x2048 .f32 := m ((c : Thread nD τ).loc main_arg1)
abbrev A2 : Vec Ideal S2304x12288 .fp8e4m3 := m ((c : Thread nD τ).loc main_arg2)
abbrev A3 : Vec Ideal S12288 .f32 := m ((c : Thread nD τ).loc main_arg3)

theorem iblk0 (t : Fin grid0.N) (i : Fin 1) (n : Fin 512) (k : Fin 2304) :
    iblk m c 0 t (ix3 i n k) = A0 m c (ix3 (bat t) (tok t n) k) := by
  show V m c main_arg0 (((cfg0.win 0).blk t).view.emb (ix3 i n k)) = _
  rw [emb0, V_main_arg0]

theorem iblk1 (t : Fin grid0.N) (i j : Fin 1) (n : Fin 512) :
    iblk m c 1 t (ix3 i j n) = A1 m c (ix3 (bat t) (0 : Fin 1) (tok t n)) := by
  show V m c main_arg1 (((cfg0.win 1).blk t).view.emb (ix3 i j n)) = _
  rw [emb1, V_main_arg1]

theorem iblk2 (t : Fin grid0.N) (k : Fin 2304) (j : Fin 12288) : iblk m c 2 t (ix2 k j) = A2 m c (ix2 k j) := by
  show V m c main_arg2 (((cfg0.win 2).blk t).view.emb (ix2 k j)) = _
  rw [emb2, V_main_arg2]

theorem iblk3 (t : Fin grid0.N) (i : Fin 1) (j : Fin 12288) : iblk m c 3 t (ix2 i j) = A3 m c (ix1 j) := by
  show V m c main_v0 (((cfg0.win 3).blk t).view.emb (ix2 i j)) = _
  rw [emb3, V_main_v0]
  exact row_apply _ _ j

section
variable {x0 : Vec Ideal S1x512x2304 .fp8e4m3} {x1 : Vec Ideal S1x1x512 .f32} {x2 : Vec Ideal S2304x12288 .fp8e4m3} {x3 : Vec Ideal S1x12288 .f32}
  {a0 : Vec Ideal S6x2048x2304 .fp8e4m3} {a1 : Vec Ideal S6x1x2048 .f32} {a2 : Vec Ideal S2304x12288 .fp8e4m3} {a3 : Vec Ideal S12288 .f32}
  {b : Fin 6} {f : Fin 512 → Fin 2048} (h0 : ∀ n k, x0 (ix3 (0 : Fin 1) n k) = a0 (ix3 b (f n) k))
  (h1 : ∀ n, x1 (ix3 (0 : Fin 1) (0 : Fin 1) n) = a1 (ix3 b (0 : Fin 1) (f n))) (h2 : ∀ k j, x2 (ix2 k j) = a2 (ix2 k j))
  (h3 : ∀ j, x3 (ix2 (0 : Fin 1) j) = a3 (ix1 j))
include h0 h1 h2 h3

/-- A block that reads the arrays at a batch and a run of tokens has their projections. -/
theorem bproj_of (n : Fin 512) (j : Fin 12288) : bproj x0 x1 x2 x3 n j = Cert.Gateup.Spec.proj a0 a1 a2 a3 b (f n) j := by
  unfold bproj Cert.Gateup.Spec.proj
  simp only [h0, h1, h2, h3]

theorem bact_of (n : Fin 512) (j : Fin 6144) : bact x0 x1 x2 x3 n j = Cert.Gateup.Spec.act a0 a1 a2 a3 b (f n) j := by
  unfold bact Cert.Gateup.Spec.act
  simp only [bproj_of h0 h1 h2 h3]

theorem btop_of (n : Fin 512) : btop x0 x1 x2 x3 n = Cert.Gateup.Spec.top a0 a1 a2 a3 b (f n) := by
  unfold btop Cert.Gateup.Spec.top
  simp only [bact_of h0 h1 h2 h3]

theorem codes_of (i : Fin 1) (n : Fin 512) (j : Fin 6144) : View.canon (codes x0 x1 x2 x3) (ix3 i n j)
    = Cert.GateupRefIdeal.Gen.k0_pay3 a0 a1 a2 a3 (ix3 b (f n) j) := by
  rw [codes_canon, bact_of h0 h1 h2 h3, btop_of h0 h1 h2 h3]
  exact (Cert.Gateup.Spec.pay3_apply a0 a1 a2 a3 _ _ _).symm

theorem scales_of (i l : Fin 1) (n : Fin 512) : sclRow (scales x0 x1 x2 x3) (ix3 i l n)
    = Cert.GateupRefIdeal.Gen.k0_pay4 a0 a1 a2 a3 (ix3 b (0 : Fin 1) (f n)) := by
  rw [sclRow_apply, scales_apply, btop_of h0 h1 h2 h3]
  exact (Cert.Gateup.Spec.pay4_apply a0 a1 a2 a3 _ _ _).symm
end

/-- An index of a rank-three array is its three coordinates. -/
theorem eta3 {p q r : ℕ} (y : (⟨3, ![p, q, r]⟩ : Shape).Idx) : ∃ (i : Fin p) (n : Fin q) (j : Fin r), y = ix3 i n j :=
  ⟨y 0, y 1, y 2, by
    funext a
    match a with
    | ⟨0, _⟩ => rfl
    | ⟨1, _⟩ => rfl
    | ⟨2, _⟩ => rfl⟩

/-- A block whose entries are an array's at the point's batch and tokens is the array's block. -/
theorem block4 (t : Fin grid0.N) (X : Vec Ideal S1x512x6144 .fp8e4m3) (G : Vec Ideal S6x2048x6144 .fp8e4m3)
    (h : ∀ (i : Fin 1) (n : Fin 512) (j : Fin 6144), X (ix3 i n j) = G (ix3 (bat t) (tok t n) j)) :
    (cfg0.win 4).cut (grid0.coords t) X = ((cfg0.win 4).blk t).view.read (Elt Ideal) G := by
  funext y
  show X y = G (((cfg0.win 4).blk t).view.emb y)
  obtain ⟨i, n, j, rfl⟩ := eta3 y
  rw [emb4]
  exact h i n j

theorem block5 (t : Fin grid0.N) (X : Vec Ideal S1x1x512 .f32) (G : Vec Ideal S6x1x2048 .f32)
    (h : ∀ (i l : Fin 1) (n : Fin 512), X (ix3 i l n) = G (ix3 (bat t) (0 : Fin 1) (tok t n))) :
    (cfg0.win 5).cut (grid0.coords t) X = ((cfg0.win 5).blk t).view.read (Elt Ideal) G := by
  funext y
  show X y = G (((cfg0.win 5).blk t).view.emb y)
  obtain ⟨i, l, n, rfl⟩ := eta3 y
  rw [emb5]
  exact h i l n

/-- The two arrays of the reference, at the kernel's arguments. -/
noncomputable def R4 : Vec Ideal S6x2048x6144 .fp8e4m3 := Cert.GateupRefIdeal.Gen.k0_pay3 (A0 m c) (A1 m c) (A2 m c) (A3 m c)
noncomputable def R5 : Vec Ideal S6x1x2048 .f32 := Cert.GateupRefIdeal.Gen.k0_pay4 (A0 m c) (A1 m c) (A2 m c) (A3 m c)

theorem block4_eq (t : Fin grid0.N) (i : Fin 1) (n : Fin 512) (j : Fin 6144) :
    View.canon (codes (iblk m c 0 t) (iblk m c 1 t) (iblk m c 2 t) (iblk m c 3 t)) (ix3 i n j)
      = R4 m c (ix3 (bat t) (tok t n) j) := by
  unfold R4
  exact codes_of (iblk0 m c t 0) (iblk1 m c t 0 0) (iblk2 m c t) (iblk3 m c t 0) i n j

theorem block5_eq (t : Fin grid0.N) (i l : Fin 1) (n : Fin 512) :
    sclRow (scales (iblk m c 0 t) (iblk m c 1 t) (iblk m c 2 t) (iblk m c 3 t)) (ix3 i l n)
      = R5 m c (ix3 (bat t) (0 : Fin 1) (tok t n)) := by
  unfold R5
  exact scales_of (iblk0 m c t 0) (iblk1 m c t 0 0) (iblk2 m c t) (iblk3 m c t 0) i l n

theorem flushed4_eq (t : Fin cfg0.N) :
    (dats m 0 c).flushed 4 t = ((cfg0.win 4).blk t).view.read (Elt Ideal) (R4 m c) :=
  (Cert.GateupIdeal.Value.flushed4 m c t).trans
    ((congrArg ((cfg0.win 4).cut (grid0.coords t)) (out4_read m c t)).trans (block4 t _ _ (block4_eq m c t)))

theorem flushed5_eq (t : Fin cfg0.N) :
    (dats m 0 c).flushed 5 t = ((cfg0.win 5).blk t).view.read (Elt Ideal) (R5 m c) :=
  (Cert.GateupIdeal.Value.flushed5 m c t).trans
    ((congrArg ((cfg0.win 5).cut (grid0.coords t)) (out5_read m c t)).trans (block5 t _ _ (block5_eq m c t)))

/-- The grid point whose block holds a token. -/
def pnt (b : Fin 6) (n : Fin 2048) : Fin cfg0.N := ⟨4 * b.val + n.val / 512, by show _ < 24; omega⟩

theorem bat_pnt (b : Fin 6) (n : Fin 2048) : bat (pnt b n) = b := by
  apply Fin.ext; show (4 * b.val + n.val / 512) / 4 = b.val; omega

theorem tok_pnt (b : Fin 6) (n : Fin 2048) : tok (pnt b n) ⟨n.val % 512, by omega⟩ = n := by
  apply Fin.ext; show (4 * b.val + n.val / 512) % 4 * 512 + n.val % 512 = n.val; omega

theorem covered4 (i : S6x2048x6144.Idx) :
    ∃ t : Fin cfg0.N, (cfg0.win 4).flush t = true ∧ i ∈ ((cfg0.win 4).blk t).view.set := by
  obtain ⟨b, n, j, rfl⟩ := eta3 i
  refine ⟨pnt b n, flush0_4 _, ?_⟩
  have h := ((cfg0.win 4).blk (pnt b n)).view.emb_mem_set (ix3 (0 : Fin 1) (⟨n.val % 512, by omega⟩ : Fin 512) j)
  rwa [emb4, bat_pnt, tok_pnt] at h

theorem covered5 (i : S6x1x2048.Idx) :
    ∃ t : Fin cfg0.N, (cfg0.win 5).flush t = true ∧ i ∈ ((cfg0.win 5).blk t).view.set := by
  obtain ⟨b, j, n, rfl⟩ := eta3 i
  obtain rfl : j = 0 := Subsingleton.elim _ _
  refine ⟨pnt b n, flush0_5 _, ?_⟩
  have h := ((cfg0.win 5).blk (pnt b n)).view.emb_mem_set (ix3 (0 : Fin 1) (0 : Fin 1) (⟨n.val % 512, by omega⟩ : Fin 512))
  rwa [emb5, bat_pnt, tok_pnt] at h

/-- The array of codes after the run. -/
theorem final4 : (dats m 0 c).arrAt 4 cfg0.N = R4 m c :=
  (dats m 0 c).arrAt_eq_of_cover 4 (R4 m c) (fun t _ => flushed4_eq m c t) covered4

/-- The array of scales after the run. -/
theorem final5 : (dats m 0 c).arrAt 5 cfg0.N = R5 m c :=
  (dats m 0 c).arrAt_eq_of_cover 5 (R5 m c) (fun t _ => flushed5_eq m c t) covered5

end Cert.GateupIdeal.Gen

namespace Cert.Gateup

open Idealize.ShloMosaic Idealize.ShloMosaic.TcCoe Idealize.SL.Sem

/-- The kernel and its reference end with the same codes and scales. -/
theorem algebraic : Cert.algebraic_GateupIdeal_GateupRefIdeal (hGateupIdeal := Cert.GateupIdeal.Gen.facts)
    (hGateupRefIdeal := Cert.GateupRefIdeal.Gen.facts) := by
  intro m g m' g' _ hin
  refine ⟨fun c => Cert.GateupIdeal.Gen.R4 m c, fun c => Cert.GateupIdeal.Gen.R5 m c, ?_, ?_⟩
  · refine (θ_run _ _ _).mono (fun r h c => ?_) (Cert.GateupIdeal.Value.run_blocks (F := Ideal) m g)
    obtain ⟨h4, h5, hk⟩ := h c
    exact ⟨h4.trans (Cert.GateupIdeal.Gen.final4 m c), h5.trans (Cert.GateupIdeal.Gen.final5 m c), hk⟩
  · refine (θ_run _ _ _).mono (fun r h c => ?_) (Cert.GateupRefIdeal.Value.run (F := Ideal) m' g')
    obtain ⟨h4, h5, hk⟩ := h c
    obtain ⟨q0, q1, q2, q3⟩ := hin c
    rw [q0, q1, q2, q3] at h4 h5
    exact ⟨h4, h5, hk⟩

/-- The two named constants stand for the numbers their words round. -/
theorem preserves : Cert.preserves_Gateup_GateupIdeal :=
  ⟨IdealRules.named_const.statement Cert.GateupIdeal.κ "neg_log2e" .f32 0xBFB8AA3B#32 _ rfl,
    IdealRules.named_const.statement Cert.GateupIdeal.κ "inv_448" .f32 0x3B124925#32 _ rfl⟩

end Cert.Gateup
-- ==== Proof.Down.Pay.lean ====
/- The kernel quantises the eighteen groups of 128 columns with the same computation, cut into payloads at different
   places, once for the residual and once for what the residual's codes leave. This module writes the payloads with one
   group, one exponent, one term of the codes and one step of the scales' lanes, for any float instance. -/
module

public import proofs.«01_k».proof.Proof.Gen.DownIdeal.Value

@[expose] public section

set_option maxRecDepth 16384

namespace Cert.DownIdeal.Gen

open Idealize.ShloMosaic Idealize.ShloMosaic.TcCoe

variable {F : FTy → Type} [FloatOps F] [Named F]

theorem slicesO (o : ℕ) (ho : o ≤ 2176) : S512x2304.Slices ![0, o] S512x128 := by
  refine ⟨rfl, ?_⟩
  intro a; fin_cases a <;> simp [S512x2304, S512x128] <;> omega

theorem inbO (o : ℕ) (ho : o ≤ 2176) : ∀ a, (![0, 0, o] : Fin 3 → Nat) a + S1x512x128.size a ≤ S1x512x2304.size a := by
  intro a; fin_cases a <;> simp [S1x512x128, S1x512x2304] <;> omega

/-- The group of columns from `o` on. -/
noncomputable def part (V : FVec F S512x2304 .f32) (o : ℕ) (ho : o ≤ 2176) : FVec F S512x128 .f32 :=
  extractStridedSlice S512x128 ![0, o] V (slicesO o ho)

/-- The exponent of a group's scale, less one. -/
noncomputable def expo (P : FVec F S512x128 .f32) : FVec F S512x1 .f32 :=
  select (cmpf .oeq (mulf (shapeCast S512x1 (multiReduction .maximumf [1] S512 (absf P) 0xFF800000#32 reduces_S512x128_S512 (.inl rfl) rfl) shapeCasts_S512_S512x1)
      (broadcast S512x1 (Named.named κ "inv_448" 0x3B124925#32))) (broadcast S512x1 (Scalar.ofBits .f32 0x00000000#32)))
    (broadcast S512x1 (Scalar.ofBits .f32 0xBF800000#32))
    (floor (mulf (log (mulf (shapeCast S512x1 (multiReduction .maximumf [1] S512 (absf P) 0xFF800000#32 reduces_S512x128_S512 (.inl rfl) rfl) shapeCasts_S512_S512x1)
      (broadcast S512x1 (Named.named κ "inv_448" 0x3B124925#32)))) (broadcast S512x1 (Named.named κ "log2e" 0x3FB8AA3B#32))))

/-- The scale of a group. -/
noncomputable def scl (P : FVec F S512x128 .f32) : FVec F S512x1 .f32 :=
  exp2 (addf (expo P) (broadcast S512x1 (Scalar.ofBits .f32 0x3F800000#32)))

/-- The codes of a group, as the kernel stores them. -/
noncomputable def cod (P : FVec F S512x128 .f32) : FVec F S1x512x128 .fp8e4m3 :=
  shapeCast S1x512x128 (truncf .fp8e4m3 (minimumf (broadcast S512x128 (Scalar.ofBits .f32 0x43E00000#32))
    (maximumf (broadcast S512x128 (Scalar.ofBits .f32 0xC3E00000#32))
      (mulf P (broadcastTo S512x128 (exp2 (subf (broadcast S512x1 (Scalar.ofBits .f32 0xBF800000#32)) (expo P)))
        broadcasts_S512x1_S512x128)))) bitsLt_fp8e4m3_f32) shapeCasts_S512x128_S1x512x128

/-- A group's scale put at its lane. -/
noncomputable def step (g : BitVec 32) (s : FVec F S512x1 .f32) (A : FVec F S512x128 .f32) : FVec F S512x128 .f32 :=
  select (cmpi .eq (iota .tc S512x128 32 [1] iota_S512x128_d1_w32) (broadcast S512x128 g))
    (broadcastTo S512x128 (shapeCast S512x1 s shapeCasts_S512x1_S512x1) broadcasts_S512x1_S512x128) A

/-- The scales as the kernel stores them, a row a group. -/
noncomputable def rows (A : FVec F S512x128 .f32) : FVec F S1x18x512 .f32 :=
  shapeCast S1x18x512 (extractStridedSlice S18x512 ![0, 0] (transpose S128x512 [1, 0] A transposes_S512x128_p1_0_S128x512)
    slices_S128x512_o0_0_S18x512) shapeCasts_S18x512_S1x18x512

/-- Where the groups begin. -/
def offs : List {o : ℕ // o ≤ 2176} :=
  [⟨0, by omega⟩, ⟨128, by omega⟩, ⟨256, by omega⟩, ⟨384, by omega⟩, ⟨512, by omega⟩, ⟨640, by omega⟩, ⟨768, by omega⟩,
   ⟨896, by omega⟩, ⟨1024, by omega⟩, ⟨1152, by omega⟩, ⟨1280, by omega⟩, ⟨1408, by omega⟩, ⟨1536, by omega⟩, ⟨1664, by omega⟩,
   ⟨1792, by omega⟩, ⟨1920, by omega⟩, ⟨2048, by omega⟩, ⟨2176, by omega⟩]

/-- The scales of all groups, along the lanes. -/
noncomputable def lanes (V : FVec F S512x2304 .f32) : FVec F S512x128 .f32 :=
  offs.foldl (fun A o => step (BitVec.ofNat 32 (o.1 / 128)) (scl (part V o.1 o.2)) A) k0_pay11

/-- The stores of the codes. -/
noncomputable def codes (V : FVec F S512x2304 .f32) : List (View.Piece (Elt F) S1x512x2304 .fp8e4m3) :=
  offs.reverse.map fun o => ⟨Rect.unit ![0, 0, o.1] S1x512x128.size (inbO o.1 o.2), cod (part V o.1 o.2)⟩

section
variable (x0 : Vec F S1x512x6144 .fp8e4m3) (x1 : Vec F S1x1x512 .f32) (x2 : Vec F S6144x2304 .fp8e4m3) (x3 : Vec F S1x2304 .f32)
  (x4 : Vec F S1x512x2304 .f32) (x5 : Vec F S1x512x2304 .bf16) (x6 : Vec F S1x1x2304 .f32) (x7 : Vec F S1x512x2304 .fp8e4m3)
  (x8 : Vec F S1x24x512 .f32)

theorem out10_eq : out0_10 x0 x1 x2 x3 x4 x5 x6 x7 x8 = View.canon (codes (k0_pay199 x0 x1 x2 x3 x4 x5 x6 x7 x8)) := rfl

theorem out12_eq : out0_12 x0 x1 x2 x3 x4 x5 x6 x7 x8 = View.canon (codes (k0_pay201 x0 x1 x2 x3 x4 x5 x6 x7 x8)) := rfl

theorem out11_eq : out0_11 x0 x1 x2 x3 x4 x5 x6 x7 x8 = View.canon [⟨r0_25, rows (lanes (k0_pay199 x0 x1 x2 x3 x4 x5 x6 x7 x8))⟩] := rfl

theorem out13_eq : out0_13 x0 x1 x2 x3 x4 x5 x6 x7 x8 = View.canon [⟨r0_25, rows (lanes (k0_pay201 x0 x1 x2 x3 x4 x5 x6 x7 x8))⟩] := rfl
end

end Cert.DownIdeal.Gen
-- ==== Proof.Lib.Pow.lean ====
/- The quantiser whose scales are powers of two: its exponent, its scale and its codes, and the kernel's way of writing them. -/
module

public import proofs.«01_k».proof.Proof.Lib.Quant

@[expose] public section

namespace Cert.Lib

open Idealize.ShloMosaic

/-- The exponent of `t = a / 448`, rounded down. -/
noncomputable def floorE (a : EReal) : EReal :=
  Ideal.liftRound Int.floor (Ideal.log (a * ((1 / 448 : ℝ) : EReal)) * (((Real.log 2)⁻¹ : ℝ) : EReal))

/-- The exponent of a group's scale, from its largest magnitude. -/
noncomputable def expE (a : EReal) : EReal := if a = 0 then 0 else floorE a + 1

/-- The exponent of a group's scale less one, as the kernel has it. -/
noncomputable def preE (a : EReal) : EReal := if a * ((1 / 448 : ℝ) : EReal) = 0 then -1 else floorE a

theorem mul_c_eq_zero (a : EReal) : a * ((1 / 448 : ℝ) : EReal) = 0 ↔ a = 0 := by
  rw [mul_eq_zero]
  refine or_iff_left ?_
  norm_num

theorem neg_one_coe : (-1 : EReal) = ((-1 : ℝ) : EReal) := rfl

theorem preE_add (a : EReal) : preE a + 1 = expE a := by
  unfold preE expE
  simp only [mul_c_eq_zero]
  split_ifs
  · rw [neg_one_coe, ← EReal.coe_one, ← EReal.coe_add]
    norm_num
  · rfl

theorem neg_sub_preE (a : EReal) : -1 - preE a = 0 - expE a := by
  rw [← preE_add]
  induction preE a using EReal.rec with
  | bot => rfl
  | top => rfl
  | coe r =>
    rw [neg_one_coe, ← EReal.coe_one, ← EReal.coe_add, ← EReal.coe_zero, ← EReal.coe_sub, ← EReal.coe_sub]
    congr 1
    ring

/-- The scale of a group. -/
noncomputable def powE (a : EReal) : EReal := Ideal.exp2 (expE a)

/-- The code of `x` in a group whose largest magnitude is `a`. -/
noncomputable def gcodeE (x a : EReal) : EReal := clampE (x * Ideal.exp2 (0 - expE a))

/-- The largest magnitude of a row's group of 128 columns. -/
noncomputable def gtop (f : Fin 2304 → EReal) (g : Fin 18) : EReal :=
  (Finset.univ : Finset (Fin 128)).fold max ⊥ fun l => absE (f ⟨128 * g.val + l.val, by omega⟩)

/-- The group a column is in. -/
def grp (j : Fin 2304) : Fin 18 := ⟨j.val / 128, by omega⟩

theorem sc_neg1 : (Scalar.ofBits .f32 0xBF800000#32 : Ideal .f32) = (-1 : EReal) := by
  show Ideal.ofBits .f32 0xBF800000#32 = _
  simp [Ideal.ofBits, Ideal.ieee, -EReal.coe_mul]; norm_num

variable {s : Shape}

/-- The kernel's exponent at an index. -/
theorem pre_apply (A : FVec Ideal s .f32) (c l : Ideal .f32) (hc : c = ((1 / 448 : ℝ) : EReal))
    (hl : l = (((Real.log 2)⁻¹ : ℝ) : EReal)) (i : s.Idx) :
    select (cmpf .oeq (mulf A (broadcast s c)) (broadcast s (Scalar.ofBits .f32 0x00000000#32)))
      (broadcast s (Scalar.ofBits .f32 0xBF800000#32)) (floor (mulf (log (mulf A (broadcast s c))) (broadcast s l))) i = preE (A i) := by
  rw [sc_zero, sc_neg1, select_generic, ValueIdx.mulf_apply, hc, hl]
  simp only [ValueIdx.broadcast_apply]
  rfl

/-- The reference's exponent at an index. -/
theorem exp_apply (A : FVec Ideal s .f32) (c l : Ideal .f32) (hc : c = ((1 / 448 : ℝ) : EReal))
    (hl : l = (((Real.log 2)⁻¹ : ℝ) : EReal)) (i : s.Idx) :
    select (cmpf .oeq A (broadcast s (Scalar.ofBits .f32 0x00000000#32))) (broadcast s (Scalar.ofBits .f32 0x00000000#32))
      (addf (floor (mulf (log (mulf A (broadcast s c))) (broadcast s l))) (broadcast s (Scalar.ofBits .f32 0x3F800000#32))) i = expE (A i) := by
  rw [sc_zero, sc_one, select_generic, hc, hl]
  simp only [ValueIdx.broadcast_apply]
  rfl

theorem exp2_add_apply (A : FVec Ideal s .f32) (i : s.Idx) :
    exp2 (addf A (broadcast s (Scalar.ofBits .f32 0x3F800000#32))) i = Ideal.exp2 (A i + 1) := by
  rw [sc_one]; rfl

theorem exp2_neg1_sub_apply (A : FVec Ideal s .f32) (i : s.Idx) :
    exp2 (subf (broadcast s (Scalar.ofBits .f32 0xBF800000#32)) A) i = Ideal.exp2 (-1 - A i) := by
  rw [sc_neg1]; rfl

theorem exp2_zero_sub_apply (A : FVec Ideal s .f32) (i : s.Idx) :
    exp2 (subf (broadcast s (Scalar.ofBits .f32 0x00000000#32)) A) i = Ideal.exp2 (0 - A i) := by
  rw [sc_zero]; rfl

theorem exp2_apply (A : FVec Ideal s .f32) (i : s.Idx) : exp2 A i = Ideal.exp2 (A i) := rfl

end Cert.Lib
-- ==== Proof.Down.Block.lean ====
/- What a block of the kernel holds, index by index: the layer's output, the codes and scales of a vector's groups, and the
   kept change expanded by a product with ones. -/
module

public import proofs.«01_k».proof.Proof.Down.Pay
public import proofs.«01_k».proof.Proof.Lib.Pow
public import Idealize.ShloMosaic.Lib.Pipeline.ValueKit.Tiles

@[expose] public section

set_option maxRecDepth 16384

namespace Cert.DownIdeal.Gen

open Idealize.ShloMosaic Idealize.ShloMosaic.TcCoe Cert.Lib

theorem named_inv_448 : Named.named (F := Ideal) (φ := .f32) κ "inv_448" 0x3B124925#32 = ((1 / 448 : ℝ) : EReal) :=
  IdealRules.named_const.ideal_named_scalar _ _ _ _ rfl

theorem named_log2e : Named.named (F := Ideal) (φ := .f32) κ "log2e" 0x3FB8AA3B#32 = (((Real.log 2)⁻¹ : ℝ) : EReal) :=
  IdealRules.named_const.ideal_named_scalar _ _ _ _ rfl

/-! ## The groups of a vector -/

section
variable (V : FVec Ideal S512x2304 .f32) (n : Fin 512)

theorem part_apply (o : ℕ) (ho : o ≤ 2176) (l : Fin 128) : part V o ho (ix2 n l) = V (ix2 n ⟨o + l.val, by omega⟩) := by
  unfold part extractStridedSlice
  refine congrArg V ?_
  funext a; fin_cases a <;> exact Fin.ext (by simp [ix2])

theorem expo_apply (P : FVec Ideal S512x128 .f32) (i : Fin 1) :
    expo P (ix2 n i) = preE ((Finset.univ : Finset (Fin 128)).fold max ⊥ fun l => absE (P (ix2 n l))) := by
  unfold expo
  rw [pre_apply _ _ _ named_inv_448 named_log2e]
  have key : ∀ (A : FVec Ideal S512x128 .f32) (h : S512x128.Reduces [1] S512) (h1 h2) (h3 : S512.ShapeCasts S512x1),
      shapeCast S512x1 (multiReduction .maximumf [1] S512 A 0xFF800000#32 h h1 h2) h3 (ix2 n i)
        = (Finset.univ : Finset (Fin 128)).fold max (Ideal.ofBits .f32 0xFF800000#32) fun l => A (ix2 n l) := by
    intro A h h1 h2 h3; pointwise
  refine congrArg preE ((key _ _ _ _ _).trans ?_)
  rw [lit_bot]
  rfl

/-- The groups' largest magnitudes. -/
theorem part_top (g : Fin 18) (h : 128 * g.val ≤ 2176) :
    ((Finset.univ : Finset (Fin 128)).fold max ⊥ fun l => absE (part V (128 * g.val) h (ix2 n l))) = gtop (fun j => V (ix2 n j)) g := by
  simp only [part_apply]
  rfl

theorem scl_apply (P : FVec Ideal S512x128 .f32) (i : Fin 1) :
    scl P (ix2 n i) = powE ((Finset.univ : Finset (Fin 128)).fold max ⊥ fun l => absE (P (ix2 n l))) := by
  unfold scl
  rw [exp2_add_apply, expo_apply, preE_add]
  rfl

theorem cod_apply (P : FVec Ideal S512x128 .f32) (i : Fin 1) (l : Fin 128) :
    cod P (ix3 i n l) = gcodeE (P (ix2 n l)) ((Finset.univ : Finset (Fin 128)).fold max ⊥ fun l => absE (P (ix2 n l))) := by
  unfold cod
  have key : ∀ (A : FVec Ideal S512x128 .fp8e4m3) (h : S512x128.ShapeCasts S1x512x128), shapeCast S1x512x128 A h (ix3 i n l) = A (ix2 n l) := by
    intro A h; pointwise
  have key2 : ∀ (A : FVec Ideal S512x1 .f32) (h : S512x1.Broadcasts S512x128), broadcastTo S512x128 A h (ix2 n l) = A (ix2 n (0 : Fin 1)) := by
    intro A h; pointwise
  rw [key, codes_apply, ValueIdx.mulf_apply, key2, exp2_neg1_sub_apply, expo_apply, neg_sub_preE]
  rfl

theorem mem_offs (q : ℕ) (hq : q < 18) : (⟨128 * q, by omega⟩ : {o : ℕ // o ≤ 2176}) ∈ offs := by
  unfold offs
  interval_cases q <;> simp

theorem offs_mul : ∀ o ∈ offs, ∃ g : Fin 18, o.1 = 128 * g.val := by
  unfold offs
  decide

/-- The codes of a vector. -/
theorem codes_canon (j : Fin 2304) (i : Fin 1) :
    View.canon (codes V) (ix3 i n j) = gcodeE (V (ix2 n j)) (gtop (fun j => V (ix2 n j)) (grp j)) := by
  have he : ∀ (o : {o : ℕ // o ≤ 2176}) (i : Fin 1) (n : Fin 512) (l : Fin 128),
      (Rect.unit (s := S1x512x2304) ![0, 0, o.1] S1x512x128.size (inbO o.1 o.2)).idx (ix3 i n l)
      = (ix3 i n ⟨o.1 + l.val, by have := o.2; omega⟩ : S1x512x2304.Idx) := by
    intro o i n l
    funext a; apply Fin.ext; fin_cases a <;> simp [ix3]
  have hy : (ix3 i n j : S1x512x2304.Idx) = (Rect.unit (s := S1x512x2304) ![0, 0, 128 * (j.val / 128)] S1x512x128.size
      (inbO _ (by omega))).idx (ix3 i n ⟨j.val % 128, Nat.mod_lt _ (by norm_num)⟩) := by
    rw [he ⟨128 * (j.val / 128), by omega⟩]
    congr 1
    exact Fin.ext (by show j.val = 128 * (j.val / 128) + j.val % 128; omega)
  exact View.canon_apply_of_pieces (S := S1x512x2304) (Val := Elt Ideal) (e := .fp8e4m3)
    (fun y => gcodeE (V (ix2 (y 1) (y 2))) (gtop (fun j => V (ix2 (y 1) j)) (grp (y 2)))) (codes V) (by
      intro p hp x
      obtain ⟨o, ho, rfl⟩ := List.mem_map.mp hp
      obtain ⟨i, n, l, rfl⟩ : ∃ (i : Fin 1) (n : Fin 512) (l : Fin 128), x = ix3 i n l := ⟨x 0, x 1, x 2, by funext a; fin_cases a <;> rfl⟩
      obtain ⟨g, hg⟩ := offs_mul o (List.mem_reverse.mp ho)
      obtain ⟨o, ho'⟩ := o
      obtain rfl : o = 128 * g.val := hg
      show cod (F := Ideal) (part V (128 * g.val) ho') (ix3 i n l) = gcodeE (V (ix2
        ((Rect.unit (s := S1x512x2304) ![0, 0, 128 * g.val] S1x512x128.size (inbO _ ho')).idx (ix3 i n l) 1)
        ((Rect.unit (s := S1x512x2304) ![0, 0, 128 * g.val] S1x512x128.size (inbO _ ho')).idx (ix3 i n l) 2)))
        (gtop (fun j => V (ix2 ((Rect.unit (s := S1x512x2304) ![0, 0, 128 * g.val] S1x512x128.size (inbO _ ho')).idx (ix3 i n l) 1) j))
          (grp ((Rect.unit (s := S1x512x2304) ![0, 0, 128 * g.val] S1x512x128.size (inbO _ ho')).idx (ix3 i n l) 2)))
      rw [he ⟨128 * g.val, ho'⟩, cod_apply, part_top, part_apply]
      have eg : grp (⟨128 * g.val + l.val, by omega⟩ : Fin 2304) = g := Fin.ext (by show (128 * g.val + l.val) / 128 = g.val; omega)
      show _ = gcodeE (V (ix2 n ⟨128 * g.val + l.val, _⟩)) (gtop (fun j => V (ix2 n j)) (grp ⟨128 * g.val + l.val, _⟩))
      rw [eg]) (ix3 i n j)
      ⟨_, List.mem_map.mpr ⟨⟨128 * (j.val / 128), by omega⟩, List.mem_reverse.mpr (mem_offs _ (by omega)), rfl⟩, by rw [hy]; exact LoadRect.idx_mem _ _⟩

theorem step_apply (g : BitVec 32) (s : FVec Ideal S512x1 .f32) (A : FVec Ideal S512x128 .f32) (l : Fin 128) :
    step g s A (ix2 n l) = if BitVec.ofNat 32 l.val = g then s (ix2 n (0 : Fin 1)) else A (ix2 n l) := by
  unfold step
  pointwise
  by_cases h : BitVec.ofNat 32 l.val = g
  · simp [Scalar.select, IntOp.cmpi, h]
  · have hb : (BitVec.ofNat 32 l.val == g) = false := by simpa using h
    simp [Scalar.select, IntOp.cmpi, h, hb]

theorem foldl_lanes (l : Fin 128) : ∀ (L : List {o : ℕ // o ≤ 2176}) (A : FVec Ideal S512x128 .f32),
    (∀ o ∈ L, ∃ g : Fin 18, o.1 = 128 * g.val) → ∀ g : Fin 18, l.val = g.val →
    ((∃ o ∈ L, o.1 = 128 * g.val) ∨ A (ix2 n l) = powE (gtop (fun j => V (ix2 n j)) g)) →
    (L.foldl (fun A o => step (BitVec.ofNat 32 (o.1 / 128)) (scl (part V o.1 o.2)) A) A) (ix2 n l) = powE (gtop (fun j => V (ix2 n j)) g)
  | [], A, _, g, _, h => by
    rcases h with ⟨o, ho, _⟩ | h
    · simp at ho
    · exact h
  | o :: L, A, hL, g, hg, h => by
    rw [List.foldl_cons]
    refine foldl_lanes l L _ (fun o ho => hL o (List.mem_cons_of_mem _ ho)) g hg ?_
    obtain ⟨g', hg'⟩ := hL o List.mem_cons_self
    obtain ⟨o, ho'⟩ := o
    obtain rfl : o = 128 * g'.val := hg'
    have ed : 128 * g'.val / 128 = g'.val := by omega
    by_cases e : g' = g
    · right
      subst e
      rw [step_apply, if_pos (by rw [hg]; exact congrArg (BitVec.ofNat 32) ed.symm), scl_apply, part_top]
    · rcases h with ⟨p, hp, hpg⟩ | h
      · rcases List.mem_cons.mp hp with rfl | hp
        · exact absurd (Fin.ext (by simpa using hpg)) e
        · exact Or.inl ⟨p, hp, hpg⟩
      · right
        rw [step_apply, if_neg ?_, h]
        intro hb
        apply e
        apply Fin.ext
        have := congrArg BitVec.toNat (hb.trans (congrArg (BitVec.ofNat 32) ed))
        simp only [BitVec.toNat_ofNat] at this
        omega

/-- The scales of a vector. -/
theorem rows_apply (i : Fin 1) (g : Fin 18) : rows (lanes V) (ix3 i g n) = powE (gtop (fun j => V (ix2 n j)) g) := by
  have key : ∀ A : FVec Ideal S512x128 .f32, rows A (ix3 i g n) = A (ix2 n ⟨g.val, by omega⟩) := by
    intro A; unfold rows; pointwise
  rw [key]
  unfold lanes
  exact foldl_lanes V n _ offs _ offs_mul g rfl (Or.inl ⟨_, mem_offs g.val g.isLt, rfl⟩)
end

end Cert.DownIdeal.Gen
-- ==== Proof.Down.Expand.lean ====
/- The kept change expanded: the kernel writes the group scales as three parts, one exact and two zero when the scale is
   finite, and multiplies them with a matrix of zeros and ones. -/
module

public import proofs.«01_k».proof.Proof.Down.Pay
public import proofs.«01_k».proof.Proof.Lib.Pow
public import Idealize.ShloMosaic.Lib.Pipeline.ValueKit.Tiles

@[expose] public section

set_option maxRecDepth 16384

namespace Cert.DownIdeal.Gen

open Idealize.ShloMosaic Idealize.ShloMosaic.TcCoe Cert.Lib

theorem div_word : ∀ j : Fin 2304, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 j.val) 128#32) 0#32))
      (IntOp.subi (IntOp.divsi ArithUnit.vector (BitVec.ofNat 32 j.val) 128#32) 1#32)
      (IntOp.divsi ArithUnit.vector (BitVec.ofNat 32 j.val) 128#32) = BitVec.ofNat 32 (j.val / 128) := by
  decide +kernel

/-- The group of a column, as the kernel computes it from the column's number. -/
theorem pay7_apply (r : Fin 128) (j : Fin 2304) : k0_pay7 (ix2 r j) = BitVec.ofNat 32 (j.val / 128) := by
  unfold k0_pay7
  pointwise
  exact div_word j

/-- The scales in the first eighteen rows, and zero in the others, when the scales are finite. -/
theorem parts_apply (v : Vec Ideal S1x18x512 .f32) (n : Fin 512) (hv : ∀ g : Fin 18, v (ix3 (0 : Fin 1) g n) ≠ ⊤ ∧ v (ix3 (0 : Fin 1) g n) ≠ ⊥)
    (r : Fin 128) : k0_pay6 v (ix2 n r) = if h : r.val < 18 then v (ix3 (0 : Fin 1) ⟨r.val, h⟩ n) else 0 := by
  have hs : ∀ g : Fin 18, v (ix3 (0 : Fin 1) g n) - v (ix3 (0 : Fin 1) g n) = 0 := fun g => EReal.sub_self (hv g).1 (hv g).2
  unfold k0_pay6
  pointwise
  simp only [hs, sub_zero]
  split_ifs <;> first | rfl | omega

/-- The rows with a one in a group's columns. -/
theorem hit_word : ∀ (x : Fin 128) (g : Fin 18),
    (IntOp.ori
      (IntOp.ori (IntOp.cmpi CmpIPredicate.eq (BitVec.ofNat 32 x.val) (BitVec.ofNat 32 g.val))
        (IntOp.cmpi CmpIPredicate.eq (BitVec.ofNat 32 x.val) (IntOp.addi (BitVec.ofNat 32 g.val) 18#32)))
      (IntOp.cmpi CmpIPredicate.eq (BitVec.ofNat 32 x.val) (IntOp.addi (BitVec.ofNat 32 g.val) 36#32)))
    = if x.val = g.val ∨ x.val = g.val + 18 ∨ x.val = g.val + 36 then 1#1 else 0#1 := by
  decide +kernel

/-- A vector less the kept change, whose scales are finite. -/
theorem pay10_apply (R X : FVec Ideal S512x2304 .f32) (v : Vec Ideal S1x18x512 .f32) (n : Fin 512)
    (hv : ∀ g : Fin 18, v (ix3 (0 : Fin 1) g n) ≠ ⊤ ∧ v (ix3 (0 : Fin 1) g n) ≠ ⊥) (j : Fin 2304) :
    k0_pay10 R X (k0_pay6 v) (iota .tc S128x2304 32 [0] iota_S128x2304_d0_w32) k0_pay7 k0_pay8 k0_pay9 (ix2 n j)
      = R (ix2 n j) - X (ix2 n j) * v (ix3 (0 : Fin 1) (grp j) n) := by
  have key : ∀ P : FVec Ideal S512x128 .bf16,
      k0_pay10 R X P (iota .tc S128x2304 32 [0] iota_S128x2304_d0_w32) k0_pay7 k0_pay8 k0_pay9 (ix2 n j)
        = R (ix2 n j) - X (ix2 n j) * ∑ x : Fin 128, Scalar.select (if x.val = (grp j).val ∨ x.val = (grp j).val + 18 ∨ x.val = (grp j).val + 36 then 1#1 else 0#1)
          (P (ix2 n x)) 0 := by
    intro P
    simp only [← hit_word]
    unfold k0_pay10 k0_pay8 k0_pay9
    pointwise [pay7_apply]
    rfl
  rw [key]
  congr 2
  have hlt := (grp j).isLt
  rw [Finset.sum_eq_single (⟨(grp j).val, by omega⟩ : Fin 128)]
  · rw [parts_apply v n hv, dif_pos hlt, if_pos (Or.inl rfl)]
    rfl
  · intro x _ hx
    have hx' : x.val ≠ (grp j).val := fun h => hx (Fin.ext h)
    rw [parts_apply v n hv]
    by_cases h : x.val < 18
    · rw [if_neg (by omega)]
      rfl
    · rw [dif_neg h]
      split_ifs <;> rfl
  · intro h
    exact absurd (Finset.mem_univ _) h

end Cert.DownIdeal.Gen
-- ==== Proof.Down.Rows.lean ====
/- The five results of a block, index by index, in terms of the blocks it reads. -/
module

public import proofs.«01_k».proof.Proof.Down.Block
public import proofs.«01_k».proof.Proof.Down.Expand

@[expose] public section

set_option maxRecDepth 16384

namespace Cert.DownIdeal.Gen

open Idealize.ShloMosaic Idealize.ShloMosaic.TcCoe Cert.Lib

theorem z3 : (![0, 0, 0] : Fin 3 → Nat) = fun _ => 0 := by decide
theorem z2 : (![0, 0] : Fin 2 → Nat) = fun _ => 0 := by decide

variable (x0 : Vec Ideal S1x512x6144 .fp8e4m3) (x1 : Vec Ideal S1x1x512 .f32) (x2 : Vec Ideal S6144x2304 .fp8e4m3) (x3 : Vec Ideal S1x2304 .f32)
  (x4 : Vec Ideal S1x512x2304 .f32) (x5 : Vec Ideal S1x512x2304 .bf16) (x6 : Vec Ideal S1x1x2304 .f32) (x7 : Vec Ideal S1x512x2304 .fp8e4m3)
  (x8 : Vec Ideal S1x24x512 .f32) (n : Fin 512)

/-- The layer's output, a row of a block. -/
noncomputable def bout (j : Fin 2304) : EReal :=
  x4 (ix3 (0 : Fin 1) n j) + x6 (ix3 (0 : Fin 1) (0 : Fin 1) j)
    * ((∑ k : Fin 6144, x0 (ix3 (0 : Fin 1) n k) * x2 (ix2 k j)) * x1 (ix3 (0 : Fin 1) (0 : Fin 1) n) * x3 (ix2 (0 : Fin 1) j))

/-- What the layer changes. -/
noncomputable def bres (j : Fin 2304) : EReal := bout x0 x1 x2 x3 x4 x6 n j - x5 (ix3 (0 : Fin 1) n j)

/-- What the layer changes, less what was kept of it. -/
noncomputable def brest (j : Fin 2304) : EReal :=
  bres x0 x1 x2 x3 x4 x5 x6 n j - x7 (ix3 (0 : Fin 1) n j) * x8 (ix3 (0 : Fin 1) (⟨j.val / 128, by omega⟩ : Fin 24) n)

theorem pay2_apply (j : Fin 2304) : k0_pay2 x1 x0 x2 x4 x6 x3 (ix2 n j) = bout x0 x1 x2 x3 x4 x6 n j := by
  unfold_payloads
  pointwise
  rfl

theorem pay3_apply (i : Fin 1) (j : Fin 2304) : k0_pay3 x1 x0 x2 x4 x6 x3 (ix3 i n j) = bout x0 x1 x2 x3 x4 x6 n j := by
  have key : ∀ A : FVec Ideal S512x2304 .bf16, shapeCast S1x512x2304 A shapeCasts_S512x2304_S1x512x2304 (ix3 i n j) = A (ix2 n j) := by
    intro A; pointwise
  exact (key _).trans (pay2_apply x0 x1 x2 x3 x4 x6 n j)

theorem pay4_apply (j : Fin 2304) : k0_pay4 x1 x0 x2 x4 x6 x3 x5 (ix2 n j) = bres x0 x1 x2 x3 x4 x5 x6 n j := by
  have key : ∀ A : FVec Ideal S512x2304 .f32, subf A (extf .f32 (shapeCast S512x2304 x5 shapeCasts_S1x512x2304_S512x2304) bitsLt_bf16_f32) (ix2 n j)
      = A (ix2 n j) - x5 (ix3 (0 : Fin 1) n j) := by
    intro A; pointwise
  refine (key _).trans ?_
  rw [pay2_apply]
  rfl

theorem pay5_apply (j : Fin 2304) : k0_pay5 x7 (ix2 n j) = x7 (ix3 (0 : Fin 1) n j) := by
  unfold k0_pay5
  pointwise

theorem scl_ld (g : Fin 18) : View.ld x8 r0_6 (ix3 (0 : Fin 1) g n) = x8 (ix3 (0 : Fin 1) (⟨g.val, by omega⟩ : Fin 24) n) :=
  View.ld_unit_apply_of (S := S1x24x512) x8 _ _ _ _ _ (by intro a; fin_cases a <;> simp [ix3])

theorem pay199_eq : k0_pay199 x0 x1 x2 x3 x4 x5 x6 x7 x8 = k0_pay4 x1 x0 x2 x4 x6 x3 x5 := by
  unfold k0_pay199
  rw [View.ld_unit_zero (S := S1x512x6144) z3 _ x0, View.ld_unit_zero (S := S1x1x512) z3 _ x1, View.ld_unit_zero (S := S6144x2304) z2 _ x2,
    View.ld_unit_zero (S := S1x2304) z2 _ x3, View.ld_unit_zero (S := S1x512x2304) z3 _ x4, View.ld_unit_zero (S := S1x512x2304) z3 _ x5,
    View.ld_unit_zero (S := S1x1x2304) z3 _ x6]

theorem pay199_apply (j : Fin 2304) : k0_pay199 x0 x1 x2 x3 x4 x5 x6 x7 x8 (ix2 n j) = bres x0 x1 x2 x3 x4 x5 x6 n j := by
  rw [pay199_eq, pay4_apply]

theorem pay201_apply (hv : ∀ g : Fin 18, x8 (ix3 (0 : Fin 1) (⟨g.val, by omega⟩ : Fin 24) n) ≠ ⊤ ∧ x8 (ix3 (0 : Fin 1) (⟨g.val, by omega⟩ : Fin 24) n) ≠ ⊥)
    (j : Fin 2304) : k0_pay201 x0 x1 x2 x3 x4 x5 x6 x7 x8 (ix2 n j) = brest x0 x1 x2 x3 x4 x5 x6 x7 x8 n j := by
  unfold k0_pay201
  rw [View.ld_unit_zero (S := S1x512x2304) z3 _ x7, pay10_apply _ _ _ _ (by intro g; rw [scl_ld]; exact hv g), pay199_apply, pay5_apply, scl_ld]
  rfl

theorem out9_apply (i : Fin 1) (j : Fin 2304) : out0_9 x0 x1 x2 x3 x4 x5 x6 x7 x8 (ix3 i n j) = bout x0 x1 x2 x3 x4 x6 n j := by
  unfold out0_9
  rw [View.canon_unit_zero z3, View.ld_unit_zero (S := S1x512x6144) z3 _ x0, View.ld_unit_zero (S := S1x1x512) z3 _ x1, View.ld_unit_zero (S := S6144x2304) z2 _ x2,
    View.ld_unit_zero (S := S1x2304) z2 _ x3, View.ld_unit_zero (S := S1x512x2304) z3 _ x4, View.ld_unit_zero (S := S1x1x2304) z3 _ x6]
  exact pay3_apply x0 x1 x2 x3 x4 x6 n i j

theorem out10_apply (i : Fin 1) (j : Fin 2304) : out0_10 x0 x1 x2 x3 x4 x5 x6 x7 x8 (ix3 i n j)
    = gcodeE (bres x0 x1 x2 x3 x4 x5 x6 n j) (gtop (fun j => bres x0 x1 x2 x3 x4 x5 x6 n j) (grp j)) := by
  rw [out10_eq, codes_canon]
  simp only [pay199_apply]

theorem out11_apply (i : Fin 1) (g : Fin 18) : out0_11 x0 x1 x2 x3 x4 x5 x6 x7 x8 (ix3 i g n) = powE (gtop (fun j => bres x0 x1 x2 x3 x4 x5 x6 n j) g) := by
  rw [out11_eq, View.canon_unit_zero z3, rows_apply]
  simp only [pay199_apply]

section
variable (hv : ∀ g : Fin 18, x8 (ix3 (0 : Fin 1) (⟨g.val, by omega⟩ : Fin 24) n) ≠ ⊤ ∧ x8 (ix3 (0 : Fin 1) (⟨g.val, by omega⟩ : Fin 24) n) ≠ ⊥)
include hv

theorem out12_apply (i : Fin 1) (j : Fin 2304) : out0_12 x0 x1 x2 x3 x4 x5 x6 x7 x8 (ix3 i n j) = gcodeE (brest x0 x1 x2 x3 x4 x5 x6 x7 x8 n j) (gtop (fun j => brest x0 x1 x2 x3 x4 x5 x6 x7 x8 n j) (grp j)) := by
  rw [out12_eq, codes_canon]
  simp only [pay201_apply x0 x1 x2 x3 x4 x5 x6 x7 x8 n hv]

theorem out13_apply (i : Fin 1) (g : Fin 18) : out0_13 x0 x1 x2 x3 x4 x5 x6 x7 x8 (ix3 i g n) = powE (gtop (fun j => brest x0 x1 x2 x3 x4 x5 x6 x7 x8 n j) g) := by
  rw [out13_eq, View.canon_unit_zero z3, rows_apply]
  simp only [pay201_apply x0 x1 x2 x3 x4 x5 x6 x7 x8 n hv]
end

end Cert.DownIdeal.Gen
-- ==== Proof.Down.Spec.lean ====
/- The down projection of the whole arrays, index by index, and the reference's results as it. -/
module

public import proofs.«01_k».proof.Proof.Gen.DownRefIdeal.Value
public import proofs.«01_k».proof.Proof.Lib.Pow

@[expose] public section

namespace Cert.DownRefIdeal.Gen

open Idealize.ShloMosaic Idealize.ShloMosaic.TcCoe

variable {F : FTy → Type} [FloatOps F] [Named F] (r dq : FVec F S6x2048x2304 .f32)

theorem second_codes : k0_pay2 (k0_pay12 r dq) (k0_pay13 r dq) (k0_pay14 r dq) k0_pay15 = k0_pay10 (subf r dq) := rfl
theorem second_scales : k0_pay3 (k0_pay13 r dq) (k0_pay14 r dq) k0_pay15 = k0_pay11 (subf r dq) := rfl

end Cert.DownRefIdeal.Gen

namespace Cert.Down.Spec

open Cert.DownRefIdeal Idealize.ShloMosaic Cert.Lib

theorem named_inv_448 : Named.named (F := Ideal) (φ := .f32) κ "inv_448" 0x3B124925#32 = ((1 / 448 : ℝ) : EReal) :=
  IdealRules.named_const.ideal_named_scalar _ _ _ _ rfl

theorem named_log2e : Named.named (F := Ideal) (φ := .f32) κ "log2e" 0x3FB8AA3B#32 = (((Real.log 2)⁻¹ : ℝ) : EReal) :=
  IdealRules.named_const.ideal_named_scalar _ _ _ _ rfl

section
variable [Facts] (V : FVec Ideal S6x2048x2304 .f32) (b : Fin 6) (n : Fin 2048)

theorem pay8_apply (g : Fin 18) (l : Fin 128) : Gen.k0_pay8 V (ix4 b n g l) = V (ix3 b n ⟨128 * g.val + l.val, by omega⟩) := by
  unfold_payloads
  pointwise
  congr 2
  exact Fin.ext (by show g.val * 128 + l.val = 128 * g.val + l.val; omega)

theorem max_apply (g : Fin 18) (h : S6x2048x18x128.Reduces [3] S6x2048x18) (h1 h2) :
    multiReduction .maximumf [3] S6x2048x18 (absf (Gen.k0_pay8 V)) 0xFF800000#32 h h1 h2 (ix3 b n g)
      = gtop (fun j => V (ix3 b n j)) g := by
  have key : ∀ A : FVec Ideal S6x2048x18x128 .f32, multiReduction .maximumf [3] S6x2048x18 A 0xFF800000#32 h h1 h2 (ix3 b n g)
      = (Finset.univ : Finset (Fin 128)).fold max (Ideal.ofBits .f32 0xFF800000#32) fun l => A (ix4 b n g l) := by
    intro A; pointwise
  rw [key, lit_bot]
  simp only [absf_apply, pay8_apply]
  rfl

theorem pay9_apply (g : Fin 18) (i : Fin 1) : Gen.k0_pay9 V (ix4 b n g i) = expE (gtop (fun j => V (ix3 b n j)) g) := by
  unfold Gen.k0_pay9
  dsimp only
  rw [exp_apply _ _ _ named_inv_448 named_log2e]
  have key : ∀ (A : FVec Ideal S6x2048x18 .f32) (h : S6x2048x18.ShapeCasts S6x2048x18x1), shapeCast S6x2048x18x1 A h (ix4 b n g i) = A (ix3 b n g) := by
    intro A h; pointwise
  rw [key]
  exact congrArg expE (max_apply V b n g _ _ _)

theorem pay10_apply (j : Fin 2304) : Gen.k0_pay10 V (ix3 b n j) = gcodeE (V (ix3 b n j)) (gtop (fun j => V (ix3 b n j)) (grp j)) := by
  unfold Gen.k0_pay10
  have key : ∀ (A : FVec Ideal S6x2048x18x128 .fp8e4m3) (h : S6x2048x18x128.ShapeCasts S6x2048x2304),
      shapeCast S6x2048x2304 A h (ix3 b n j) = A (ix4 b n (grp j) (⟨j.val % 128, Nat.mod_lt _ (by norm_num)⟩ : Fin 128)) := by
    intro A h; pointwise; rfl
  rw [key, codes_apply, ValueIdx.mulf_apply, pay8_apply]
  have key2 : ∀ (A : FVec Ideal S6x2048x18x1 .f32) (h : S6x2048x18x1.Broadcasts S6x2048x18x128) (g : Fin 18) (l : Fin 128),
      broadcastTo S6x2048x18x128 A h (ix4 b n g l) = A (ix4 b n g (0 : Fin 1)) := by
    intro A h g l; pointwise
  rw [key2, exp2_zero_sub_apply, pay9_apply]
  have e : (⟨128 * (grp j).val + j.val % 128, by omega⟩ : Fin 2304) = j := Fin.ext (by
    show 128 * (j.val / 128) + j.val % 128 = j.val; omega)
  show gcodeE (V (ix3 b n ⟨128 * (grp j).val + j.val % 128, _⟩)) _ = _
  rw [e]

theorem pay11_apply (g : Fin 18) : Gen.k0_pay11 V (ix3 b g n) = powE (gtop (fun j => V (ix3 b n j)) g) := by
  unfold Gen.k0_pay11
  dsimp only
  have key : ∀ (A : FVec Ideal S6x2048x18x1 .f32) (h : S6x2048x18x1.ShapeCasts S6x2048x18) (h' : S6x2048x18.Transposes [0, 2, 1] S6x18x2048),
      transpose S6x18x2048 [0, 2, 1] (shapeCast S6x2048x18 A h) h' (ix3 b g n) = A (ix4 b n g (0 : Fin 1)) := by
    intro A h h'; pointwise
  rw [key, exp2_apply, pay9_apply]
  rfl
end

variable [Facts] (a0 : Vec Ideal S6x2048x6144 .fp8e4m3) (a1 : Vec Ideal S6x1x2048 .f32) (a2 : Vec Ideal S6144x2304 .fp8e4m3)
  (a3 : Vec Ideal S2304 .f32) (a4 : Vec Ideal S6x2048x2304 .f32) (a5 : Vec Ideal S6x2048x2304 .bf16) (a6 : Vec Ideal S6x2304 .f32)
  (a7 : Vec Ideal S6x2048x2304 .fp8e4m3) (a8 : Vec Ideal S6x24x2048 .f32) (b : Fin 6) (n : Fin 2048)

/-- The layer's output. -/
noncomputable def outE (j : Fin 2304) : EReal :=
  a4 (ix3 b n j) + a6 (ix2 b j) * ((∑ k : Fin 6144, a0 (ix3 b n k) * a2 (ix2 k j)) * a1 (ix3 b (0 : Fin 1) n) * a3 (ix1 j))

/-- What the layer changes. -/
noncomputable def resE (j : Fin 2304) : EReal := outE a0 a1 a2 a3 a4 a6 b n j - a5 (ix3 b n j)

/-- What the layer changes, less what was kept of it. -/
noncomputable def restE (j : Fin 2304) : EReal :=
  resE a0 a1 a2 a3 a4 a5 a6 b n j - a7 (ix3 b n j) * a8 (ix3 b (⟨j.val / 128, by omega⟩ : Fin 24) n)

theorem pay4_apply (j : Fin 2304) : Gen.k0_pay4 a0 a1 a2 a3 a4 a6 (ix3 b n j) = outE a0 a1 a2 a3 a4 a6 b n j := by
  unfold_payloads
  pointwise
  rfl

theorem pay5_apply (j : Fin 2304) : Gen.k0_pay5 a0 a1 a2 a3 a4 a6 (ix3 b n j) = outE a0 a1 a2 a3 a4 a6 b n j :=
  pay4_apply a0 a1 a2 a3 a4 a6 b n j

theorem pay6_apply (j : Fin 2304) : Gen.k0_pay6 a0 a1 a2 a3 a4 a6 a5 (ix3 b n j) = resE a0 a1 a2 a3 a4 a5 a6 b n j :=
  congrArg (· - a5 (ix3 b n j)) (pay4_apply a0 a1 a2 a3 a4 a6 b n j)

theorem pay7_apply (j : Fin 2304) : Gen.k0_pay7 a7 a8 (ix3 b n j) = a7 (ix3 b n j) * a8 (ix3 b (⟨j.val / 128, by omega⟩ : Fin 24) n) := by
  unfold_payloads
  pointwise

theorem rest_apply (j : Fin 2304) : subf (Gen.k0_pay6 a0 a1 a2 a3 a4 a6 a5) (Gen.k0_pay7 a7 a8) (ix3 b n j)
    = restE a0 a1 a2 a3 a4 a5 a6 a7 a8 b n j := by
  rw [ValueIdx.subf_apply, pay6_apply, pay7_apply]
  rfl

end Cert.Down.Spec
-- ==== Proof.Down.Ref.lean ====
/- The reference's five results, index by index. -/
module

public import proofs.«01_k».proof.Proof.Down.Spec

@[expose] public section

namespace Cert.DownRefIdeal.Gen

open Idealize.ShloMosaic Idealize.ShloMosaic.TcCoe Cert.Lib Cert.Down.Spec Cert.DownRefIdeal.Value

variable (a0 : Vec Ideal S6x2048x6144 .fp8e4m3) (a1 : Vec Ideal S6x1x2048 .f32) (a2 : Vec Ideal S6144x2304 .fp8e4m3)
  (a3 : Vec Ideal S2304 .f32) (a4 : Vec Ideal S6x2048x2304 .f32) (a5 : Vec Ideal S6x2048x2304 .bf16) (a6 : Vec Ideal S6x2304 .f32)
  (a7 : Vec Ideal S6x2048x2304 .fp8e4m3) (a8 : Vec Ideal S6x24x2048 .f32)
  (b : Fin 6) (n : Fin 2048)

theorem pay16_eq : k0_pay16 a0 a1 a2 a3 a4 a5 a6 a7 a8 = k0_pay6 a0 a1 a2 a3 a4 a6 a5 := by
  unfold k0_pay16
  rw [View.ld_unit_zero (S := S6x2048x6144) hz0 _ a0, View.ld_unit_zero (S := S6x1x2048) hz1 _ a1, View.ld_unit_zero (S := S6144x2304) hz2 _ a2,
    View.ld_unit_zero (S := S2304) hz3 _ a3, View.ld_unit_zero (S := S6x2048x2304) hz4 _ a4, View.ld_unit_zero (S := S6x2304) hz6 _ a6,
    View.ld_unit_zero (S := S6x2048x2304) hz4 _ a5]

theorem pay17_eq : k0_pay17 a0 a1 a2 a3 a4 a5 a6 a7 a8 = k0_pay7 a7 a8 := by
  unfold k0_pay17
  rw [View.ld_unit_zero (S := S6x2048x2304) hz4 _ a7, View.ld_unit_zero (S := S6x24x2048) hz8 _ a8]

theorem G9_apply (j : Fin 2304) : G9 a0 a1 a2 a3 a4 a5 a6 a7 a8 (ix3 b n j) = outE a0 a1 a2 a3 a4 a6 b n j :=
  Cert.Down.Spec.pay5_apply a0 a1 a2 a3 a4 a6 b n j

theorem G10_apply (j : Fin 2304) : G10 a0 a1 a2 a3 a4 a5 a6 a7 a8 (ix3 b n j)
    = gcodeE (resE a0 a1 a2 a3 a4 a5 a6 b n j) (gtop (fun j => resE a0 a1 a2 a3 a4 a5 a6 b n j) (grp j)) := by
  unfold G10
  rw [pay16_eq, Cert.Down.Spec.pay10_apply]
  simp only [Cert.Down.Spec.pay6_apply]

theorem G11_apply (g : Fin 18) : G11 a0 a1 a2 a3 a4 a5 a6 a7 a8 (ix3 b g n) = powE (gtop (fun j => resE a0 a1 a2 a3 a4 a5 a6 b n j) g) := by
  unfold G11
  rw [pay16_eq, Cert.Down.Spec.pay11_apply]
  simp only [Cert.Down.Spec.pay6_apply]

theorem G12_eq : G12 a0 a1 a2 a3 a4 a5 a6 a7 a8 = k0_pay10 (subf (k0_pay6 a0 a1 a2 a3 a4 a6 a5) (k0_pay7 a7 a8)) := by
  unfold G12 k0_pay18 k0_pay19 k0_pay20
  rw [pay16_eq, pay17_eq]
  exact second_codes _ _

theorem G13_eq : G13 a0 a1 a2 a3 a4 a5 a6 a7 a8 = k0_pay11 (subf (k0_pay6 a0 a1 a2 a3 a4 a6 a5) (k0_pay7 a7 a8)) := by
  unfold G13 k0_pay18 k0_pay19 k0_pay20
  rw [pay16_eq, pay17_eq]
  exact second_scales _ _

theorem G12_apply (j : Fin 2304) : G12 a0 a1 a2 a3 a4 a5 a6 a7 a8 (ix3 b n j)
    = gcodeE (restE a0 a1 a2 a3 a4 a5 a6 a7 a8 b n j) (gtop (fun j => restE a0 a1 a2 a3 a4 a5 a6 a7 a8 b n j) (grp j)) := by
  rw [G12_eq, Cert.Down.Spec.pay10_apply]
  simp only [Cert.Down.Spec.rest_apply]

theorem G13_apply (g : Fin 18) : G13 a0 a1 a2 a3 a4 a5 a6 a7 a8 (ix3 b g n) = powE (gtop (fun j => restE a0 a1 a2 a3 a4 a5 a6 a7 a8 b n j) g) := by
  rw [G13_eq, Cert.Down.Spec.pay11_apply]
  simp only [Cert.Down.Spec.rest_apply]

end Cert.DownRefIdeal.Gen
-- ==== Proof.Down.Final.lean ====
/- The down projection of the whole sequence: the kernel's 24 blocks are the blocks of the reference's five arrays, and they
   cover them. -/
module

public import proofs.«01_k».proof.Defs
public import proofs.«01_k».proof.Proof.Down.Rows
public import proofs.«01_k».proof.Proof.Down.Ref
public import proofs.«01_k».proof.Proof.Gen.DownIdeal.Value
public import proofs.«01_k».proof.Proof.Gen.DownRefIdeal.Value

@[expose] public section

set_option maxRecDepth 16384

namespace Cert.DownIdeal.Gen

open Idealize.ShloMosaic Idealize.ShloMosaic.TcCoe Idealize.SL.Sem Cert.Lib

variable (m : (ℓ : Loc nD τ sig) → Buf (Elt Ideal) ℓ) (c : Dev nD)

/-- The batch of a grid point. -/
def bat (t : Fin grid0.N) : Fin 6 := ⟨t.val / 4, by have h : t.val < 24 := t.isLt; omega⟩

/-- The token a row of a grid point's block is. -/
def tok (t : Fin grid0.N) (n : Fin 512) : Fin 2048 := ⟨t.val % 4 * 512 + n.val, by omega⟩

/-- The kernel's fourth operand is the fourth argument with a unit axis in front. -/
theorem V_main_v0 : V m c main_v0 = shapeCast S1x2304 (m ((c : Thread nD τ).loc main_arg3)) shapeCasts_S2304_S1x2304 := by
  show StableHlo.after hostOps0 _ (Proc.devRef .tc main_v0) = _
  after_results
  rfl

/-- The kernel's seventh operand is the seventh argument with a unit axis in the middle. -/
theorem V_main_v1 : V m c main_v1 = shapeCast S6x1x2304 (m ((c : Thread nD τ).loc main_arg6)) shapeCasts_S6x2304_S6x1x2304 := by
  show StableHlo.after hostOps0 _ (Proc.devRef .tc main_v1) = _
  after_results
  rfl

theorem at0 : ∀ t : Fin grid0.N, win0_0.index t (0 : Fin 3) = t.val / 4 ∧ win0_0.index t (1 : Fin 3) = t.val % 4 ∧ win0_0.index t (2 : Fin 3) = 0 := by
  decide +kernel
theorem at1 : ∀ t : Fin grid0.N, win0_1.index t (0 : Fin 3) = t.val / 4 ∧ win0_1.index t (1 : Fin 3) = 0 ∧ win0_1.index t (2 : Fin 3) = t.val % 4 := by
  decide +kernel
theorem at2 : ∀ t : Fin grid0.N, win0_2.index t (0 : Fin 2) = 0 ∧ win0_2.index t (1 : Fin 2) = 0 := by
  decide +kernel
theorem at3 : ∀ t : Fin grid0.N, win0_3.index t (0 : Fin 2) = 0 ∧ win0_3.index t (1 : Fin 2) = 0 := by
  decide +kernel
theorem at4 : ∀ t : Fin grid0.N, win0_4.index t (0 : Fin 3) = t.val / 4 ∧ win0_4.index t (1 : Fin 3) = t.val % 4 ∧ win0_4.index t (2 : Fin 3) = 0 := by
  decide +kernel
theorem at5 : ∀ t : Fin grid0.N, win0_5.index t (0 : Fin 3) = t.val / 4 ∧ win0_5.index t (1 : Fin 3) = t.val % 4 ∧ win0_5.index t (2 : Fin 3) = 0 := by
  decide +kernel
theorem at6 : ∀ t : Fin grid0.N, win0_6.index t (0 : Fin 3) = t.val / 4 ∧ win0_6.index t (1 : Fin 3) = 0 ∧ win0_6.index t (2 : Fin 3) = 0 := by
  decide +kernel
theorem at7 : ∀ t : Fin grid0.N, win0_7.index t (0 : Fin 3) = t.val / 4 ∧ win0_7.index t (1 : Fin 3) = t.val % 4 ∧ win0_7.index t (2 : Fin 3) = 0 := by
  decide +kernel
theorem at8 : ∀ t : Fin grid0.N, win0_8.index t (0 : Fin 3) = t.val / 4 ∧ win0_8.index t (1 : Fin 3) = 0 ∧ win0_8.index t (2 : Fin 3) = t.val % 4 := by
  decide +kernel
theorem at9 : ∀ t : Fin grid0.N, win0_9.index t (0 : Fin 3) = t.val / 4 ∧ win0_9.index t (1 : Fin 3) = t.val % 4 ∧ win0_9.index t (2 : Fin 3) = 0 := by
  decide +kernel
theorem at10 : ∀ t : Fin grid0.N, win0_10.index t (0 : Fin 3) = t.val / 4 ∧ win0_10.index t (1 : Fin 3) = t.val % 4 ∧ win0_10.index t (2 : Fin 3) = 0 := by
  decide +kernel
theorem at11 : ∀ t : Fin grid0.N, win0_11.index t (0 : Fin 3) = t.val / 4 ∧ win0_11.index t (1 : Fin 3) = 0 ∧ win0_11.index t (2 : Fin 3) = t.val % 4 := by
  decide +kernel
theorem at12 : ∀ t : Fin grid0.N, win0_12.index t (0 : Fin 3) = t.val / 4 ∧ win0_12.index t (1 : Fin 3) = t.val % 4 ∧ win0_12.index t (2 : Fin 3) = 0 := by
  decide +kernel
theorem at13 : ∀ t : Fin grid0.N, win0_13.index t (0 : Fin 3) = t.val / 4 ∧ win0_13.index t (1 : Fin 3) = 0 ∧ win0_13.index t (2 : Fin 3) = t.val % 4 := by
  decide +kernel

theorem emb0 (t : Fin grid0.N) (p : Fin 1) (q : Fin 512) (r : Fin 6144) :
    ((cfg0.win 0).blk t).view.emb (ix3 p q r) = ix3 (bat t) (tok t q) r := by
  obtain ⟨e0, e1, e2⟩ := at0 t
  funext a; apply Fin.ext
  match a with
  | ⟨0, _⟩ => show win0_0.index t (0 : Fin 3) * 1 + 1 * p.val = t.val / 4; omega
  | ⟨1, _⟩ => show win0_0.index t (1 : Fin 3) * 512 + 1 * q.val = t.val % 4 * 512 + q.val; omega
  | ⟨2, _⟩ => show win0_0.index t (2 : Fin 3) * 6144 + 1 * r.val = r.val; omega

theorem emb1 (t : Fin grid0.N) (p : Fin 1) (q : Fin 1) (r : Fin 512) :
    ((cfg0.win 1).blk t).view.emb (ix3 p q r) = ix3 (bat t) (0 : Fin 1) (tok t r) := by
  obtain ⟨e0, e1, e2⟩ := at1 t
  funext a; apply Fin.ext
  match a with
  | ⟨0, _⟩ => show win0_1.index t (0 : Fin 3) * 1 + 1 * p.val = t.val / 4; omega
  | ⟨1, _⟩ => show win0_1.index t (1 : Fin 3) * 1 + 1 * q.val = 0; omega
  | ⟨2, _⟩ => show win0_1.index t (2 : Fin 3) * 512 + 1 * r.val = t.val % 4 * 512 + r.val; omega

theorem emb2 (t : Fin grid0.N) (p : Fin 6144) (q : Fin 2304) :
    ((cfg0.win 2).blk t).view.emb (ix2 p q) = ix2 p q := by
  obtain ⟨e0, e1⟩ := at2 t
  funext a; apply Fin.ext
  match a with
  | ⟨0, _⟩ => show win0_2.index t (0 : Fin 2) * 6144 + 1 * p.val = p.val; omega
  | ⟨1, _⟩ => show win0_2.index t (1 : Fin 2) * 2304 + 1 * q.val = q.val; omega

theorem emb3 (t : Fin grid0.N) (p : Fin 1) (q : Fin 2304) :
    ((cfg0.win 3).blk t).view.emb (ix2 p q) = ix2 (0 : Fin 1) q := by
  obtain ⟨e0, e1⟩ := at3 t
  funext a; apply Fin.ext
  match a with
  | ⟨0, _⟩ => show win0_3.index t (0 : Fin 2) * 1 + 1 * p.val = 0; omega
  | ⟨1, _⟩ => show win0_3.index t (1 : Fin 2) * 2304 + 1 * q.val = q.val; omega

theorem emb4 (t : Fin grid0.N) (p : Fin 1) (q : Fin 512) (r : Fin 2304) :
    ((cfg0.win 4).blk t).view.emb (ix3 p q r) = ix3 (bat t) (tok t q) r := by
  obtain ⟨e0, e1, e2⟩ := at4 t
  funext a; apply Fin.ext
  match a with
  | ⟨0, _⟩ => show win0_4.index t (0 : Fin 3) * 1 + 1 * p.val = t.val / 4; omega
  | ⟨1, _⟩ => show win0_4.index t (1 : Fin 3) * 512 + 1 * q.val = t.val % 4 * 512 + q.val; omega
  | ⟨2, _⟩ => show win0_4.index t (2 : Fin 3) * 2304 + 1 * r.val = r.val; omega

theorem emb5 (t : Fin grid0.N) (p : Fin 1) (q : Fin 512) (r : Fin 2304) :
    ((cfg0.win 5).blk t).view.emb (ix3 p q r) = ix3 (bat t) (tok t q) r := by
  obtain ⟨e0, e1, e2⟩ := at5 t
  funext a; apply Fin.ext
  match a with
  | ⟨0, _⟩ => show win0_5.index t (0 : Fin 3) * 1 + 1 * p.val = t.val / 4; omega
  | ⟨1, _⟩ => show win0_5.index t (1 : Fin 3) * 512 + 1 * q.val = t.val % 4 * 512 + q.val; omega
  | ⟨2, _⟩ => show win0_5.index t (2 : Fin 3) * 2304 + 1 * r.val = r.val; omega

theorem emb6 (t : Fin grid0.N) (p : Fin 1) (q : Fin 1) (r : Fin 2304) :
    ((cfg0.win 6).blk t).view.emb (ix3 p q r) = ix3 (bat t) (0 : Fin 1) r := by
  obtain ⟨e0, e1, e2⟩ := at6 t
  funext a; apply Fin.ext
  match a with
  | ⟨0, _⟩ => show win0_6.index t (0 : Fin 3) * 1 + 1 * p.val = t.val / 4; omega
  | ⟨1, _⟩ => show win0_6.index t (1 : Fin 3) * 1 + 1 * q.val = 0; omega
  | ⟨2, _⟩ => show win0_6.index t (2 : Fin 3) * 2304 + 1 * r.val = r.val; omega

theorem emb7 (t : Fin grid0.N) (p : Fin 1) (q : Fin 512) (r : Fin 2304) :
    ((cfg0.win 7).blk t).view.emb (ix3 p q r) = ix3 (bat t) (tok t q) r := by
  obtain ⟨e0, e1, e2⟩ := at7 t
  funext a; apply Fin.ext
  match a with
  | ⟨0, _⟩ => show win0_7.index t (0 : Fin 3) * 1 + 1 * p.val = t.val / 4; omega
  | ⟨1, _⟩ => show win0_7.index t (1 : Fin 3) * 512 + 1 * q.val = t.val % 4 * 512 + q.val; omega
  | ⟨2, _⟩ => show win0_7.index t (2 : Fin 3) * 2304 + 1 * r.val = r.val; omega

theorem emb8 (t : Fin grid0.N) (p : Fin 1) (q : Fin 24) (r : Fin 512) :
    ((cfg0.win 8).blk t).view.emb (ix3 p q r) = ix3 (bat t) q (tok t r) := by
  obtain ⟨e0, e1, e2⟩ := at8 t
  funext a; apply Fin.ext
  match a with
  | ⟨0, _⟩ => show win0_8.index t (0 : Fin 3) * 1 + 1 * p.val = t.val / 4; omega
  | ⟨1, _⟩ => show win0_8.index t (1 : Fin 3) * 24 + 1 * q.val = q.val; omega
  | ⟨2, _⟩ => show win0_8.index t (2 : Fin 3) * 512 + 1 * r.val = t.val % 4 * 512 + r.val; omega

theorem emb9 (t : Fin grid0.N) (p : Fin 1) (q : Fin 512) (r : Fin 2304) :
    ((cfg0.win 9).blk t).view.emb (ix3 p q r) = ix3 (bat t) (tok t q) r := by
  obtain ⟨e0, e1, e2⟩ := at9 t
  funext a; apply Fin.ext
  match a with
  | ⟨0, _⟩ => show win0_9.index t (0 : Fin 3) * 1 + 1 * p.val = t.val / 4; omega
  | ⟨1, _⟩ => show win0_9.index t (1 : Fin 3) * 512 + 1 * q.val = t.val % 4 * 512 + q.val; omega
  | ⟨2, _⟩ => show win0_9.index t (2 : Fin 3) * 2304 + 1 * r.val = r.val; omega

theorem emb10 (t : Fin grid0.N) (p : Fin 1) (q : Fin 512) (r : Fin 2304) :
    ((cfg0.win 10).blk t).view.emb (ix3 p q r) = ix3 (bat t) (tok t q) r := by
  obtain ⟨e0, e1, e2⟩ := at10 t
  funext a; apply Fin.ext
  match a with
  | ⟨0, _⟩ => show win0_10.index t (0 : Fin 3) * 1 + 1 * p.val = t.val / 4; omega
  | ⟨1, _⟩ => show win0_10.index t (1 : Fin 3) * 512 + 1 * q.val = t.val % 4 * 512 + q.val; omega
  | ⟨2, _⟩ => show win0_10.index t (2 : Fin 3) * 2304 + 1 * r.val = r.val; omega

theorem emb11 (t : Fin grid0.N) (p : Fin 1) (q : Fin 18) (r : Fin 512) :
    ((cfg0.win 11).blk t).view.emb (ix3 p q r) = ix3 (bat t) q (tok t r) := by
  obtain ⟨e0, e1, e2⟩ := at11 t
  funext a; apply Fin.ext
  match a with
  | ⟨0, _⟩ => show win0_11.index t (0 : Fin 3) * 1 + 1 * p.val = t.val / 4; omega
  | ⟨1, _⟩ => show win0_11.index t (1 : Fin 3) * 18 + 1 * q.val = q.val; omega
  | ⟨2, _⟩ => show win0_11.index t (2 : Fin 3) * 512 + 1 * r.val = t.val % 4 * 512 + r.val; omega

theorem emb12 (t : Fin grid0.N) (p : Fin 1) (q : Fin 512) (r : Fin 2304) :
    ((cfg0.win 12).blk t).view.emb (ix3 p q r) = ix3 (bat t) (tok t q) r := by
  obtain ⟨e0, e1, e2⟩ := at12 t
  funext a; apply Fin.ext
  match a with
  | ⟨0, _⟩ => show win0_12.index t (0 : Fin 3) * 1 + 1 * p.val = t.val / 4; omega
  | ⟨1, _⟩ => show win0_12.index t (1 : Fin 3) * 512 + 1 * q.val = t.val % 4 * 512 + q.val; omega
  | ⟨2, _⟩ => show win0_12.index t (2 : Fin 3) * 2304 + 1 * r.val = r.val; omega

theorem emb13 (t : Fin grid0.N) (p : Fin 1) (q : Fin 18) (r : Fin 512) :
    ((cfg0.win 13).blk t).view.emb (ix3 p q r) = ix3 (bat t) q (tok t r) := by
  obtain ⟨e0, e1, e2⟩ := at13 t
  funext a; apply Fin.ext
  match a with
  | ⟨0, _⟩ => show win0_13.index t (0 : Fin 3) * 1 + 1 * p.val = t.val / 4; omega
  | ⟨1, _⟩ => show win0_13.index t (1 : Fin 3) * 18 + 1 * q.val = q.val; omega
  | ⟨2, _⟩ => show win0_13.index t (2 : Fin 3) * 512 + 1 * r.val = t.val % 4 * 512 + r.val; omega

theorem row_apply (v : Vec Ideal S2304 .f32) (h : S2304.ShapeCasts S1x2304) (j : Fin 2304) :
    shapeCast S1x2304 v h (ix2 (0 : Fin 1) j) = v (ix1 j) := by
  pointwise

theorem mid_apply (v : Vec Ideal S6x2304 .f32) (h : S6x2304.ShapeCasts S6x1x2304) (b : Fin 6) (j : Fin 2304) :
    shapeCast S6x1x2304 v h (ix3 b (0 : Fin 1) j) = v (ix2 b j) := by
  pointwise

/-- The nine arguments as launched. -/
abbrev A0 : Vec Ideal S6x2048x6144 .fp8e4m3 := m ((c : Thread nD τ).loc main_arg0)
abbrev A1 : Vec Ideal S6x1x2048 .f32 := m ((c : Thread nD τ).loc main_arg1)
abbrev A2 : Vec Ideal S6144x2304 .fp8e4m3 := m ((c : Thread nD τ).loc main_arg2)
abbrev A3 : Vec Ideal S2304 .f32 := m ((c : Thread nD τ).loc main_arg3)
abbrev A4 : Vec Ideal S6x2048x2304 .f32 := m ((c : Thread nD τ).loc main_arg4)
abbrev A5 : Vec Ideal S6x2048x2304 .bf16 := m ((c : Thread nD τ).loc main_arg5)
abbrev A6 : Vec Ideal S6x2304 .f32 := m ((c : Thread nD τ).loc main_arg6)
abbrev A7 : Vec Ideal S6x2048x2304 .fp8e4m3 := m ((c : Thread nD τ).loc main_arg7)
abbrev A8 : Vec Ideal S6x24x2048 .f32 := m ((c : Thread nD τ).loc main_arg8)

theorem iblk0 (t : Fin grid0.N) (p : Fin 1) (q : Fin 512) (r : Fin 6144) :
    iblk m c 0 t (ix3 p q r) = A0 m c (ix3 (bat t) (tok t q) r) := by
  show V m c main_arg0 (((cfg0.win 0).blk t).view.emb (ix3 p q r)) = _
  rw [emb0, V_main_arg0]

theorem iblk1 (t : Fin grid0.N) (p : Fin 1) (q : Fin 1) (r : Fin 512) :
    iblk m c 1 t (ix3 p q r) = A1 m c (ix3 (bat t) (0 : Fin 1) (tok t r)) := by
  show V m c main_arg1 (((cfg0.win 1).blk t).view.emb (ix3 p q r)) = _
  rw [emb1, V_main_arg1]

theorem iblk2 (t : Fin grid0.N) (p : Fin 6144) (q : Fin 2304) :
    iblk m c 2 t (ix2 p q) = A2 m c (ix2 p q) := by
  show V m c main_arg2 (((cfg0.win 2).blk t).view.emb (ix2 p q)) = _
  rw [emb2, V_main_arg2]

theorem iblk3 (t : Fin grid0.N) (p : Fin 1) (q : Fin 2304) :
    iblk m c 3 t (ix2 p q) = A3 m c (ix1 q) := by
  show V m c main_v0 (((cfg0.win 3).blk t).view.emb (ix2 p q)) = _
  rw [emb3, V_main_v0]
  exact row_apply _ _ q

theorem iblk4 (t : Fin grid0.N) (p : Fin 1) (q : Fin 512) (r : Fin 2304) :
    iblk m c 4 t (ix3 p q r) = A4 m c (ix3 (bat t) (tok t q) r) := by
  show V m c main_arg4 (((cfg0.win 4).blk t).view.emb (ix3 p q r)) = _
  rw [emb4, V_main_arg4]

theorem iblk5 (t : Fin grid0.N) (p : Fin 1) (q : Fin 512) (r : Fin 2304) :
    iblk m c 5 t (ix3 p q r) = A5 m c (ix3 (bat t) (tok t q) r) := by
  show V m c main_arg5 (((cfg0.win 5).blk t).view.emb (ix3 p q r)) = _
  rw [emb5, V_main_arg5]

theorem iblk6 (t : Fin grid0.N) (p : Fin 1) (q : Fin 1) (r : Fin 2304) :
    iblk m c 6 t (ix3 p q r) = A6 m c (ix2 (bat t) r) := by
  show V m c main_v1 (((cfg0.win 6).blk t).view.emb (ix3 p q r)) = _
  rw [emb6, V_main_v1]
  exact mid_apply _ _ _ r

theorem iblk7 (t : Fin grid0.N) (p : Fin 1) (q : Fin 512) (r : Fin 2304) :
    iblk m c 7 t (ix3 p q r) = A7 m c (ix3 (bat t) (tok t q) r) := by
  show V m c main_arg7 (((cfg0.win 7).blk t).view.emb (ix3 p q r)) = _
  rw [emb7, V_main_arg7]

theorem iblk8 (t : Fin grid0.N) (p : Fin 1) (q : Fin 24) (r : Fin 512) :
    iblk m c 8 t (ix3 p q r) = A8 m c (ix3 (bat t) q (tok t r)) := by
  show V m c main_arg8 (((cfg0.win 8).blk t).view.emb (ix3 p q r)) = _
  rw [emb8, V_main_arg8]

section
variable {x0 : Vec Ideal S1x512x6144 .fp8e4m3} {x1 : Vec Ideal S1x1x512 .f32} {x2 : Vec Ideal S6144x2304 .fp8e4m3} {x3 : Vec Ideal S1x2304 .f32}
  {x4 : Vec Ideal S1x512x2304 .f32} {x5 : Vec Ideal S1x512x2304 .bf16} {x6 : Vec Ideal S1x1x2304 .f32} {x7 : Vec Ideal S1x512x2304 .fp8e4m3}
  {x8 : Vec Ideal S1x24x512 .f32} {a0 : Vec Ideal S6x2048x6144 .fp8e4m3} {a1 : Vec Ideal S6x1x2048 .f32} {a2 : Vec Ideal S6144x2304 .fp8e4m3}
  {a3 : Vec Ideal S2304 .f32} {a4 : Vec Ideal S6x2048x2304 .f32} {a5 : Vec Ideal S6x2048x2304 .bf16} {a6 : Vec Ideal S6x2304 .f32}
  {a7 : Vec Ideal S6x2048x2304 .fp8e4m3} {a8 : Vec Ideal S6x24x2048 .f32}
  {b : Fin 6} {f : Fin 512 → Fin 2048} (h0 : ∀ n k, x0 (ix3 (0 : Fin 1) n k) = a0 (ix3 b (f n) k))
  (h1 : ∀ n, x1 (ix3 (0 : Fin 1) (0 : Fin 1) n) = a1 (ix3 b (0 : Fin 1) (f n))) (h2 : ∀ k j, x2 (ix2 k j) = a2 (ix2 k j))
  (h3 : ∀ j, x3 (ix2 (0 : Fin 1) j) = a3 (ix1 j)) (h4 : ∀ n j, x4 (ix3 (0 : Fin 1) n j) = a4 (ix3 b (f n) j))
  (h6 : ∀ j, x6 (ix3 (0 : Fin 1) (0 : Fin 1) j) = a6 (ix2 b j))
include h0 h1 h2 h3 h4 h6

/-- A block that reads the arrays at a batch and a run of tokens has their outputs. -/
theorem bout_of (n : Fin 512) (j : Fin 2304) : bout x0 x1 x2 x3 x4 x6 n j = Cert.Down.Spec.outE a0 a1 a2 a3 a4 a6 b (f n) j := by
  unfold bout Cert.Down.Spec.outE
  simp only [h0, h1, h2, h3, h4, h6]

variable (h5 : ∀ n j, x5 (ix3 (0 : Fin 1) n j) = a5 (ix3 b (f n) j))
include h5

theorem bres_of (n : Fin 512) (j : Fin 2304) : bres x0 x1 x2 x3 x4 x5 x6 n j = Cert.Down.Spec.resE a0 a1 a2 a3 a4 a5 a6 b (f n) j := by
  unfold bres Cert.Down.Spec.resE
  rw [bout_of h0 h1 h2 h3 h4 h6, h5]

variable (h7 : ∀ n j, x7 (ix3 (0 : Fin 1) n j) = a7 (ix3 b (f n) j)) (h8 : ∀ g n, x8 (ix3 (0 : Fin 1) g n) = a8 (ix3 b g (f n)))
include h7 h8

theorem brest_of (n : Fin 512) (j : Fin 2304) : brest x0 x1 x2 x3 x4 x5 x6 x7 x8 n j = Cert.Down.Spec.restE a0 a1 a2 a3 a4 a5 a6 a7 a8 b (f n) j := by
  unfold brest Cert.Down.Spec.restE
  rw [bres_of h0 h1 h2 h3 h4 h6 h5, h7, h8]

theorem block9_of (i : Fin 1) (n : Fin 512) (j : Fin 2304) : out0_9 x0 x1 x2 x3 x4 x5 x6 x7 x8 (ix3 i n j) = Cert.DownRefIdeal.Value.G9 a0 a1 a2 a3 a4 a5 a6 a7 a8 (ix3 b (f n) j) := by
  rw [out9_apply, bout_of h0 h1 h2 h3 h4 h6]
  exact (Cert.DownRefIdeal.Gen.G9_apply a0 a1 a2 a3 a4 a5 a6 a7 a8 _ _ _).symm

theorem block10_of (i : Fin 1) (n : Fin 512) (j : Fin 2304) : out0_10 x0 x1 x2 x3 x4 x5 x6 x7 x8 (ix3 i n j) = Cert.DownRefIdeal.Value.G10 a0 a1 a2 a3 a4 a5 a6 a7 a8 (ix3 b (f n) j) := by
  rw [out10_apply]
  simp only [bres_of h0 h1 h2 h3 h4 h6 h5]
  exact (Cert.DownRefIdeal.Gen.G10_apply a0 a1 a2 a3 a4 a5 a6 a7 a8 _ _ _).symm

theorem block11_of (i : Fin 1) (g : Fin 18) (n : Fin 512) : out0_11 x0 x1 x2 x3 x4 x5 x6 x7 x8 (ix3 i g n) = Cert.DownRefIdeal.Value.G11 a0 a1 a2 a3 a4 a5 a6 a7 a8 (ix3 b g (f n)) := by
  rw [out11_apply]
  simp only [bres_of h0 h1 h2 h3 h4 h6 h5]
  exact (Cert.DownRefIdeal.Gen.G11_apply a0 a1 a2 a3 a4 a5 a6 a7 a8 _ _ _).symm

variable (ha : ∀ (g : Fin 18) (n : Fin 2048), a8 (ix3 b (⟨g.val, by omega⟩ : Fin 24) n) ≠ ⊤ ∧ a8 (ix3 b (⟨g.val, by omega⟩ : Fin 24) n) ≠ ⊥)
include ha

theorem block12_of (i : Fin 1) (n : Fin 512) (j : Fin 2304) : out0_12 x0 x1 x2 x3 x4 x5 x6 x7 x8 (ix3 i n j) = Cert.DownRefIdeal.Value.G12 a0 a1 a2 a3 a4 a5 a6 a7 a8 (ix3 b (f n) j) := by
  rw [out12_apply _ _ _ _ _ _ _ _ _ n (fun g => by rw [h8]; exact ha g (f n))]
  simp only [brest_of h0 h1 h2 h3 h4 h6 h5 h7 h8]
  exact (Cert.DownRefIdeal.Gen.G12_apply a0 a1 a2 a3 a4 a5 a6 a7 a8 _ _ _).symm

theorem block13_of (i : Fin 1) (g : Fin 18) (n : Fin 512) : out0_13 x0 x1 x2 x3 x4 x5 x6 x7 x8 (ix3 i g n) = Cert.DownRefIdeal.Value.G13 a0 a1 a2 a3 a4 a5 a6 a7 a8 (ix3 b g (f n)) := by
  rw [out13_apply _ _ _ _ _ _ _ _ _ n (fun g => by rw [h8]; exact ha g (f n))]
  simp only [brest_of h0 h1 h2 h3 h4 h6 h5 h7 h8]
  exact (Cert.DownRefIdeal.Gen.G13_apply a0 a1 a2 a3 a4 a5 a6 a7 a8 _ _ _).symm
end

/-- An index of a rank-three array is its three coordinates. -/
theorem eta3 {p q r : ℕ} (y : (⟨3, ![p, q, r]⟩ : Shape).Idx) : ∃ (i : Fin p) (n : Fin q) (j : Fin r), y = ix3 i n j :=
  ⟨y 0, y 1, y 2, by
    funext a
    match a with
    | ⟨0, _⟩ => rfl
    | ⟨1, _⟩ => rfl
    | ⟨2, _⟩ => rfl⟩

/-- A block whose entries are an array's at the point's batch and tokens is the array's block. -/
theorem block9 (t : Fin grid0.N) (X : Vec Ideal S1x512x2304 .bf16) (G : Vec Ideal S6x2048x2304 .bf16)
    (h : ∀ (i : Fin 1) (n : Fin 512) (j : Fin 2304), X (ix3 i n j) = G (ix3 (bat t) (tok t n) j)) :
    (cfg0.win 9).cut (grid0.coords t) X = ((cfg0.win 9).blk t).view.read (Elt Ideal) G := by
  funext y
  show X y = G (((cfg0.win 9).blk t).view.emb y)
  obtain ⟨i, n, j, rfl⟩ := eta3 y
  rw [emb9]
  exact h i n j

theorem block10 (t : Fin grid0.N) (X : Vec Ideal S1x512x2304 .fp8e4m3) (G : Vec Ideal S6x2048x2304 .fp8e4m3)
    (h : ∀ (i : Fin 1) (n : Fin 512) (j : Fin 2304), X (ix3 i n j) = G (ix3 (bat t) (tok t n) j)) :
    (cfg0.win 10).cut (grid0.coords t) X = ((cfg0.win 10).blk t).view.read (Elt Ideal) G := by
  funext y
  show X y = G (((cfg0.win 10).blk t).view.emb y)
  obtain ⟨i, n, j, rfl⟩ := eta3 y
  rw [emb10]
  exact h i n j

theorem block11 (t : Fin grid0.N) (X : Vec Ideal S1x18x512 .f32) (G : Vec Ideal S6x18x2048 .f32)
    (h : ∀ (i : Fin 1) (n : Fin 18) (j : Fin 512), X (ix3 i n j) = G (ix3 (bat t) n (tok t j))) :
    (cfg0.win 11).cut (grid0.coords t) X = ((cfg0.win 11).blk t).view.read (Elt Ideal) G := by
  funext y
  show X y = G (((cfg0.win 11).blk t).view.emb y)
  obtain ⟨i, n, j, rfl⟩ := eta3 y
  rw [emb11]
  exact h i n j

theorem block12 (t : Fin grid0.N) (X : Vec Ideal S1x512x2304 .fp8e4m3) (G : Vec Ideal S6x2048x2304 .fp8e4m3)
    (h : ∀ (i : Fin 1) (n : Fin 512) (j : Fin 2304), X (ix3 i n j) = G (ix3 (bat t) (tok t n) j)) :
    (cfg0.win 12).cut (grid0.coords t) X = ((cfg0.win 12).blk t).view.read (Elt Ideal) G := by
  funext y
  show X y = G (((cfg0.win 12).blk t).view.emb y)
  obtain ⟨i, n, j, rfl⟩ := eta3 y
  rw [emb12]
  exact h i n j

theorem block13 (t : Fin grid0.N) (X : Vec Ideal S1x18x512 .f32) (G : Vec Ideal S6x18x2048 .f32)
    (h : ∀ (i : Fin 1) (n : Fin 18) (j : Fin 512), X (ix3 i n j) = G (ix3 (bat t) n (tok t j))) :
    (cfg0.win 13).cut (grid0.coords t) X = ((cfg0.win 13).blk t).view.read (Elt Ideal) G := by
  funext y
  show X y = G (((cfg0.win 13).blk t).view.emb y)
  obtain ⟨i, n, j, rfl⟩ := eta3 y
  rw [emb13]
  exact h i n j

/-- The five arrays of the reference, at the kernel's arguments. -/
noncomputable def R9 : Vec Ideal S6x2048x2304 .bf16 := Cert.DownRefIdeal.Value.G9 (A0 m c) (A1 m c) (A2 m c) (A3 m c) (A4 m c) (A5 m c) (A6 m c) (A7 m c) (A8 m c)
noncomputable def R10 : Vec Ideal S6x2048x2304 .fp8e4m3 := Cert.DownRefIdeal.Value.G10 (A0 m c) (A1 m c) (A2 m c) (A3 m c) (A4 m c) (A5 m c) (A6 m c) (A7 m c) (A8 m c)
noncomputable def R11 : Vec Ideal S6x18x2048 .f32 := Cert.DownRefIdeal.Value.G11 (A0 m c) (A1 m c) (A2 m c) (A3 m c) (A4 m c) (A5 m c) (A6 m c) (A7 m c) (A8 m c)
noncomputable def R12 : Vec Ideal S6x2048x2304 .fp8e4m3 := Cert.DownRefIdeal.Value.G12 (A0 m c) (A1 m c) (A2 m c) (A3 m c) (A4 m c) (A5 m c) (A6 m c) (A7 m c) (A8 m c)
noncomputable def R13 : Vec Ideal S6x18x2048 .f32 := Cert.DownRefIdeal.Value.G13 (A0 m c) (A1 m c) (A2 m c) (A3 m c) (A4 m c) (A5 m c) (A6 m c) (A7 m c) (A8 m c)

/-- The kept change's group scales are finite. -/
def Fin8 : Prop := ∀ (b : Fin 6) (g : Fin 18) (n : Fin 2048),
  A8 m c (ix3 b (⟨g.val, by omega⟩ : Fin 24) n) ≠ ⊤ ∧ A8 m c (ix3 b (⟨g.val, by omega⟩ : Fin 24) n) ≠ ⊥

theorem block9_eq (t : Fin grid0.N) (i : Fin 1) (n : Fin 512) (j : Fin 2304) :
    out0_9 (iblk m c 0 t) (iblk m c 1 t) (iblk m c 2 t) (iblk m c 3 t) (iblk m c 4 t) (iblk m c 5 t) (iblk m c 6 t) (iblk m c 7 t) (iblk m c 8 t) (ix3 i n j)
      = R9 m c (ix3 (bat t) (tok t n) j) := by
  unfold R9
  exact block9_of (iblk0 m c t 0) (iblk1 m c t 0 0) (iblk2 m c t) (iblk3 m c t 0) (iblk4 m c t 0) (iblk6 m c t 0 0) (iblk5 m c t 0)
    (iblk7 m c t 0) (iblk8 m c t 0) i n j

theorem flushed9_eq (t : Fin cfg0.N) :
    (dats m 0 c).flushed 9 t = ((cfg0.win 9).blk t).view.read (Elt Ideal) (R9 m c) :=
  (Cert.DownIdeal.Value.flushed9 m c t).trans (block9 t _ _ (block9_eq m c t))

theorem block10_eq (t : Fin grid0.N) (i : Fin 1) (n : Fin 512) (j : Fin 2304) :
    out0_10 (iblk m c 0 t) (iblk m c 1 t) (iblk m c 2 t) (iblk m c 3 t) (iblk m c 4 t) (iblk m c 5 t) (iblk m c 6 t) (iblk m c 7 t) (iblk m c 8 t) (ix3 i n j)
      = R10 m c (ix3 (bat t) (tok t n) j) := by
  unfold R10
  exact block10_of (iblk0 m c t 0) (iblk1 m c t 0 0) (iblk2 m c t) (iblk3 m c t 0) (iblk4 m c t 0) (iblk6 m c t 0 0) (iblk5 m c t 0)
    (iblk7 m c t 0) (iblk8 m c t 0) i n j

theorem flushed10_eq (t : Fin cfg0.N) :
    (dats m 0 c).flushed 10 t = ((cfg0.win 10).blk t).view.read (Elt Ideal) (R10 m c) :=
  (Cert.DownIdeal.Value.flushed10 m c t).trans (block10 t _ _ (block10_eq m c t))

theorem block11_eq (t : Fin grid0.N) (i : Fin 1) (n : Fin 18) (j : Fin 512) :
    out0_11 (iblk m c 0 t) (iblk m c 1 t) (iblk m c 2 t) (iblk m c 3 t) (iblk m c 4 t) (iblk m c 5 t) (iblk m c 6 t) (iblk m c 7 t) (iblk m c 8 t) (ix3 i n j)
      = R11 m c (ix3 (bat t) n (tok t j)) := by
  unfold R11
  exact block11_of (iblk0 m c t 0) (iblk1 m c t 0 0) (iblk2 m c t) (iblk3 m c t 0) (iblk4 m c t 0) (iblk6 m c t 0 0) (iblk5 m c t 0)
    (iblk7 m c t 0) (iblk8 m c t 0) i n j

theorem flushed11_eq (t : Fin cfg0.N) :
    (dats m 0 c).flushed 11 t = ((cfg0.win 11).blk t).view.read (Elt Ideal) (R11 m c) :=
  (Cert.DownIdeal.Value.flushed11 m c t).trans (block11 t _ _ (block11_eq m c t))

theorem block12_eq (hf : Fin8 m c) (t : Fin grid0.N) (i : Fin 1) (n : Fin 512) (j : Fin 2304) :
    out0_12 (iblk m c 0 t) (iblk m c 1 t) (iblk m c 2 t) (iblk m c 3 t) (iblk m c 4 t) (iblk m c 5 t) (iblk m c 6 t) (iblk m c 7 t) (iblk m c 8 t) (ix3 i n j)
      = R12 m c (ix3 (bat t) (tok t n) j) := by
  unfold R12
  exact block12_of (iblk0 m c t 0) (iblk1 m c t 0 0) (iblk2 m c t) (iblk3 m c t 0) (iblk4 m c t 0) (iblk6 m c t 0 0) (iblk5 m c t 0)
    (iblk7 m c t 0) (iblk8 m c t 0) (hf (bat t)) i n j

theorem flushed12_eq (hf : Fin8 m c) (t : Fin cfg0.N) :
    (dats m 0 c).flushed 12 t = ((cfg0.win 12).blk t).view.read (Elt Ideal) (R12 m c) :=
  (Cert.DownIdeal.Value.flushed12 m c t).trans (block12 t _ _ (block12_eq m c hf t))

theorem block13_eq (hf : Fin8 m c) (t : Fin grid0.N) (i : Fin 1) (n : Fin 18) (j : Fin 512) :
    out0_13 (iblk m c 0 t) (iblk m c 1 t) (iblk m c 2 t) (iblk m c 3 t) (iblk m c 4 t) (iblk m c 5 t) (iblk m c 6 t) (iblk m c 7 t) (iblk m c 8 t) (ix3 i n j)
      = R13 m c (ix3 (bat t) n (tok t j)) := by
  unfold R13
  exact block13_of (iblk0 m c t 0) (iblk1 m c t 0 0) (iblk2 m c t) (iblk3 m c t 0) (iblk4 m c t 0) (iblk6 m c t 0 0) (iblk5 m c t 0)
    (iblk7 m c t 0) (iblk8 m c t 0) (hf (bat t)) i n j

theorem flushed13_eq (hf : Fin8 m c) (t : Fin cfg0.N) :
    (dats m 0 c).flushed 13 t = ((cfg0.win 13).blk t).view.read (Elt Ideal) (R13 m c) :=
  (Cert.DownIdeal.Value.flushed13 m c t).trans (block13 t _ _ (block13_eq m c hf t))

/-- The grid point whose block holds a token. -/
def pnt (b : Fin 6) (n : Fin 2048) : Fin cfg0.N := ⟨4 * b.val + n.val / 512, by show _ < 24; omega⟩

theorem bat_pnt (b : Fin 6) (n : Fin 2048) : bat (pnt b n) = b := by
  apply Fin.ext; show (4 * b.val + n.val / 512) / 4 = b.val; omega

theorem tok_pnt (b : Fin 6) (n : Fin 2048) : tok (pnt b n) ⟨n.val % 512, by omega⟩ = n := by
  apply Fin.ext; show (4 * b.val + n.val / 512) % 4 * 512 + n.val % 512 = n.val; omega

theorem covered9 (i : S6x2048x2304.Idx) :
    ∃ t : Fin cfg0.N, (cfg0.win 9).flush t = true ∧ i ∈ ((cfg0.win 9).blk t).view.set := by
  obtain ⟨b, n, j, rfl⟩ := eta3 i
  refine ⟨pnt b n, flush0_9 _, ?_⟩
  have h := ((cfg0.win 9).blk (pnt b n)).view.emb_mem_set (ix3 (0 : Fin 1) (⟨n.val % 512, by omega⟩ : Fin 512) j)
  rwa [emb9, bat_pnt, tok_pnt] at h

theorem final9 : (dats m 0 c).arrAt 9 cfg0.N = R9 m c :=
  (dats m 0 c).arrAt_eq_of_cover 9 (R9 m c) (fun t _ => flushed9_eq m c t) covered9

theorem covered10 (i : S6x2048x2304.Idx) :
    ∃ t : Fin cfg0.N, (cfg0.win 10).flush t = true ∧ i ∈ ((cfg0.win 10).blk t).view.set := by
  obtain ⟨b, n, j, rfl⟩ := eta3 i
  refine ⟨pnt b n, flush0_10 _, ?_⟩
  have h := ((cfg0.win 10).blk (pnt b n)).view.emb_mem_set (ix3 (0 : Fin 1) (⟨n.val % 512, by omega⟩ : Fin 512) j)
  rwa [emb10, bat_pnt, tok_pnt] at h

theorem final10 : (dats m 0 c).arrAt 10 cfg0.N = R10 m c :=
  (dats m 0 c).arrAt_eq_of_cover 10 (R10 m c) (fun t _ => flushed10_eq m c t) covered10

theorem covered11 (i : S6x18x2048.Idx) :
    ∃ t : Fin cfg0.N, (cfg0.win 11).flush t = true ∧ i ∈ ((cfg0.win 11).blk t).view.set := by
  obtain ⟨b, n, j, rfl⟩ := eta3 i
  refine ⟨pnt b j, flush0_11 _, ?_⟩
  have h := ((cfg0.win 11).blk (pnt b j)).view.emb_mem_set (ix3 (0 : Fin 1) n (⟨j.val % 512, by omega⟩ : Fin 512))
  rwa [emb11, bat_pnt, tok_pnt] at h

theorem final11 : (dats m 0 c).arrAt 11 cfg0.N = R11 m c :=
  (dats m 0 c).arrAt_eq_of_cover 11 (R11 m c) (fun t _ => flushed11_eq m c t) covered11

theorem covered12 (i : S6x2048x2304.Idx) :
    ∃ t : Fin cfg0.N, (cfg0.win 12).flush t = true ∧ i ∈ ((cfg0.win 12).blk t).view.set := by
  obtain ⟨b, n, j, rfl⟩ := eta3 i
  refine ⟨pnt b n, flush0_12 _, ?_⟩
  have h := ((cfg0.win 12).blk (pnt b n)).view.emb_mem_set (ix3 (0 : Fin 1) (⟨n.val % 512, by omega⟩ : Fin 512) j)
  rwa [emb12, bat_pnt, tok_pnt] at h

theorem final12 (hf : Fin8 m c) : (dats m 0 c).arrAt 12 cfg0.N = R12 m c :=
  (dats m 0 c).arrAt_eq_of_cover 12 (R12 m c) (fun t _ => flushed12_eq m c hf t) covered12

theorem covered13 (i : S6x18x2048.Idx) :
    ∃ t : Fin cfg0.N, (cfg0.win 13).flush t = true ∧ i ∈ ((cfg0.win 13).blk t).view.set := by
  obtain ⟨b, n, j, rfl⟩ := eta3 i
  refine ⟨pnt b j, flush0_13 _, ?_⟩
  have h := ((cfg0.win 13).blk (pnt b j)).view.emb_mem_set (ix3 (0 : Fin 1) n (⟨j.val % 512, by omega⟩ : Fin 512))
  rwa [emb13, bat_pnt, tok_pnt] at h

theorem final13 (hf : Fin8 m c) : (dats m 0 c).arrAt 13 cfg0.N = R13 m c :=
  (dats m 0 c).arrAt_eq_of_cover 13 (R13 m c) (fun t _ => flushed13_eq m c hf t) covered13

end Cert.DownIdeal.Gen

namespace Cert.Down

open Idealize.ShloMosaic Idealize.ShloMosaic.TcCoe Idealize.SL.Sem Cert.Lib

/-- The precondition's operations are of the shapes they take. -/
theorem preFacts : Cert.Pre_down_scales_finite.Facts where
  slices_S6x24x2048_S6x18x2048_0_0_0 := by
    refine ⟨rfl, ?_⟩
    intro a; fin_cases a <;> simp [Cert.Pre_down_scales_finite.S6x24x2048, Cert.Pre_down_scales_finite.S6x18x2048]
  bcast_S_S6x18x2048 := by decide

/-- A comparison that comes out one holds. -/
theorem cmp_one (x y : Ideal .f32) (h : FloatOps.cmpf (F := Ideal) (φ := .f32) .olt x y = 1#1) : (x : EReal) < y := by
  by_contra hn
  have : FloatOps.cmpf (F := Ideal) (φ := .f32) .olt x y = 0#1 := by
    simp [FloatOps.cmpf, Ideal.cmp, hn]
  rw [this] at h
  exact absurd h (by decide)

/-- A magnitude below infinity is of a finite number. -/
theorem pre_apply (v : FVec Ideal Cert.Pre_down_scales_finite.S6x24x2048 .f32) (h : Cert.Pre_down_scales_finite.S6x24x2048.Slices ![0, 0, 0] Cert.Pre_down_scales_finite.S6x18x2048)
    (h' : Cert.Pre_down_scales_finite.S_.BroadcastsInDim Cert.Pre_down_scales_finite.S6x18x2048 (![] : Fin 0 → Fin Cert.Pre_down_scales_finite.S6x18x2048.rank)) (b : Fin 6) (g : Fin 18) (n : Fin 2048)
    (hc : cmpf .olt (Host.absf (extractStridedSlice Cert.Pre_down_scales_finite.S6x18x2048 ![0, 0, 0] v h)) (broadcastInDim Cert.Pre_down_scales_finite.S6x18x2048 ![] h' (constant Cert.Pre_down_scales_finite.S_ .f32 0x7F800000#32)) (ix3 b g n) = 1#1) :
    v (ix3 b (⟨g.val, by omega⟩ : Fin 24) n) ≠ ⊤ ∧ v (ix3 b (⟨g.val, by omega⟩ : Fin 24) n) ≠ ⊥ := by
  have key : ∀ A B : FVec Ideal Cert.Pre_down_scales_finite.S6x18x2048 .f32, cmpf .olt (Host.absf A) B (ix3 b g n) = FloatOps.cmpf (F := Ideal) (φ := .f32) .olt (absE (A (ix3 b g n))) (B (ix3 b g n)) := by
    intro A B; rfl
  rw [key] at hc
  have hl := cmp_one _ _ hc
  have ks : extractStridedSlice Cert.Pre_down_scales_finite.S6x18x2048 ![0, 0, 0] v h (ix3 b g n) = v (ix3 b (⟨g.val, by omega⟩ : Fin 24) n) := by pointwise
  rw [ks] at hl
  have hlt : absE (v (ix3 b (⟨g.val, by omega⟩ : Fin 24) n)) < ⊤ := lt_of_lt_of_le hl le_top
  unfold absE at hlt
  constructor
  · intro e; rw [e] at hlt; simp at hlt
  · intro e; rw [e] at hlt; simp at hlt
/-- The precondition says that the kept change's group scales are finite. -/
theorem finite_of_pre (m : (ℓ : Loc Cert.DownIdeal.nD Cert.DownIdeal.τ Cert.DownIdeal.sig) → Buf (Elt Ideal) ℓ)
    (h : Cert.Pre_DownIdeal_down_scales_finite (hPre_down_scales_finite := preFacts) m) (c : Dev Cert.DownIdeal.nD) : Cert.DownIdeal.Gen.Fin8 m c := by
  intro b g n
  have hc := congrFun (h c) (ix3 b g n)
  unfold Cert.Pre_down_scales_finite.fn at hc
  exact pre_apply _ _ _ b g n hc

/-- The kernel and its reference end with the same outputs, codes and scales. -/
theorem algebraic : Cert.algebraic_DownIdeal_DownRefIdeal_pre_down_scales_finite (hDownIdeal := Cert.DownIdeal.Gen.facts)
    (hDownRefIdeal := Cert.DownRefIdeal.Gen.facts) (hPre_down_scales_finite := preFacts) := by
  intro m g m' g' hp hin
  refine ⟨fun c => Cert.DownIdeal.Gen.R9 m c, fun c => Cert.DownIdeal.Gen.R10 m c, fun c => Cert.DownIdeal.Gen.R11 m c,
    fun c => Cert.DownIdeal.Gen.R12 m c, fun c => Cert.DownIdeal.Gen.R13 m c, ?_, ?_⟩
  · refine (θ_run _ _ _).mono (fun r h c => ?_) (Cert.DownIdeal.Value.run_blocks (F := Ideal) m g)
    obtain ⟨h9, h10, h11, h12, h13, hk⟩ := h c
    exact ⟨h9.trans (Cert.DownIdeal.Gen.final9 m c), h10.trans (Cert.DownIdeal.Gen.final10 m c), h11.trans (Cert.DownIdeal.Gen.final11 m c),
      h12.trans (Cert.DownIdeal.Gen.final12 m c (finite_of_pre m hp c)), h13.trans (Cert.DownIdeal.Gen.final13 m c (finite_of_pre m hp c)), hk⟩
  · refine (θ_run _ _ _).mono (fun r h c => ?_) (Cert.DownRefIdeal.Value.run (F := Ideal) m' g')
    obtain ⟨h9, h10, h11, h12, h13, hk⟩ := h c
    obtain ⟨q0, q1, q2, q3, q4, q5, q6, q7, q8⟩ := hin c
    rw [q0, q1, q2, q3, q4, q5, q6, q7, q8] at h9 h10 h11 h12 h13
    exact ⟨h9, h10, h11, h12, h13, hk⟩

/-- The kernel's two named constants stand for the numbers their words round. -/
theorem preserves : Cert.preserves_Down_DownIdeal :=
  ⟨IdealRules.named_const.statement Cert.DownIdeal.κ "inv_448" .f32 0x3B124925#32 _ rfl,
    IdealRules.named_const.statement Cert.DownIdeal.κ "log2e" .f32 0x3FB8AA3B#32 _ rfl⟩

/-- And the reference's. -/
theorem ref_preserves : Cert.preserves_DownRef_DownRefIdeal :=
  ⟨IdealRules.named_const.statement Cert.DownRefIdeal.κ "inv_448" .f32 0x3B124925#32 _ rfl,
    IdealRules.named_const.statement Cert.DownRefIdeal.κ "log2e" .f32 0x3FB8AA3B#32 _ rfl⟩

end Cert.Down
-- ==== Proof.Lib.Norm.lean ====
/- The root mean square of a row, and the largest magnitude of a row. -/
module

public import proofs.«01_k».proof.Proof.Lib.Quant

@[expose] public section

namespace Cert.Lib

open Idealize.ShloMosaic

variable {n : ℕ}

/-- The largest magnitude of a row. -/
noncomputable def topE (f : Fin n → EReal) : EReal := (Finset.univ : Finset (Fin n)).fold max ⊥ fun k => absE (f k)

/-- The mean of a row's squares, `q` being one over its length, and the small number added to it. -/
noncomputable def msE (q : ℝ) (f : Fin n → EReal) : EReal := (∑ k, f k * f k) * (q : EReal) + Ideal.ofBits .f32 0x358637BD#32

theorem mul_self_nonneg (x : EReal) : 0 ≤ x * x := by
  rcases le_total 0 x with h | h
  · exact mul_nonneg h h
  · have h' : 0 ≤ -x := by simpa using EReal.neg_le_neg_iff.mpr h
    have := mul_nonneg h' h'
    rwa [EReal.neg_mul, mul_comm, EReal.neg_mul, neg_neg] at this

theorem msE_pos (q : ℝ) (hq : 0 ≤ q) (f : Fin n → EReal) : 0 < msE q f := by
  obtain ⟨e, he, h⟩ := lit_eps
  unfold msE
  rw [h]
  have h1 : (0 : EReal) ≤ (∑ k, f k * f k) * (q : EReal) :=
    mul_nonneg (Finset.sum_nonneg fun k _ => mul_self_nonneg _) (by exact_mod_cast hq)
  have h2 : (0 : EReal) < (e : EReal) := by exact_mod_cast he
  calc (0 : EReal) < (e : EReal) := h2
    _ = 0 + (e : EReal) := (zero_add _).symm
    _ ≤ _ := add_le_add h1 le_rfl

/-- Above zero, the product with one over the square root is the quotient by it. -/
theorem mul_rsqrt (x y : EReal) (hy : 0 < y) : x * Ideal.rsqrt y = Ideal.div x (Ideal.sqrt y) := by
  induction y using EReal.rec with
  | bot => exact absurd hy (by simp)
  | top =>
    show x * 0 = Ideal.div x ⊤
    simp [Ideal.div]
  | coe r =>
    have hr : 0 < r := by exact_mod_cast hy
    have hs : Real.sqrt r ≠ 0 := (Real.sqrt_pos.mpr hr).ne'
    have e1 : Ideal.rsqrt ((r : ℝ) : EReal) = (((Real.sqrt r)⁻¹ : ℝ) : EReal) := by
      show (if r < 0 then ⊥ else if r = 0 then ⊤ else (((Real.sqrt r)⁻¹ : ℝ) : EReal)) = _
      rw [if_neg (by linarith), if_neg hr.ne']
    have e2 : Ideal.sqrt ((r : ℝ) : EReal) = ((Real.sqrt r : ℝ) : EReal) := by
      show (if r < 0 then ⊥ else ((Real.sqrt r : ℝ) : EReal)) = _
      rw [if_neg (by linarith)]
    rw [e1, e2, Ideal.div, if_neg (by exact_mod_cast hs), EReal.coe_inv]

/-- A quotient by a positive number is the product with one over it. -/
theorem div_of (a : EReal) (q : ℝ) (h : q ≠ 0) : Ideal.div a (q : EReal) = a * ((1 / q : ℝ) : EReal) := Ideal.div_coe h a

end Cert.Lib
-- ==== Proof.Oproj.Row.lean ====
/- A token's row of the output projection, the residual and the norm that follow it. -/
module

public import proofs.«01_k».proof.Proof.Lib.Norm

@[expose] public section

namespace Cert.Oproj

open Idealize.ShloMosaic Cert.Lib

variable (o xa s g g2 md : Fin 2304 → EReal) (w : Fin 2304 → Fin 2304 → EReal)

/-- The residual after the projection of the row's codes. -/
noncomputable def x1E (j : Fin 2304) : EReal :=
  xa j + g j * ((∑ k : Fin 2304, codeE (o k) (scaleE (topE o)) * w k j) * scaleE (topE o) * s j)

/-- The norm of a row, times its gain and modulation. -/
noncomputable def normE (x : Fin 2304 → EReal) (j : Fin 2304) : EReal :=
  Ideal.div (x j) (Ideal.sqrt (msE (1 / 2304) x)) * g2 j * (1 + md j)

end Cert.Oproj
-- ==== Proof.Oproj.Rows.lean ====
/- The five results of a block, index by index, in terms of the blocks it reads. -/
module

public import proofs.«01_k».proof.Proof.Gen.OprojIdeal.Value
public import proofs.«01_k».proof.Proof.Oproj.Row
public import Idealize.ShloMosaic.Lib.Pipeline.ValueKit.Tiles

@[expose] public section

set_option maxRecDepth 16384

namespace Cert.OprojIdeal.Gen

open Idealize.ShloMosaic Idealize.ShloMosaic.TcCoe Cert.Lib Cert.Oproj

section
variable {F : FTy → Type} [FloatOps F] [Named F]

/-- The norm's rows as the kernel computes them. -/
noncomputable def nrm (A : FVec F S512x2304 .f32) (v63 : Vec F S1x2304 .f32) (v67 : Vec F S1x1x2304 .f32) : FVec F S512x2304 .f32 :=
  mulf (mulf (mulf A (broadcastTo S512x2304 (rsqrt (addf (mulf (shapeCast S512x1 (multiReduction .add [1] S512 (mulf A A) 0x00000000#32 reduces_S512x2304_S512 (.inl rfl) rfl) shapeCasts_S512_S512x1)
      (broadcast S512x1 (Named.named κ "inv_2304" 0x39E38E39#32))) (broadcast S512x1 (Scalar.ofBits .f32 0x358637BD#32)))) broadcasts_S512x1_S512x2304))
    (broadcastTo S512x2304 (shapeCast S1x2304 v63 shapeCasts_S1x2304_S1x2304) broadcasts_S1x2304_S512x2304))
    (broadcastTo S512x2304 (addf (broadcast S1x2304 (Scalar.ofBits .f32 0x3F800000#32)) (shapeCast S1x2304 v67 shapeCasts_S1x1x2304_S1x2304)) broadcasts_S1x2304_S512x2304)

theorem pay13_eq (v32 : FVec F S512x1 .f32) (v35 : FVec F S512x2304 .f32) (v36 : Vec F S1x512x2304 .bf16) (v39 : Vec F S1x1x2304 .f32) (v43 v63 : Vec F S1x2304 .f32)
    (v67 : Vec F S1x1x2304 .f32) : k0_pay13 v32 v35 v36 v39 v43 v63 v67 = nrm (k0_pay11 v32 v35 v36 v39 v43) v63 v67 := rfl
end

theorem named_inv_448 : Named.named (F := Ideal) (φ := .f32) κ "inv_448" 0x3B124925#32 = ((1 / 448 : ℝ) : EReal) :=
  IdealRules.named_const.ideal_named_scalar _ _ _ _ rfl

theorem named_inv_2304 : Named.named (F := Ideal) (φ := .f32) κ "inv_2304" 0x39E38E39#32 = ((1 / 2304 : ℝ) : EReal) :=
  IdealRules.named_const.ideal_named_scalar _ _ _ _ rfl

theorem z3 : (![0, 0, 0] : Fin 3 → Nat) = fun _ => 0 := by decide
theorem z2 : (![0, 0] : Fin 2 → Nat) = fun _ => 0 := by decide

section
variable (x0 : Vec Ideal S1x2304x512 .f32) (n : Fin 512)

/-- A token's column of the attention's result. -/
noncomputable def bo (k : Fin 2304) : EReal := x0 (ix3 (0 : Fin 1) k n)

theorem pay4_apply (k : Fin 2304) : k0_pay4 x0 (ix2 k n) = bo x0 n k := by
  unfold k0_pay4; pointwise; rfl

theorem pay5_apply (i : Fin 1) : k0_pay5 x0 (ix2 i n) = scaleE (topE (bo x0 n)) := by
  unfold k0_pay5
  dsimp only
  rw [scale_mul_apply _ _ named_inv_448]
  have key : ∀ (A : FVec Ideal S2304x512 .f32) (h : S2304x512.Reduces [0] S512) (h1 h2) (h3 : S512.ShapeCasts S1x512),
      shapeCast S1x512 (multiReduction .maximumf [0] S512 A 0xFF800000#32 h h1 h2) h3 (ix2 i n)
        = (Finset.univ : Finset (Fin 2304)).fold max (Ideal.ofBits .f32 0xFF800000#32) fun k => A (ix2 k n) := by
    intro A h h1 h2 h3; pointwise
  refine congrArg scaleE ((key _ _ _ _ _).trans ?_)
  rw [lit_bot]
  simp only [absf_apply, pay4_apply]
  rfl

theorem pay7_apply (k : Fin 2304) : k0_pay7 x0 (ix2 k n) = codeE (bo x0 n k) (scaleE (topE (bo x0 n))) := by
  unfold k0_pay7
  have key : ∀ (A : FVec Ideal S1x512 .f32) (h : S1x512.Broadcasts S2304x512), broadcastTo S2304x512 A h (ix2 k n) = A (ix2 (0 : Fin 1) n) := by
    intro A h; pointwise
  rw [codes_apply, ValueIdx.mulf_apply, key, recip_apply, pay4_apply, pay5_apply, clamp_mul]

theorem pay6_apply (i p : Fin 1) : k0_pay6 x0 (ix3 i p n) = scaleE (topE (bo x0 n)) := by
  have key : ∀ (A : FVec Ideal S1x512 .f32), shapeCast S1x1x512 A shapeCasts_S1x512_S1x1x512 (ix3 i p n) = A (ix2 (0 : Fin 1) n) := by
    intro A; pointwise
  unfold k0_pay6
  exact (key _).trans (pay5_apply x0 n 0)

theorem pay8_apply (i : Fin 1) (k : Fin 2304) : k0_pay8 x0 (ix3 i k n) = codeE (bo x0 n k) (scaleE (topE (bo x0 n))) := by
  have key : ∀ (A : FVec Ideal S2304x512 .fp8e4m3), shapeCast S1x2304x512 A shapeCasts_S2304x512_S1x2304x512 (ix3 i k n) = A (ix2 k n) := by
    intro A; pointwise
  unfold k0_pay8
  exact (key _).trans (pay7_apply x0 n k)

theorem pay9_apply (i : Fin 1) : k0_pay9 x0 (ix2 n i) = scaleE (topE (bo x0 n)) := by
  have key : ∀ (A : FVec Ideal S1x512 .f32), extractStridedSlice S512x1 ![0, 0] (transpose S512x128 [1, 0] (broadcastTo S128x512
      (shapeCast S1x512 A shapeCasts_S1x512_S1x512) broadcasts_S1x512_S128x512) transposes_S128x512_p1_0_S512x128) slices_S512x128_o0_0_S512x1 (ix2 n i) = A (ix2 (0 : Fin 1) n) := by
    intro A; pointwise
  unfold k0_pay9
  exact (key _).trans (pay5_apply x0 n 0)

theorem pay10_apply (w : Vec Ideal S2304x2304 .fp8e4m3) (j : Fin 2304) :
    k0_pay10 x0 w (ix2 n j) = ∑ k : Fin 2304, codeE (bo x0 n k) (scaleE (topE (bo x0 n))) * w (ix2 k j) := by
  have key : ∀ (A : FVec Ideal S2304x512 .fp8e4m3) (B : FVec Ideal S2304x2304 .fp8e4m3), matmul dot_S512x2304_S2304x2304_S512x2304_1_0_0_1_n_n none
      (truncf .fp8e4m3 (transpose S512x2304 [1, 0] (extf .bf16 A bitsLt_fp8e4m3_bf16) transposes_S2304x512_p1_0_S512x2304) bitsLt_fp8e4m3_bf16)
      (shapeCast S2304x2304 B shapeCasts_S2304x2304_S2304x2304) (constant S512x2304 .f32 0x00000000#32) (ix2 n j)
      = ∑ k : Fin 2304, A (ix2 k n) * B (ix2 k j) := by
    intro A B; pointwise
  unfold k0_pay10
  refine (key _ _).trans ?_
  simp only [pay7_apply]
end

section
variable (V : FVec Ideal S512x2304 .f32) (n : Fin 512)

theorem nrm_apply (v63 : Vec Ideal S1x2304 .f32) (v67 : Vec Ideal S1x1x2304 .f32) (j : Fin 2304) :
    nrm V v63 v67 (ix2 n j) = normE (fun j => v63 (ix2 (0 : Fin 1) j)) (fun j => v67 (ix3 (0 : Fin 1) (0 : Fin 1) j)) (fun j => V (ix2 n j)) j := by
  unfold nrm normE
  rw [← mul_rsqrt _ _ (msE_pos _ (by norm_num) _)]
  unfold msE
  rw [← named_inv_2304]
  pointwise [lit_one]

theorem top_apply (h1 h2) : multiReduction .maximumf [1] S512 (absf V) 0xFF800000#32 reduces_S512x2304_S512 h1 h2 (ix1 n)
    = topE fun j => V (ix2 n j) := by
  have key : ∀ (A : FVec Ideal S512x2304 .f32) (h : S512x2304.Reduces [1] S512) (h1 h2),
      multiReduction .maximumf [1] S512 A 0xFF800000#32 h h1 h2 (ix1 n)
        = (Finset.univ : Finset (Fin 2304)).fold max (Ideal.ofBits .f32 0xFF800000#32) fun k => A (ix2 n k) := by
    intro A h h1 h2; pointwise
  rw [key, lit_bot]
  rfl

theorem pay1_apply (T : FVec Ideal S512 .f32) (i : Fin 1) : k0_pay1 T (ix2 n i) = scaleE (T (ix1 n)) := by
  unfold k0_pay1
  rw [scale_mul_apply _ _ named_inv_448]
  congr 1
  pointwise

theorem pay2_apply (T : FVec Ideal S512 .f32) (i : Fin 1) (j : Fin 2304) :
    k0_pay2 V T (ix3 i n j) = codeE (V (ix2 n j)) (scaleE (T (ix1 n))) := by
  unfold k0_pay2
  have key : ∀ (A : FVec Ideal S512x2304 .fp8e4m3) (h : S512x2304.ShapeCasts S1x512x2304), shapeCast S1x512x2304 A h (ix3 i n j) = A (ix2 n j) := by
    intro A h; pointwise
  have key2 : ∀ (A : FVec Ideal S512x1 .f32) (h : S512x1.Broadcasts S512x2304), broadcastTo S512x2304 A h (ix2 n j) = A (ix2 n (0 : Fin 1)) := by
    intro A h; pointwise
  rw [key, codes_apply, ValueIdx.mulf_apply, key2, recip_apply, pay1_apply, clamp_mul]

theorem pay3_apply (T : FVec Ideal S512 .f32) (i p : Fin 1) : k0_pay3 T (ix3 i p n) = scaleE (T (ix1 n)) := by
  have key : ∀ (A : FVec Ideal S512x1 .f32), shapeCast S1x1x512 (extractStridedSlice S1x512 ![0, 0] (extractStridedSlice S8x512 ![0, 0]
    (transpose S128x512 [1, 0] (broadcastTo S512x128 (shapeCast S512x1 A shapeCasts_S512x1_S512x1) broadcasts_S512x1_S512x128)
      transposes_S512x128_p1_0_S128x512) slices_S128x512_o0_0_S8x512) slices_S8x512_o0_0_S1x512) shapeCasts_S1x512_S1x1x512 (ix3 i p n) = A (ix2 n (0 : Fin 1)) := by
    intro A; pointwise
  exact (key _).trans (pay1_apply n T 0)
end

variable (x0 : Vec Ideal S1x2304x512 .f32) (x1 : Vec Ideal S1x512x2304 .bf16) (x2 : Vec Ideal S2304x2304 .fp8e4m3) (x3 : Vec Ideal S1x2304 .f32)
  (x4 : Vec Ideal S1x1x2304 .f32) (x5 : Vec Ideal S1x2304 .f32) (x6 : Vec Ideal S1x1x2304 .f32) (n : Fin 512)

/-- The residual, a row of a block. -/
noncomputable def bx1 : Fin 2304 → EReal :=
  x1E (bo x0 n) (fun j => x1 (ix3 (0 : Fin 1) n j)) (fun j => x3 (ix2 (0 : Fin 1) j)) (fun j => x4 (ix3 (0 : Fin 1) (0 : Fin 1) j)) (fun k j => x2 (ix2 k j))

/-- Its norm. -/
noncomputable def bh2 : Fin 2304 → EReal :=
  normE (fun j => x5 (ix2 (0 : Fin 1) j)) (fun j => x6 (ix3 (0 : Fin 1) (0 : Fin 1) j)) (bx1 x0 x1 x2 x3 x4 n)

theorem pay11_apply (j : Fin 2304) : k0_pay11 (k0_pay9 x0) (k0_pay10 x0 x2) x1 x4 x3 (ix2 n j) = bx1 x0 x1 x2 x3 x4 n j := by
  have key : ∀ (A : FVec Ideal S512x1 .f32) (B : FVec Ideal S512x2304 .f32), k0_pay11 A B x1 x4 x3 (ix2 n j)
      = x1 (ix3 (0 : Fin 1) n j) + x4 (ix3 (0 : Fin 1) (0 : Fin 1) j) * (B (ix2 n j) * A (ix2 n (0 : Fin 1)) * x3 (ix2 (0 : Fin 1) j)) := by
    intro A B; unfold k0_pay11; pointwise
  rw [key, pay9_apply, pay10_apply]
  rfl

theorem pay15_eq : k0_pay15 x0 x1 x2 x3 x4 x5 x6 = k0_pay9 x0 := by
  unfold k0_pay15
  rw [View.ld_unit_zero (S := S1x2304x512) z3 _ x0]

theorem pay16_eq : k0_pay16 x0 x1 x2 x3 x4 x5 x6 = k0_pay10 x0 x2 := by
  unfold k0_pay16
  rw [View.ld_unit_zero (S := S1x2304x512) z3 _ x0, View.ld_unit_zero (S := S2304x2304) z2 _ x2]

theorem pay13_apply (j : Fin 2304) : k0_pay13 (k0_pay9 x0) (k0_pay10 x0 x2) x1 x4 x3 x5 x6 (ix2 n j) = bh2 x0 x1 x2 x3 x4 x5 x6 n j := by
  rw [pay13_eq, nrm_apply]
  simp only [pay11_apply]
  rfl

theorem pay14_apply : k0_pay14 (k0_pay9 x0) (k0_pay10 x0 x2) x1 x4 x3 x5 x6 (ix1 n) = topE (bh2 x0 x1 x2 x3 x4 x5 x6 n) := by
  unfold k0_pay14
  refine (top_apply _ _ _ _).trans ?_
  simp only [pay13_apply]

theorem pay17_eq : k0_pay17 x0 x1 x2 x3 x4 x5 x6 = k0_pay14 (k0_pay9 x0) (k0_pay10 x0 x2) x1 x4 x3 x5 x6 := by
  unfold k0_pay17
  rw [pay15_eq, pay16_eq, View.ld_unit_zero (S := S1x512x2304) z3 _ x1, View.ld_unit_zero (S := S1x2304) z2 _ x3,
    View.ld_unit_zero (S := S1x1x2304) z3 _ x4, View.ld_unit_zero (S := S1x2304) z2 _ x5, View.ld_unit_zero (S := S1x1x2304) z3 _ x6]

theorem out7_apply (i : Fin 1) (k : Fin 2304) : out0_7 x0 x1 x2 x3 x4 x5 x6 (ix3 i k n) = codeE (bo x0 n k) (scaleE (topE (bo x0 n))) := by
  unfold out0_7
  rw [View.canon_unit_zero z3, View.ld_unit_zero (S := S1x2304x512) z3 _ x0]
  exact pay8_apply x0 n i k

theorem out8_apply (i p : Fin 1) : out0_8 x0 x1 x2 x3 x4 x5 x6 (ix3 i p n) = scaleE (topE (bo x0 n)) := by
  unfold out0_8
  rw [View.canon_unit_zero z3, View.ld_unit_zero (S := S1x2304x512) z3 _ x0]
  exact pay6_apply x0 n i p

theorem out9_apply (i : Fin 1) (j : Fin 2304) : out0_9 x0 x1 x2 x3 x4 x5 x6 (ix3 i n j) = bx1 x0 x1 x2 x3 x4 n j := by
  unfold out0_9
  rw [View.canon_unit_zero z3, pay15_eq, pay16_eq, View.ld_unit_zero (S := S1x512x2304) z3 _ x1, View.ld_unit_zero (S := S1x2304) z2 _ x3,
    View.ld_unit_zero (S := S1x1x2304) z3 _ x4]
  have key : ∀ (A : FVec Ideal S512x2304 .f32), shapeCast S1x512x2304 A shapeCasts_S512x2304_S1x512x2304 (ix3 i n j) = A (ix2 n j) := by
    intro A; pointwise
  exact (key _).trans (pay11_apply x0 x1 x2 x3 x4 n j)

theorem out10_apply (i : Fin 1) (j : Fin 2304) : out0_10 x0 x1 x2 x3 x4 x5 x6 (ix3 i n j) = codeE (bh2 x0 x1 x2 x3 x4 x5 x6 n j) (scaleE (topE (bh2 x0 x1 x2 x3 x4 x5 x6 n))) := by
  unfold out0_10
  rw [View.canon_unit_zero z3, pay17_eq, pay15_eq, pay16_eq, View.ld_unit_zero (S := S1x512x2304) z3 _ x1, View.ld_unit_zero (S := S1x2304) z2 _ x3,
    View.ld_unit_zero (S := S1x1x2304) z3 _ x4, View.ld_unit_zero (S := S1x2304) z2 _ x5, View.ld_unit_zero (S := S1x1x2304) z3 _ x6,
    pay2_apply, pay13_apply, pay14_apply]

theorem out11_apply (i p : Fin 1) : out0_11 x0 x1 x2 x3 x4 x5 x6 (ix3 i p n) = scaleE (topE (bh2 x0 x1 x2 x3 x4 x5 x6 n)) := by
  unfold out0_11
  rw [View.canon_unit_zero z3, pay17_eq, pay3_apply, pay14_apply]

end Cert.OprojIdeal.Gen
-- ==== Proof.Oproj.Ref.lean ====
/- The reference's five results, index by index. -/
module

public import proofs.«01_k».proof.Proof.Gen.OprojRefIdeal.Value
public import proofs.«01_k».proof.Proof.Oproj.Row

@[expose] public section

set_option maxRecDepth 16384

namespace Cert.OprojRefIdeal.Gen

open Idealize.ShloMosaic Idealize.ShloMosaic.TcCoe Cert.Lib Cert.Oproj Cert.OprojRefIdeal.Value

section
variable (a0 : Vec Ideal S6x2304x2048 .f32) (b : Fin 6) (n : Fin 2048)

/-- A token's column of the attention's result. -/
noncomputable def ro (k : Fin 2304) : EReal := a0 (ix3 b k n)

theorem pay2_apply (k : Fin 2304) : k0_pay2 a0 (ix3 b n k) = ro a0 b n k := by
  unfold k0_pay2; pointwise; rfl

theorem max_apply (A : FVec Ideal S6x2048x2304 .f32) (i : Fin 1) (h : S6x2048x2304.Reduces [2] S6x2048) (h1 h2) (h3 : S6x2048.ShapeCasts S6x2048x1) :
    shapeCast S6x2048x1 (multiReduction .maximumf [2] S6x2048 (absf A) 0xFF800000#32 h h1 h2) h3 (ix3 b n i) = topE fun j => A (ix3 b n j) := by
  have key : ∀ A : FVec Ideal S6x2048x2304 .f32, shapeCast S6x2048x1 (multiReduction .maximumf [2] S6x2048 A 0xFF800000#32 h h1 h2) h3 (ix3 b n i)
      = (Finset.univ : Finset (Fin 2304)).fold max (Ideal.ofBits .f32 0xFF800000#32) fun j => A (ix3 b n j) := by
    intro A; pointwise
  rw [key, lit_bot]
  rfl

theorem wide_apply (A : FVec Ideal S6x2048x1 .f32) (h : S6x2048x1.Broadcasts S6x2048x2304) (j : Fin 2304) :
    broadcastTo S6x2048x2304 A h (ix3 b n j) = A (ix3 b n (0 : Fin 1)) := by
  pointwise

theorem pay3_apply (i : Fin 1) : k0_pay3 a0 (ix3 b n i) = scaleE (topE (ro a0 b n)) := by
  unfold k0_pay3
  dsimp only
  rw [scale_apply]
  refine congrArg scaleE ((max_apply _ _ _ _ _ _ _ _).trans ?_)
  simp only [pay2_apply]

theorem pay4_apply (k : Fin 2304) : k0_pay4 a0 (ix3 b n k) = codeE (ro a0 b n k) (scaleE (topE (ro a0 b n))) := by
  unfold k0_pay4
  rw [codes_apply, ValueIdx.divf_apply, wide_apply, pay2_apply, pay3_apply, clamp_div]

theorem pay10_apply (C : FVec Ideal S6x2048x2304 .fp8e4m3) (k : Fin 2304) : k0_pay10 C (ix3 b k n) = C (ix3 b n k) := by
  unfold k0_pay10; pointwise

theorem pay11_apply (C : FVec Ideal S6x2048x1 .f32) (i : Fin 1) : k0_pay11 C (ix3 b i n) = C (ix3 b n (0 : Fin 1)) := by
  unfold k0_pay11; pointwise

theorem pay1_apply (C : FVec Ideal S6x2048x1 .f32) (i : Fin 1) : k0_pay1 C (ix3 b i n) = C (ix3 b n (0 : Fin 1)) := by
  unfold k0_pay1; pointwise
end

section
variable (V : FVec Ideal S6x2048x2304 .f32) (q : FVec Ideal S6x2048x1 .f32) (v34 : Vec Ideal S2304 .f32) (v48 : Vec Ideal S6x2304 .f32) (b : Fin 6) (n : Fin 2048)
  (hq : q (ix3 b n (0 : Fin 1)) = ∑ j : Fin 2304, V (ix3 b n j) * V (ix3 b n j))
include hq

theorem pay7_apply (j : Fin 2304) : k0_pay7 V v34 q (Scalar.ofBits .f32 0x45100000#32) v48 (ix3 b n j)
    = normE (fun j => v34 (ix1 j)) (fun j => v48 (ix2 b j)) (fun j => V (ix3 b n j)) j := by
  have key : ∀ c : Ideal .f32, k0_pay7 V v34 q c v48 (ix3 b n j)
      = Ideal.div (V (ix3 b n j)) (Ideal.sqrt (Ideal.div (q (ix3 b n (0 : Fin 1))) c + Ideal.ofBits .f32 0x358637BD#32)) * v34 (ix1 j) * (Ideal.ofBits .f32 0x3F800000#32 + v48 (ix2 b j)) := by
    intro c; unfold k0_pay7; pointwise
  rw [key, hq, lit_one]
  show Ideal.div _ (Ideal.sqrt (Ideal.div _ (Ideal.ofBits .f32 0x45100000#32) + _)) * _ * _ = _
  rw [lit_2304, div_of _ _ (by norm_num)]
  rfl

theorem pay8_apply (i : Fin 1) : k0_pay8 V v34 q (Scalar.ofBits .f32 0x45100000#32) v48 (ix3 b n i)
    = scaleE (topE (normE (fun j => v34 (ix1 j)) (fun j => v48 (ix2 b j)) (fun j => V (ix3 b n j)))) := by
  unfold k0_pay8
  dsimp only
  rw [scale_apply]
  refine congrArg scaleE ((max_apply _ _ _ _ _ _ _ _).trans ?_)
  simp only [pay7_apply V q v34 v48 b n hq]

theorem pay9_apply (j : Fin 2304) : k0_pay9 V v34 q (Scalar.ofBits .f32 0x45100000#32) v48 (ix3 b n j)
    = codeE (normE (fun j => v34 (ix1 j)) (fun j => v48 (ix2 b j)) (fun j => V (ix3 b n j)) j)
      (scaleE (topE (normE (fun j => v34 (ix1 j)) (fun j => v48 (ix2 b j)) (fun j => V (ix3 b n j))))) := by
  unfold k0_pay9
  rw [codes_apply, ValueIdx.divf_apply, wide_apply, pay7_apply V q v34 v48 b n hq, pay8_apply V q v34 v48 b n hq, clamp_div]
end

variable (a0 : Vec Ideal S6x2304x2048 .f32) (a1 : Vec Ideal S6x2048x2304 .bf16) (a2 : Vec Ideal S24x96x2304 .fp8e4m3) (a3 : Vec Ideal S2304 .f32)
  (a4 : Vec Ideal S6x2304 .f32) (a5 : Vec Ideal S2304 .f32) (a6 : Vec Ideal S6x2304 .f32) (b : Fin 6) (n : Fin 2048)

/-- The residual, a token's row. -/
noncomputable def rx1 : Fin 2304 → EReal :=
  x1E (ro a0 b n) (fun j => a1 (ix3 b n j)) (fun j => a3 (ix1 j)) (fun j => a4 (ix2 b j))
    (fun k j => a2 (ix3 (⟨k.val / 96, by omega⟩ : Fin 24) (⟨k.val % 96, by omega⟩ : Fin 96) j))

/-- Its norm. -/
noncomputable def rh2 : Fin 2304 → EReal := normE (fun j => a5 (ix1 j)) (fun j => a6 (ix2 b j)) (rx1 a0 a1 a2 a3 a4 b n)

theorem pay5_apply (j : Fin 2304) : k0_pay5 a0 a1 a4 a2 a3 (ix3 b n j) = rx1 a0 a1 a2 a3 a4 b n j := by
  have key : ∀ (A : FVec Ideal S6x2048x2304 .fp8e4m3) (B : FVec Ideal S6x2048x1 .f32) (W : FVec Ideal S24x96x2304 .fp8e4m3) (X : FVec Ideal S6x2048x2304 .bf16),
      addf (extf .f32 X bitsLt_bf16_f32) (mulf (broadcastTo S6x2048x2304 (shapeCast S6x1x2304 a4 shapeCasts_S6x2304_S6x1x2304) broadcasts_S6x1x2304_S6x2048x2304)
        (mulf (mulf (matmul dot_S6x2048x2304_S2304x2304_S6x2048x2304_2_0_01_1_n_n none A (shapeCast S2304x2304 W shapeCasts_S24x96x2304_S2304x2304) (constant S6x2048x2304 .f32 0x00000000#32))
          (broadcastTo S6x2048x2304 B broadcasts_S6x2048x1_S6x2048x2304)) (broadcastTo S6x2048x2304 (shapeCast S1x1x2304 a3 shapeCasts_S2304_S1x1x2304) broadcasts_S1x1x2304_S6x2048x2304))) (ix3 b n j)
      = X (ix3 b n j) + a4 (ix2 b j) * ((∑ k : Fin 2304, A (ix3 b n k) * W (ix3 (⟨k.val / 96, by omega⟩ : Fin 24) (⟨k.val % 96, by omega⟩ : Fin 96) j))
        * B (ix3 b n (0 : Fin 1)) * a3 (ix1 j)) := by
    intro A B W X; pointwise
  unfold k0_pay5
  refine (key _ _ _ _).trans ?_
  simp only [pay4_apply, pay3_apply]
  rfl

theorem pay6_apply : k0_pay6 a0 a1 a4 a2 a3 (ix3 b n (0 : Fin 1)) = ∑ j : Fin 2304, k0_pay5 a0 a1 a4 a2 a3 (ix3 b n j) * k0_pay5 a0 a1 a4 a2 a3 (ix3 b n j) := by
  have key : ∀ (A : FVec Ideal S6x2048x2304 .f32) (h : S6x2048x2304.Reduces [2] S6x2048) (h1 h2) (h3 : S6x2048.ShapeCasts S6x2048x1),
      shapeCast S6x2048x1 (multiReduction .add [2] S6x2048 (mulf A A) 0x00000000#32 h h1 h2) h3 (ix3 b n (0 : Fin 1))
      = ∑ j : Fin 2304, A (ix3 b n j) * A (ix3 b n j) := by
    intro A h h1 h2 h3; pointwise
  unfold k0_pay6
  exact key _ _ _ _ _

theorem pay12_eq : k0_pay12 a0 a1 a2 a3 a4 a5 a6 = k0_pay5 a0 a1 a4 a2 a3 := by
  unfold k0_pay12
  rw [View.ld_unit_zero (S := S6x2304x2048) hz0 _ a0, View.ld_unit_zero (S := S6x2048x2304) hz1 _ a1, View.ld_unit_zero (S := S24x96x2304) hz2 _ a2,
    View.ld_unit_zero (S := S2304) hz3 _ a3, View.ld_unit_zero (S := S6x2304) hz4 _ a4]

theorem pay13_eq : k0_pay13 a0 a1 a2 a3 a4 a5 a6 = k0_pay6 a0 a1 a4 a2 a3 := by
  unfold k0_pay13
  rw [View.ld_unit_zero (S := S6x2304x2048) hz0 _ a0, View.ld_unit_zero (S := S6x2048x2304) hz1 _ a1, View.ld_unit_zero (S := S24x96x2304) hz2 _ a2,
    View.ld_unit_zero (S := S2304) hz3 _ a3, View.ld_unit_zero (S := S6x2304) hz4 _ a4]

theorem G7_apply (k : Fin 2304) : G7 a0 a1 a2 a3 a4 a5 a6 (ix3 b k n) = codeE (ro a0 b n k) (scaleE (topE (ro a0 b n))) := by
  unfold G7
  rw [pay10_apply, pay4_apply]

theorem G8_apply (i : Fin 1) : G8 a0 a1 a2 a3 a4 a5 a6 (ix3 b i n) = scaleE (topE (ro a0 b n)) := by
  unfold G8
  rw [pay11_apply, pay3_apply]

theorem G9_apply (j : Fin 2304) : G9 a0 a1 a2 a3 a4 a5 a6 (ix3 b n j) = rx1 a0 a1 a2 a3 a4 b n j := by
  unfold G9
  rw [pay12_eq, pay5_apply]

theorem G10_apply (j : Fin 2304) : G10 a0 a1 a2 a3 a4 a5 a6 (ix3 b n j) = codeE (rh2 a0 a1 a2 a3 a4 a5 a6 b n j) (scaleE (topE (rh2 a0 a1 a2 a3 a4 a5 a6 b n))) := by
  unfold G10
  rw [pay12_eq, pay13_eq, pay9_apply _ _ _ _ _ _ (pay6_apply a0 a1 a2 a3 a4 b n)]
  simp only [pay5_apply]
  rfl

theorem G11_apply (i : Fin 1) : G11 a0 a1 a2 a3 a4 a5 a6 (ix3 b i n) = scaleE (topE (rh2 a0 a1 a2 a3 a4 a5 a6 b n)) := by
  unfold G11
  rw [pay1_apply, pay12_eq, pay13_eq, pay8_apply _ _ _ _ _ _ (pay6_apply a0 a1 a2 a3 a4 b n)]
  simp only [pay5_apply]
  rfl

end Cert.OprojRefIdeal.Gen
-- ==== Proof.Oproj.Final.lean ====
/- The output projection of the whole sequence: the kernel's 24 blocks are the blocks of the reference's five arrays, and they
   cover them. -/
module

public import proofs.«01_k».proof.Defs
public import proofs.«01_k».proof.Proof.Oproj.Rows
public import proofs.«01_k».proof.Proof.Oproj.Ref
public import proofs.«01_k».proof.Proof.Gen.OprojIdeal.Value
public import proofs.«01_k».proof.Proof.Gen.OprojRefIdeal.Value

@[expose] public section

set_option maxRecDepth 16384

namespace Cert.OprojIdeal.Gen

open Idealize.ShloMosaic Idealize.ShloMosaic.TcCoe Idealize.SL.Sem Cert.Lib Cert.Oproj

variable (m : (ℓ : Loc nD τ sig) → Buf (Elt Ideal) ℓ) (c : Dev nD)

/-- The batch of a grid point. -/
def bat (t : Fin grid0.N) : Fin 6 := ⟨t.val / 4, by have h : t.val < 24 := t.isLt; omega⟩

/-- The token a row of a grid point's block is. -/
def tok (t : Fin grid0.N) (n : Fin 512) : Fin 2048 := ⟨t.val % 4 * 512 + n.val, by omega⟩

/-! The kernel's operands other than the first two are arguments reshaped. -/

theorem V_main_v0 : V m c main_v0 = shapeCast S2304x2304 (m ((c : Thread nD τ).loc main_arg2)) shapeCasts_S24x96x2304_S2304x2304 := by
  show StableHlo.after hostOps0 _ (Proc.devRef .tc main_v0) = _
  after_results
  rfl

theorem V_main_v1 : V m c main_v1 = shapeCast S1x2304 (m ((c : Thread nD τ).loc main_arg3)) shapeCasts_S2304_S1x2304 := by
  show StableHlo.after hostOps0 _ (Proc.devRef .tc main_v1) = _
  after_results
  rfl

theorem V_main_v2 : V m c main_v2 = shapeCast S6x1x2304 (m ((c : Thread nD τ).loc main_arg4)) shapeCasts_S6x2304_S6x1x2304 := by
  show StableHlo.after hostOps0 _ (Proc.devRef .tc main_v2) = _
  after_results
  rfl

theorem V_main_v3 : V m c main_v3 = shapeCast S1x2304 (m ((c : Thread nD τ).loc main_arg5)) shapeCasts_S2304_S1x2304 := by
  show StableHlo.after hostOps0 _ (Proc.devRef .tc main_v3) = _
  after_results
  rfl

theorem V_main_v4 : V m c main_v4 = shapeCast S6x1x2304 (m ((c : Thread nD τ).loc main_arg6)) shapeCasts_S6x2304_S6x1x2304 := by
  show StableHlo.after hostOps0 _ (Proc.devRef .tc main_v4) = _
  after_results
  rfl

/-! The block each operand and result has at a grid point. -/

theorem at0 : ∀ t : Fin grid0.N, win0_0.index t (0 : Fin 3) = t.val / 4 ∧ win0_0.index t (1 : Fin 3) = 0 ∧ win0_0.index t (2 : Fin 3) = t.val % 4 := by
  decide +kernel
theorem at1 : ∀ t : Fin grid0.N, win0_1.index t (0 : Fin 3) = t.val / 4 ∧ win0_1.index t (1 : Fin 3) = t.val % 4 ∧ win0_1.index t (2 : Fin 3) = 0 := by
  decide +kernel
theorem at2 : ∀ t : Fin grid0.N, win0_2.index t (0 : Fin 2) = 0 ∧ win0_2.index t (1 : Fin 2) = 0 := by
  decide +kernel
theorem at3 : ∀ t : Fin grid0.N, win0_3.index t (0 : Fin 2) = 0 ∧ win0_3.index t (1 : Fin 2) = 0 := by
  decide +kernel
theorem at4 : ∀ t : Fin grid0.N, win0_4.index t (0 : Fin 3) = t.val / 4 ∧ win0_4.index t (1 : Fin 3) = 0 ∧ win0_4.index t (2 : Fin 3) = 0 := by
  decide +kernel
theorem at5 : ∀ t : Fin grid0.N, win0_5.index t (0 : Fin 2) = 0 ∧ win0_5.index t (1 : Fin 2) = 0 := by
  decide +kernel
theorem at6 : ∀ t : Fin grid0.N, win0_6.index t (0 : Fin 3) = t.val / 4 ∧ win0_6.index t (1 : Fin 3) = 0 ∧ win0_6.index t (2 : Fin 3) = 0 := by
  decide +kernel
theorem at7 : ∀ t : Fin grid0.N, win0_7.index t (0 : Fin 3) = t.val / 4 ∧ win0_7.index t (1 : Fin 3) = 0 ∧ win0_7.index t (2 : Fin 3) = t.val % 4 := by
  decide +kernel
theorem at8 : ∀ t : Fin grid0.N, win0_8.index t (0 : Fin 3) = t.val / 4 ∧ win0_8.index t (1 : Fin 3) = 0 ∧ win0_8.index t (2 : Fin 3) = t.val % 4 := by
  decide +kernel
theorem at9 : ∀ t : Fin grid0.N, win0_9.index t (0 : Fin 3) = t.val / 4 ∧ win0_9.index t (1 : Fin 3) = t.val % 4 ∧ win0_9.index t (2 : Fin 3) = 0 := by
  decide +kernel
theorem at10 : ∀ t : Fin grid0.N, win0_10.index t (0 : Fin 3) = t.val / 4 ∧ win0_10.index t (1 : Fin 3) = t.val % 4 ∧ win0_10.index t (2 : Fin 3) = 0 := by
  decide +kernel
theorem at11 : ∀ t : Fin grid0.N, win0_11.index t (0 : Fin 3) = t.val / 4 ∧ win0_11.index t (1 : Fin 3) = 0 ∧ win0_11.index t (2 : Fin 3) = t.val % 4 := by
  decide +kernel

theorem emb0 (t : Fin grid0.N) (p : Fin 1) (q : Fin 2304) (r : Fin 512) :
    ((cfg0.win 0).blk t).view.emb (ix3 p q r) = ix3 (bat t) q (tok t r) := by
  obtain ⟨e0, e1, e2⟩ := at0 t
  funext a; apply Fin.ext
  match a with
  | ⟨0, _⟩ => show win0_0.index t (0 : Fin 3) * 1 + 1 * p.val = t.val / 4; omega
  | ⟨1, _⟩ => show win0_0.index t (1 : Fin 3) * 2304 + 1 * q.val = q.val; omega
  | ⟨2, _⟩ => show win0_0.index t (2 : Fin 3) * 512 + 1 * r.val = t.val % 4 * 512 + r.val; omega

theorem emb1 (t : Fin grid0.N) (p : Fin 1) (q : Fin 512) (r : Fin 2304) :
    ((cfg0.win 1).blk t).view.emb (ix3 p q r) = ix3 (bat t) (tok t q) r := by
  obtain ⟨e0, e1, e2⟩ := at1 t
  funext a; apply Fin.ext
  match a with
  | ⟨0, _⟩ => show win0_1.index t (0 : Fin 3) * 1 + 1 * p.val = t.val / 4; omega
  | ⟨1, _⟩ => show win0_1.index t (1 : Fin 3) * 512 + 1 * q.val = t.val % 4 * 512 + q.val; omega
  | ⟨2, _⟩ => show win0_1.index t (2 : Fin 3) * 2304 + 1 * r.val = r.val; omega

theorem emb2 (t : Fin grid0.N) (p : Fin 2304) (q : Fin 2304) :
    ((cfg0.win 2).blk t).view.emb (ix2 p q) = ix2 p q := by
  obtain ⟨e0, e1⟩ := at2 t
  funext a; apply Fin.ext
  match a with
  | ⟨0, _⟩ => show win0_2.index t (0 : Fin 2) * 2304 + 1 * p.val = p.val; omega
  | ⟨1, _⟩ => show win0_2.index t (1 : Fin 2) * 2304 + 1 * q.val = q.val; omega

theorem emb3 (t : Fin grid0.N) (p : Fin 1) (q : Fin 2304) :
    ((cfg0.win 3).blk t).view.emb (ix2 p q) = ix2 (0 : Fin 1) q := by
  obtain ⟨e0, e1⟩ := at3 t
  funext a; apply Fin.ext
  match a with
  | ⟨0, _⟩ => show win0_3.index t (0 : Fin 2) * 1 + 1 * p.val = 0; omega
  | ⟨1, _⟩ => show win0_3.index t (1 : Fin 2) * 2304 + 1 * q.val = q.val; omega

theorem emb4 (t : Fin grid0.N) (p : Fin 1) (q : Fin 1) (r : Fin 2304) :
    ((cfg0.win 4).blk t).view.emb (ix3 p q r) = ix3 (bat t) (0 : Fin 1) r := by
  obtain ⟨e0, e1, e2⟩ := at4 t
  funext a; apply Fin.ext
  match a with
  | ⟨0, _⟩ => show win0_4.index t (0 : Fin 3) * 1 + 1 * p.val = t.val / 4; omega
  | ⟨1, _⟩ => show win0_4.index t (1 : Fin 3) * 1 + 1 * q.val = 0; omega
  | ⟨2, _⟩ => show win0_4.index t (2 : Fin 3) * 2304 + 1 * r.val = r.val; omega

theorem emb5 (t : Fin grid0.N) (p : Fin 1) (q : Fin 2304) :
    ((cfg0.win 5).blk t).view.emb (ix2 p q) = ix2 (0 : Fin 1) q := by
  obtain ⟨e0, e1⟩ := at5 t
  funext a; apply Fin.ext
  match a with
  | ⟨0, _⟩ => show win0_5.index t (0 : Fin 2) * 1 + 1 * p.val = 0; omega
  | ⟨1, _⟩ => show win0_5.index t (1 : Fin 2) * 2304 + 1 * q.val = q.val; omega

theorem emb6 (t : Fin grid0.N) (p : Fin 1) (q : Fin 1) (r : Fin 2304) :
    ((cfg0.win 6).blk t).view.emb (ix3 p q r) = ix3 (bat t) (0 : Fin 1) r := by
  obtain ⟨e0, e1, e2⟩ := at6 t
  funext a; apply Fin.ext
  match a with
  | ⟨0, _⟩ => show win0_6.index t (0 : Fin 3) * 1 + 1 * p.val = t.val / 4; omega
  | ⟨1, _⟩ => show win0_6.index t (1 : Fin 3) * 1 + 1 * q.val = 0; omega
  | ⟨2, _⟩ => show win0_6.index t (2 : Fin 3) * 2304 + 1 * r.val = r.val; omega

theorem emb7 (t : Fin grid0.N) (p : Fin 1) (q : Fin 2304) (r : Fin 512) :
    ((cfg0.win 7).blk t).view.emb (ix3 p q r) = ix3 (bat t) q (tok t r) := by
  obtain ⟨e0, e1, e2⟩ := at7 t
  funext a; apply Fin.ext
  match a with
  | ⟨0, _⟩ => show win0_7.index t (0 : Fin 3) * 1 + 1 * p.val = t.val / 4; omega
  | ⟨1, _⟩ => show win0_7.index t (1 : Fin 3) * 2304 + 1 * q.val = q.val; omega
  | ⟨2, _⟩ => show win0_7.index t (2 : Fin 3) * 512 + 1 * r.val = t.val % 4 * 512 + r.val; omega

theorem emb8 (t : Fin grid0.N) (p : Fin 1) (q : Fin 1) (r : Fin 512) :
    ((cfg0.win 8).blk t).view.emb (ix3 p q r) = ix3 (bat t) (0 : Fin 1) (tok t r) := by
  obtain ⟨e0, e1, e2⟩ := at8 t
  funext a; apply Fin.ext
  match a with
  | ⟨0, _⟩ => show win0_8.index t (0 : Fin 3) * 1 + 1 * p.val = t.val / 4; omega
  | ⟨1, _⟩ => show win0_8.index t (1 : Fin 3) * 1 + 1 * q.val = 0; omega
  | ⟨2, _⟩ => show win0_8.index t (2 : Fin 3) * 512 + 1 * r.val = t.val % 4 * 512 + r.val; omega

theorem emb9 (t : Fin grid0.N) (p : Fin 1) (q : Fin 512) (r : Fin 2304) :
    ((cfg0.win 9).blk t).view.emb (ix3 p q r) = ix3 (bat t) (tok t q) r := by
  obtain ⟨e0, e1, e2⟩ := at9 t
  funext a; apply Fin.ext
  match a with
  | ⟨0, _⟩ => show win0_9.index t (0 : Fin 3) * 1 + 1 * p.val = t.val / 4; omega
  | ⟨1, _⟩ => show win0_9.index t (1 : Fin 3) * 512 + 1 * q.val = t.val % 4 * 512 + q.val; omega
  | ⟨2, _⟩ => show win0_9.index t (2 : Fin 3) * 2304 + 1 * r.val = r.val; omega

theorem emb10 (t : Fin grid0.N) (p : Fin 1) (q : Fin 512) (r : Fin 2304) :
    ((cfg0.win 10).blk t).view.emb (ix3 p q r) = ix3 (bat t) (tok t q) r := by
  obtain ⟨e0, e1, e2⟩ := at10 t
  funext a; apply Fin.ext
  match a with
  | ⟨0, _⟩ => show win0_10.index t (0 : Fin 3) * 1 + 1 * p.val = t.val / 4; omega
  | ⟨1, _⟩ => show win0_10.index t (1 : Fin 3) * 512 + 1 * q.val = t.val % 4 * 512 + q.val; omega
  | ⟨2, _⟩ => show win0_10.index t (2 : Fin 3) * 2304 + 1 * r.val = r.val; omega

theorem emb11 (t : Fin grid0.N) (p : Fin 1) (q : Fin 1) (r : Fin 512) :
    ((cfg0.win 11).blk t).view.emb (ix3 p q r) = ix3 (bat t) (0 : Fin 1) (tok t r) := by
  obtain ⟨e0, e1, e2⟩ := at11 t
  funext a; apply Fin.ext
  match a with
  | ⟨0, _⟩ => show win0_11.index t (0 : Fin 3) * 1 + 1 * p.val = t.val / 4; omega
  | ⟨1, _⟩ => show win0_11.index t (1 : Fin 3) * 1 + 1 * q.val = 0; omega
  | ⟨2, _⟩ => show win0_11.index t (2 : Fin 3) * 512 + 1 * r.val = t.val % 4 * 512 + r.val; omega

theorem row_apply (v : Vec Ideal S2304 .f32) (h : S2304.ShapeCasts S1x2304) (j : Fin 2304) :
    shapeCast S1x2304 v h (ix2 (0 : Fin 1) j) = v (ix1 j) := by
  pointwise

theorem mid_apply (v : Vec Ideal S6x2304 .f32) (h : S6x2304.ShapeCasts S6x1x2304) (b : Fin 6) (j : Fin 2304) :
    shapeCast S6x1x2304 v h (ix3 b (0 : Fin 1) j) = v (ix2 b j) := by
  pointwise

/-- The weights' heads and channels of a head, one after the other. -/
theorem heads_apply (v : FVec Ideal S24x96x2304 .fp8e4m3) (h : S24x96x2304.ShapeCasts S2304x2304) (k j : Fin 2304) :
    shapeCast S2304x2304 v h (ix2 k j) = v (ix3 (⟨k.val / 96, by omega⟩ : Fin 24) (⟨k.val % 96, by omega⟩ : Fin 96) j) := by
  pointwise

/-! The seven arguments as launched. -/

abbrev A0 : Vec Ideal S6x2304x2048 .f32 := m ((c : Thread nD τ).loc main_arg0)
abbrev A1 : Vec Ideal S6x2048x2304 .bf16 := m ((c : Thread nD τ).loc main_arg1)
abbrev A2 : Vec Ideal S24x96x2304 .fp8e4m3 := m ((c : Thread nD τ).loc main_arg2)
abbrev A3 : Vec Ideal S2304 .f32 := m ((c : Thread nD τ).loc main_arg3)
abbrev A4 : Vec Ideal S6x2304 .f32 := m ((c : Thread nD τ).loc main_arg4)
abbrev A5 : Vec Ideal S2304 .f32 := m ((c : Thread nD τ).loc main_arg5)
abbrev A6 : Vec Ideal S6x2304 .f32 := m ((c : Thread nD τ).loc main_arg6)

theorem iblk0 (t : Fin grid0.N) (p : Fin 1) (q : Fin 2304) (r : Fin 512) :
    iblk m c 0 t (ix3 p q r) = A0 m c (ix3 (bat t) q (tok t r)) := by
  show V m c main_arg0 (((cfg0.win 0).blk t).view.emb (ix3 p q r)) = _
  rw [emb0, V_main_arg0]

theorem iblk1 (t : Fin grid0.N) (p : Fin 1) (q : Fin 512) (r : Fin 2304) :
    iblk m c 1 t (ix3 p q r) = A1 m c (ix3 (bat t) (tok t q) r) := by
  show V m c main_arg1 (((cfg0.win 1).blk t).view.emb (ix3 p q r)) = _
  rw [emb1, V_main_arg1]

theorem iblk2 (t : Fin grid0.N) (p : Fin 2304) (q : Fin 2304) :
    iblk m c 2 t (ix2 p q) = A2 m c (ix3 (⟨p.val / 96, by omega⟩ : Fin 24) (⟨p.val % 96, by omega⟩ : Fin 96) q) := by
  show V m c main_v0 (((cfg0.win 2).blk t).view.emb (ix2 p q)) = _
  rw [emb2, V_main_v0]
  exact heads_apply _ _ p q

theorem iblk3 (t : Fin grid0.N) (p : Fin 1) (q : Fin 2304) :
    iblk m c 3 t (ix2 p q) = A3 m c (ix1 q) := by
  show V m c main_v1 (((cfg0.win 3).blk t).view.emb (ix2 p q)) = _
  rw [emb3, V_main_v1]
  exact row_apply _ _ q

theorem iblk4 (t : Fin grid0.N) (p : Fin 1) (q : Fin 1) (r : Fin 2304) :
    iblk m c 4 t (ix3 p q r) = A4 m c (ix2 (bat t) r) := by
  show V m c main_v2 (((cfg0.win 4).blk t).view.emb (ix3 p q r)) = _
  rw [emb4, V_main_v2]
  exact mid_apply _ _ _ r

theorem iblk5 (t : Fin grid0.N) (p : Fin 1) (q : Fin 2304) :
    iblk m c 5 t (ix2 p q) = A5 m c (ix1 q) := by
  show V m c main_v3 (((cfg0.win 5).blk t).view.emb (ix2 p q)) = _
  rw [emb5, V_main_v3]
  exact row_apply _ _ q

theorem iblk6 (t : Fin grid0.N) (p : Fin 1) (q : Fin 1) (r : Fin 2304) :
    iblk m c 6 t (ix3 p q r) = A6 m c (ix2 (bat t) r) := by
  show V m c main_v4 (((cfg0.win 6).blk t).view.emb (ix3 p q r)) = _
  rw [emb6, V_main_v4]
  exact mid_apply _ _ _ r

section
variable {x0 : Vec Ideal S1x2304x512 .f32} {x1 : Vec Ideal S1x512x2304 .bf16} {x2 : Vec Ideal S2304x2304 .fp8e4m3} {x3 : Vec Ideal S1x2304 .f32} {x4 : Vec Ideal S1x1x2304 .f32} {x5 : Vec Ideal S1x2304 .f32} {x6 : Vec Ideal S1x1x2304 .f32}
  {a0 : Vec Ideal S6x2304x2048 .f32} {a1 : Vec Ideal S6x2048x2304 .bf16} {a2 : Vec Ideal S24x96x2304 .fp8e4m3} {a3 : Vec Ideal S2304 .f32} {a4 : Vec Ideal S6x2304 .f32} {a5 : Vec Ideal S2304 .f32} {a6 : Vec Ideal S6x2304 .f32}
  {b : Fin 6} {f : Fin 512 → Fin 2048} (h0 : ∀ k n, x0 (ix3 (0 : Fin 1) k n) = a0 (ix3 b k (f n)))
  (h1 : ∀ n j, x1 (ix3 (0 : Fin 1) n j) = a1 (ix3 b (f n) j))
  (h2 : ∀ k j, x2 (ix2 k j) = a2 (ix3 (⟨k.val / 96, by omega⟩ : Fin 24) (⟨k.val % 96, by omega⟩ : Fin 96) j))
  (h3 : ∀ j, x3 (ix2 (0 : Fin 1) j) = a3 (ix1 j)) (h4 : ∀ j, x4 (ix3 (0 : Fin 1) (0 : Fin 1) j) = a4 (ix2 b j))
  (h5 : ∀ j, x5 (ix2 (0 : Fin 1) j) = a5 (ix1 j)) (h6 : ∀ j, x6 (ix3 (0 : Fin 1) (0 : Fin 1) j) = a6 (ix2 b j))
include h0

/-- A block that reads the arrays at a batch and a run of tokens has their columns. -/
theorem bo_of (n : Fin 512) : bo x0 n = Cert.OprojRefIdeal.Gen.ro a0 b (f n) := by
  funext k
  exact h0 k n

include h1 h2 h3 h4

theorem bx1_of (n : Fin 512) : bx1 x0 x1 x2 x3 x4 n = Cert.OprojRefIdeal.Gen.rx1 a0 a1 a2 a3 a4 b (f n) := by
  unfold bx1 Cert.OprojRefIdeal.Gen.rx1
  rw [bo_of h0]
  simp only [h1, h2, h3, h4]

include h5 h6

theorem bh2_of (n : Fin 512) : bh2 x0 x1 x2 x3 x4 x5 x6 n = Cert.OprojRefIdeal.Gen.rh2 a0 a1 a2 a3 a4 a5 a6 b (f n) := by
  unfold bh2 Cert.OprojRefIdeal.Gen.rh2
  rw [bx1_of h0 h1 h2 h3 h4]
  simp only [h5, h6]

theorem block7_of (i : Fin 1) (n : Fin 2304) (j : Fin 512) : out0_7 x0 x1 x2 x3 x4 x5 x6 (ix3 i n j) = Cert.OprojRefIdeal.Value.G7 a0 a1 a2 a3 a4 a5 a6 (ix3 b n (f j)) := by
  rw [out7_apply, bo_of h0]
  exact (Cert.OprojRefIdeal.Gen.G7_apply a0 a1 a2 a3 a4 a5 a6 _ _ _).symm

theorem block8_of (i : Fin 1) (n : Fin 1) (j : Fin 512) : out0_8 x0 x1 x2 x3 x4 x5 x6 (ix3 i n j) = Cert.OprojRefIdeal.Value.G8 a0 a1 a2 a3 a4 a5 a6 (ix3 b (0 : Fin 1) (f j)) := by
  rw [out8_apply, bo_of h0]
  exact (Cert.OprojRefIdeal.Gen.G8_apply a0 a1 a2 a3 a4 a5 a6 _ _ _).symm

theorem block9_of (i : Fin 1) (n : Fin 512) (j : Fin 2304) : out0_9 x0 x1 x2 x3 x4 x5 x6 (ix3 i n j) = Cert.OprojRefIdeal.Value.G9 a0 a1 a2 a3 a4 a5 a6 (ix3 b (f n) j) := by
  rw [out9_apply, bx1_of h0 h1 h2 h3 h4]
  exact (Cert.OprojRefIdeal.Gen.G9_apply a0 a1 a2 a3 a4 a5 a6 _ _ _).symm

theorem block10_of (i : Fin 1) (n : Fin 512) (j : Fin 2304) : out0_10 x0 x1 x2 x3 x4 x5 x6 (ix3 i n j) = Cert.OprojRefIdeal.Value.G10 a0 a1 a2 a3 a4 a5 a6 (ix3 b (f n) j) := by
  rw [out10_apply, bh2_of h0 h1 h2 h3 h4 h5 h6]
  exact (Cert.OprojRefIdeal.Gen.G10_apply a0 a1 a2 a3 a4 a5 a6 _ _ _).symm

theorem block11_of (i : Fin 1) (n : Fin 1) (j : Fin 512) : out0_11 x0 x1 x2 x3 x4 x5 x6 (ix3 i n j) = Cert.OprojRefIdeal.Value.G11 a0 a1 a2 a3 a4 a5 a6 (ix3 b (0 : Fin 1) (f j)) := by
  rw [out11_apply, bh2_of h0 h1 h2 h3 h4 h5 h6]
  exact (Cert.OprojRefIdeal.Gen.G11_apply a0 a1 a2 a3 a4 a5 a6 _ _ _).symm

end

/-- An index of a rank-three array is its three coordinates. -/
theorem eta3 {p q r : ℕ} (y : (⟨3, ![p, q, r]⟩ : Shape).Idx) : ∃ (i : Fin p) (n : Fin q) (j : Fin r), y = ix3 i n j :=
  ⟨y 0, y 1, y 2, by
    funext a
    match a with
    | ⟨0, _⟩ => rfl
    | ⟨1, _⟩ => rfl
    | ⟨2, _⟩ => rfl⟩

/-! A block whose entries are an array's at the point's batch and tokens is the array's block. -/

theorem block7 (t : Fin grid0.N) (X : Vec Ideal S1x2304x512 .fp8e4m3) (G : Vec Ideal S6x2304x2048 .fp8e4m3)
    (h : ∀ (i : Fin 1) (n : Fin 2304) (j : Fin 512), X (ix3 i n j) = G (ix3 (bat t) n (tok t j))) :
    (cfg0.win 7).cut (grid0.coords t) X = ((cfg0.win 7).blk t).view.read (Elt Ideal) G := by
  funext y
  show X y = G (((cfg0.win 7).blk t).view.emb y)
  obtain ⟨i, n, j, rfl⟩ := eta3 y
  rw [emb7]
  exact h i n j

theorem block8 (t : Fin grid0.N) (X : Vec Ideal S1x1x512 .f32) (G : Vec Ideal S6x1x2048 .f32)
    (h : ∀ (i : Fin 1) (n : Fin 1) (j : Fin 512), X (ix3 i n j) = G (ix3 (bat t) (0 : Fin 1) (tok t j))) :
    (cfg0.win 8).cut (grid0.coords t) X = ((cfg0.win 8).blk t).view.read (Elt Ideal) G := by
  funext y
  show X y = G (((cfg0.win 8).blk t).view.emb y)
  obtain ⟨i, n, j, rfl⟩ := eta3 y
  rw [emb8]
  exact h i n j

theorem block9 (t : Fin grid0.N) (X : Vec Ideal S1x512x2304 .f32) (G : Vec Ideal S6x2048x2304 .f32)
    (h : ∀ (i : Fin 1) (n : Fin 512) (j : Fin 2304), X (ix3 i n j) = G (ix3 (bat t) (tok t n) j)) :
    (cfg0.win 9).cut (grid0.coords t) X = ((cfg0.win 9).blk t).view.read (Elt Ideal) G := by
  funext y
  show X y = G (((cfg0.win 9).blk t).view.emb y)
  obtain ⟨i, n, j, rfl⟩ := eta3 y
  rw [emb9]
  exact h i n j

theorem block10 (t : Fin grid0.N) (X : Vec Ideal S1x512x2304 .fp8e4m3) (G : Vec Ideal S6x2048x2304 .fp8e4m3)
    (h : ∀ (i : Fin 1) (n : Fin 512) (j : Fin 2304), X (ix3 i n j) = G (ix3 (bat t) (tok t n) j)) :
    (cfg0.win 10).cut (grid0.coords t) X = ((cfg0.win 10).blk t).view.read (Elt Ideal) G := by
  funext y
  show X y = G (((cfg0.win 10).blk t).view.emb y)
  obtain ⟨i, n, j, rfl⟩ := eta3 y
  rw [emb10]
  exact h i n j

theorem block11 (t : Fin grid0.N) (X : Vec Ideal S1x1x512 .f32) (G : Vec Ideal S6x1x2048 .f32)
    (h : ∀ (i : Fin 1) (n : Fin 1) (j : Fin 512), X (ix3 i n j) = G (ix3 (bat t) (0 : Fin 1) (tok t j))) :
    (cfg0.win 11).cut (grid0.coords t) X = ((cfg0.win 11).blk t).view.read (Elt Ideal) G := by
  funext y
  show X y = G (((cfg0.win 11).blk t).view.emb y)
  obtain ⟨i, n, j, rfl⟩ := eta3 y
  rw [emb11]
  exact h i n j

/-! The five arrays of the reference, at the kernel's arguments. -/

noncomputable def R7 : Vec Ideal S6x2304x2048 .fp8e4m3 := Cert.OprojRefIdeal.Value.G7 (A0 m c) (A1 m c) (A2 m c) (A3 m c) (A4 m c) (A5 m c) (A6 m c)
noncomputable def R8 : Vec Ideal S6x1x2048 .f32 := Cert.OprojRefIdeal.Value.G8 (A0 m c) (A1 m c) (A2 m c) (A3 m c) (A4 m c) (A5 m c) (A6 m c)
noncomputable def R9 : Vec Ideal S6x2048x2304 .f32 := Cert.OprojRefIdeal.Value.G9 (A0 m c) (A1 m c) (A2 m c) (A3 m c) (A4 m c) (A5 m c) (A6 m c)
noncomputable def R10 : Vec Ideal S6x2048x2304 .fp8e4m3 := Cert.OprojRefIdeal.Value.G10 (A0 m c) (A1 m c) (A2 m c) (A3 m c) (A4 m c) (A5 m c) (A6 m c)
noncomputable def R11 : Vec Ideal S6x1x2048 .f32 := Cert.OprojRefIdeal.Value.G11 (A0 m c) (A1 m c) (A2 m c) (A3 m c) (A4 m c) (A5 m c) (A6 m c)

theorem block7_eq (t : Fin grid0.N) (i : Fin 1) (n : Fin 2304) (j : Fin 512) :
    out0_7 (iblk m c 0 t) (iblk m c 1 t) (iblk m c 2 t) (iblk m c 3 t) (iblk m c 4 t) (iblk m c 5 t) (iblk m c 6 t) (ix3 i n j)
      = R7 m c (ix3 (bat t) n (tok t j)) := by
  unfold R7
  exact block7_of (iblk0 m c t 0) (iblk1 m c t 0) (iblk2 m c t) (iblk3 m c t 0) (iblk4 m c t 0 0) (iblk5 m c t 0) (iblk6 m c t 0 0) i n j

theorem flushed7_eq (t : Fin cfg0.N) :
    (dats m 0 c).flushed 7 t = ((cfg0.win 7).blk t).view.read (Elt Ideal) (R7 m c) :=
  (Cert.OprojIdeal.Value.flushed7 m c t).trans (block7 t _ _ (block7_eq m c t))

theorem block8_eq (t : Fin grid0.N) (i : Fin 1) (n : Fin 1) (j : Fin 512) :
    out0_8 (iblk m c 0 t) (iblk m c 1 t) (iblk m c 2 t) (iblk m c 3 t) (iblk m c 4 t) (iblk m c 5 t) (iblk m c 6 t) (ix3 i n j)
      = R8 m c (ix3 (bat t) (0 : Fin 1) (tok t j)) := by
  unfold R8
  exact block8_of (iblk0 m c t 0) (iblk1 m c t 0) (iblk2 m c t) (iblk3 m c t 0) (iblk4 m c t 0 0) (iblk5 m c t 0) (iblk6 m c t 0 0) i n j

theorem flushed8_eq (t : Fin cfg0.N) :
    (dats m 0 c).flushed 8 t = ((cfg0.win 8).blk t).view.read (Elt Ideal) (R8 m c) :=
  (Cert.OprojIdeal.Value.flushed8 m c t).trans (block8 t _ _ (block8_eq m c t))

theorem block9_eq (t : Fin grid0.N) (i : Fin 1) (n : Fin 512) (j : Fin 2304) :
    out0_9 (iblk m c 0 t) (iblk m c 1 t) (iblk m c 2 t) (iblk m c 3 t) (iblk m c 4 t) (iblk m c 5 t) (iblk m c 6 t) (ix3 i n j)
      = R9 m c (ix3 (bat t) (tok t n) j) := by
  unfold R9
  exact block9_of (iblk0 m c t 0) (iblk1 m c t 0) (iblk2 m c t) (iblk3 m c t 0) (iblk4 m c t 0 0) (iblk5 m c t 0) (iblk6 m c t 0 0) i n j

theorem flushed9_eq (t : Fin cfg0.N) :
    (dats m 0 c).flushed 9 t = ((cfg0.win 9).blk t).view.read (Elt Ideal) (R9 m c) :=
  (Cert.OprojIdeal.Value.flushed9 m c t).trans (block9 t _ _ (block9_eq m c t))

theorem block10_eq (t : Fin grid0.N) (i : Fin 1) (n : Fin 512) (j : Fin 2304) :
    out0_10 (iblk m c 0 t) (iblk m c 1 t) (iblk m c 2 t) (iblk m c 3 t) (iblk m c 4 t) (iblk m c 5 t) (iblk m c 6 t) (ix3 i n j)
      = R10 m c (ix3 (bat t) (tok t n) j) := by
  unfold R10
  exact block10_of (iblk0 m c t 0) (iblk1 m c t 0) (iblk2 m c t) (iblk3 m c t 0) (iblk4 m c t 0 0) (iblk5 m c t 0) (iblk6 m c t 0 0) i n j

theorem flushed10_eq (t : Fin cfg0.N) :
    (dats m 0 c).flushed 10 t = ((cfg0.win 10).blk t).view.read (Elt Ideal) (R10 m c) :=
  (Cert.OprojIdeal.Value.flushed10 m c t).trans (block10 t _ _ (block10_eq m c t))

theorem block11_eq (t : Fin grid0.N) (i : Fin 1) (n : Fin 1) (j : Fin 512) :
    out0_11 (iblk m c 0 t) (iblk m c 1 t) (iblk m c 2 t) (iblk m c 3 t) (iblk m c 4 t) (iblk m c 5 t) (iblk m c 6 t) (ix3 i n j)
      = R11 m c (ix3 (bat t) (0 : Fin 1) (tok t j)) := by
  unfold R11
  exact block11_of (iblk0 m c t 0) (iblk1 m c t 0) (iblk2 m c t) (iblk3 m c t 0) (iblk4 m c t 0 0) (iblk5 m c t 0) (iblk6 m c t 0 0) i n j

theorem flushed11_eq (t : Fin cfg0.N) :
    (dats m 0 c).flushed 11 t = ((cfg0.win 11).blk t).view.read (Elt Ideal) (R11 m c) :=
  (Cert.OprojIdeal.Value.flushed11 m c t).trans (block11 t _ _ (block11_eq m c t))

/-- The grid point whose block holds a token. -/
def pnt (b : Fin 6) (n : Fin 2048) : Fin cfg0.N := ⟨4 * b.val + n.val / 512, by show _ < 24; omega⟩

theorem bat_pnt (b : Fin 6) (n : Fin 2048) : bat (pnt b n) = b := by
  apply Fin.ext; show (4 * b.val + n.val / 512) / 4 = b.val; omega

theorem tok_pnt (b : Fin 6) (n : Fin 2048) : tok (pnt b n) ⟨n.val % 512, by omega⟩ = n := by
  apply Fin.ext; show (4 * b.val + n.val / 512) % 4 * 512 + n.val % 512 = n.val; omega

theorem covered7 (i : S6x2304x2048.Idx) :
    ∃ t : Fin cfg0.N, (cfg0.win 7).flush t = true ∧ i ∈ ((cfg0.win 7).blk t).view.set := by
  obtain ⟨b, n, j, rfl⟩ := eta3 i
  refine ⟨pnt b j, flush0_7 _, ?_⟩
  have h := ((cfg0.win 7).blk (pnt b j)).view.emb_mem_set (ix3 (0 : Fin 1) n (⟨j.val % 512, by omega⟩ : Fin 512))
  rwa [emb7, bat_pnt, tok_pnt] at h

theorem final7 : (dats m 0 c).arrAt 7 cfg0.N = R7 m c :=
  (dats m 0 c).arrAt_eq_of_cover 7 (R7 m c) (fun t _ => flushed7_eq m c t) covered7

theorem covered8 (i : S6x1x2048.Idx) :
    ∃ t : Fin cfg0.N, (cfg0.win 8).flush t = true ∧ i ∈ ((cfg0.win 8).blk t).view.set := by
  obtain ⟨b, n, j, rfl⟩ := eta3 i
  rw [Subsingleton.elim n (0 : Fin 1)]
  refine ⟨pnt b j, flush0_8 _, ?_⟩
  have h := ((cfg0.win 8).blk (pnt b j)).view.emb_mem_set (ix3 (0 : Fin 1) n (⟨j.val % 512, by omega⟩ : Fin 512))
  rwa [emb8, bat_pnt, tok_pnt] at h

theorem final8 : (dats m 0 c).arrAt 8 cfg0.N = R8 m c :=
  (dats m 0 c).arrAt_eq_of_cover 8 (R8 m c) (fun t _ => flushed8_eq m c t) covered8

theorem covered9 (i : S6x2048x2304.Idx) :
    ∃ t : Fin cfg0.N, (cfg0.win 9).flush t = true ∧ i ∈ ((cfg0.win 9).blk t).view.set := by
  obtain ⟨b, n, j, rfl⟩ := eta3 i
  refine ⟨pnt b n, flush0_9 _, ?_⟩
  have h := ((cfg0.win 9).blk (pnt b n)).view.emb_mem_set (ix3 (0 : Fin 1) (⟨n.val % 512, by omega⟩ : Fin 512) j)
  rwa [emb9, bat_pnt, tok_pnt] at h

theorem final9 : (dats m 0 c).arrAt 9 cfg0.N = R9 m c :=
  (dats m 0 c).arrAt_eq_of_cover 9 (R9 m c) (fun t _ => flushed9_eq m c t) covered9

theorem covered10 (i : S6x2048x2304.Idx) :
    ∃ t : Fin cfg0.N, (cfg0.win 10).flush t = true ∧ i ∈ ((cfg0.win 10).blk t).view.set := by
  obtain ⟨b, n, j, rfl⟩ := eta3 i
  refine ⟨pnt b n, flush0_10 _, ?_⟩
  have h := ((cfg0.win 10).blk (pnt b n)).view.emb_mem_set (ix3 (0 : Fin 1) (⟨n.val % 512, by omega⟩ : Fin 512) j)
  rwa [emb10, bat_pnt, tok_pnt] at h

theorem final10 : (dats m 0 c).arrAt 10 cfg0.N = R10 m c :=
  (dats m 0 c).arrAt_eq_of_cover 10 (R10 m c) (fun t _ => flushed10_eq m c t) covered10

theorem covered11 (i : S6x1x2048.Idx) :
    ∃ t : Fin cfg0.N, (cfg0.win 11).flush t = true ∧ i ∈ ((cfg0.win 11).blk t).view.set := by
  obtain ⟨b, n, j, rfl⟩ := eta3 i
  rw [Subsingleton.elim n (0 : Fin 1)]
  refine ⟨pnt b j, flush0_11 _, ?_⟩
  have h := ((cfg0.win 11).blk (pnt b j)).view.emb_mem_set (ix3 (0 : Fin 1) n (⟨j.val % 512, by omega⟩ : Fin 512))
  rwa [emb11, bat_pnt, tok_pnt] at h

theorem final11 : (dats m 0 c).arrAt 11 cfg0.N = R11 m c :=
  (dats m 0 c).arrAt_eq_of_cover 11 (R11 m c) (fun t _ => flushed11_eq m c t) covered11

end Cert.OprojIdeal.Gen

namespace Cert.Oproj

open Idealize.ShloMosaic Idealize.ShloMosaic.TcCoe Idealize.SL.Sem Cert.Lib

/-- The kernel and its reference end with the same codes, scales and residual. -/
theorem algebraic : Cert.algebraic_OprojIdeal_OprojRefIdeal (hOprojIdeal := Cert.OprojIdeal.Gen.facts)
    (hOprojRefIdeal := Cert.OprojRefIdeal.Gen.facts) := by
  intro m g m' g' _ hin
  refine ⟨fun c => Cert.OprojIdeal.Gen.R7 m c, fun c => Cert.OprojIdeal.Gen.R8 m c, fun c => Cert.OprojIdeal.Gen.R9 m c, fun c => Cert.OprojIdeal.Gen.R10 m c, fun c => Cert.OprojIdeal.Gen.R11 m c, ?_, ?_⟩
  · refine (θ_run _ _ _).mono (fun r h c => ?_) (Cert.OprojIdeal.Value.run_blocks (F := Ideal) m g)
    obtain ⟨h7, h8, h9, h10, h11, hk⟩ := h c
    exact ⟨h7.trans (Cert.OprojIdeal.Gen.final7 m c), h8.trans (Cert.OprojIdeal.Gen.final8 m c), h9.trans (Cert.OprojIdeal.Gen.final9 m c), h10.trans (Cert.OprojIdeal.Gen.final10 m c), h11.trans (Cert.OprojIdeal.Gen.final11 m c), hk⟩
  · refine (θ_run _ _ _).mono (fun r h c => ?_) (Cert.OprojRefIdeal.Value.run (F := Ideal) m' g')
    obtain ⟨h7, h8, h9, h10, h11, hk⟩ := h c
    obtain ⟨q0, q1, q2, q3, q4, q5, q6⟩ := hin c
    rw [q0, q1, q2, q3, q4, q5, q6] at h7 h8 h9 h10 h11
    exact ⟨h7, h8, h9, h10, h11, hk⟩

/-- The kernel's two named constants stand for the numbers their words round. -/
theorem preserves : Cert.preserves_Oproj_OprojIdeal :=
  ⟨IdealRules.named_const.statement Cert.OprojIdeal.κ "inv_448" .f32 0x3B124925#32 _ rfl,
    IdealRules.named_const.statement Cert.OprojIdeal.κ "inv_2304" .f32 0x39E38E39#32 _ rfl⟩

end Cert.Oproj
-- ==== Proof.Qkv.Pay.lean ====
/- The kernel computes four groups of eight heads; its payloads cut the same terms at different places. This module writes
   each payload with one term per step, for any float instance. -/
module

public import proofs.«01_k».proof.Proof.Gen.QkvIdeal.Value

@[expose] public section

set_option maxRecDepth 16384

namespace Cert.QkvIdeal.Gen

open Idealize.ShloMosaic Idealize.ShloMosaic.TcCoe

variable {F : FTy → Type} [FloatOps F] [Named F]

/-- Eight heads normed, times their gain. -/
noncomputable def nrm (L : FVec F S8x96x512 .f32) (G : FVec F S96x512 .f32) : FVec F S8x96x512 .f32 :=
  mulf (mulf L (broadcastTo S8x96x512 (rsqrt (addf (mulf (shapeCast S8x1x512 (multiReduction .add [1] S8x512 (mulf L L) 0x00000000#32 reduces_S8x96x512_S8x512 (.inl rfl) rfl) shapeCasts_S8x512_S8x1x512)
      (broadcast S8x1x512 (Named.named κ "inv_96" 0x3C2AAAAB#32))) (broadcast S8x1x512 (Scalar.ofBits .f32 0x358637BD#32)))) broadcasts_S8x1x512_S8x96x512))
    (broadcastTo S8x96x512 (shapeCast S1x96x512 G shapeCasts_S96x512_S1x96x512) broadcasts_S1x96x512_S8x96x512)

/-- The other channel of every pair: the rows of a tile rotated by one either way. -/
noncomputable def swap (V : FVec F S8x96x512 .f32) : FVec F S8x96x512 .f32 :=
  shapeCast S8x96x512 (select (cmpi .eq k0_pay50 (broadcast S96x8x512 1#32))
    (dynamicRotate 1 1#32 none (shapeCast S96x8x512 V shapeCasts_S8x96x512_S96x8x512) rotates_S96x8x512_d1)
    (dynamicRotate 1 7#32 none (shapeCast S96x8x512 V shapeCasts_S8x96x512_S96x8x512) rotates_S96x8x512_d1)) shapeCasts_S96x8x512_S8x96x512

/-- Eight heads rotated. -/
noncomputable def rot (c s : FVec F S96x512 .f32) (V : FVec F S8x96x512 .f32) : FVec F S8x96x512 .f32 :=
  addf (mulf V (broadcastTo S8x96x512 (shapeCast S1x96x512 c shapeCasts_S96x512_S1x96x512) broadcasts_S1x96x512_S8x96x512))
    (mulf (swap V) (broadcastTo S8x96x512 (shapeCast S1x96x512 s shapeCasts_S96x512_S1x96x512) broadcasts_S1x96x512_S8x96x512))

/-- Eight heads as q is stored. -/
noncomputable def qst (V : FVec F S8x96x512 .f32) : FVec F S1x768x512 .bf16 :=
  shapeCast S1x768x512 (shapeCast S768x512 (truncf .bf16 V bitsLt_bf16_f32) shapeCasts_S8x96x512_S768x512) shapeCasts_S768x512_S1x768x512

/-- The scales of eight heads. -/
noncomputable def hscl (V : FVec F S8x96x512 .f32) : FVec F S8x1x512 .f32 :=
  select (cmpf .oeq (shapeCast S8x1x512 (multiReduction .maximumf [1] S8x512 (absf V) 0xFF800000#32 reduces_S8x96x512_S8x512 (.inl rfl) rfl) shapeCasts_S8x512_S8x1x512)
      (broadcast S8x1x512 (Scalar.ofBits .f32 0x00000000#32)))
    (broadcast S8x1x512 (Scalar.ofBits .f32 0x3F800000#32))
    (mulf (shapeCast S8x1x512 (multiReduction .maximumf [1] S8x512 (absf V) 0xFF800000#32 reduces_S8x96x512_S8x512 (.inl rfl) rfl) shapeCasts_S8x512_S8x1x512)
      (broadcast S8x1x512 (Named.named κ "inv_448" 0x3B124925#32)))

/-- The codes of eight heads as they are stored. -/
noncomputable def hcod (V : FVec F S8x96x512 .f32) : FVec F S1x768x512 .fp8e4m3 :=
  shapeCast S1x768x512 (shapeCast S768x512 (truncf .fp8e4m3 (minimumf (broadcast S8x96x512 (Scalar.ofBits .f32 0x43E00000#32))
    (maximumf (broadcast S8x96x512 (Scalar.ofBits .f32 0xC3E00000#32))
      (mulf V (broadcastTo S8x96x512 (divf (broadcast S8x1x512 (Scalar.ofBits .f32 0x3F800000#32)) (hscl V)) broadcasts_S8x1x512_S8x96x512)))) bitsLt_fp8e4m3_f32)
    shapeCasts_S8x96x512_S768x512) shapeCasts_S768x512_S1x768x512

/-- The scales of eight heads as they are stored. -/
noncomputable def hsst (V : FVec F S8x96x512 .f32) : FVec F S1x8x512 .f32 :=
  shapeCast S1x8x512 (shapeCast S8x512 (hscl V) shapeCasts_S8x1x512_S8x512) shapeCasts_S8x512_S1x8x512

section
variable (h : FVec F S512x2304 .fp8e4m3) (r : FVec F S8x512 .f32) (w : Vec F S768x2304 .fp8e4m3) (s : Vec F S768x128 .f32) (g : Vec F S96x128 .f32)
  (c2 s2 : FVec F S96x512 .f32)

theorem e37 : k0_pay37 c2 s2 (k0_pay34 h r w s) (k0_pay35 g) (k0_pay36 h r w s) = qst (rot c2 s2 (nrm (k0_pay44 h r w s) (k0_pay45 g))) := rfl
theorem e38 : k0_pay38 h r w s g = nrm (k0_pay44 h r w s) (k0_pay45 g) := rfl
theorem e48 : k0_pay48 h r w s g = nrm (k0_pay44 h r w s) (k0_pay45 g) := rfl
theorem e55 : k0_pay55 h r w s = k0_pay44 h r w s := rfl
theorem e43 (b : BitVec 32) (hb : b = Scalar.select (Scalar.cmpi .eq 2#32 0#32) 1#32 2#32) : k0_pay43 c2 s2 (k0_pay38 h r w s g) (k0_pay39 h r w s g) b k0_pay40 k0_pay41 k0_pay42
    = qst (rot c2 s2 (nrm (k0_pay44 h r w s) (k0_pay45 g))) := by subst hb; rfl
theorem e47 : k0_pay47 c2 s2 (k0_pay44 h r w s) (k0_pay45 g) (k0_pay46 h r w s) (Scalar.ofBits .f32 0x358637BD#32)
    = qst (rot c2 s2 (nrm (k0_pay44 h r w s) (k0_pay45 g))) := rfl
theorem e53 : k0_pay53 c2 s2 (k0_pay48 h r w s g) (k0_pay49 h r w s g) k0_pay50 = hcod (rot c2 s2 (nrm (k0_pay44 h r w s) (k0_pay45 g))) := rfl
theorem e54 : k0_pay54 c2 s2 (k0_pay48 h r w s g) (k0_pay49 h r w s g) k0_pay50 = hsst (rot c2 s2 (nrm (k0_pay44 h r w s) (k0_pay45 g))) := rfl
theorem e57 : k0_pay57 h r w s = hcod (k0_pay44 h r w s) := rfl
theorem e58 : k0_pay1 (k0_pay58 h r w s) = hsst (k0_pay44 h r w s) := rfl
end

end Cert.QkvIdeal.Gen
-- ==== Proof.Qkv.Row.lean ====
/- A token's row of the projection to q, k and v: the normed row, its codes, one channel of the product, a head's norm
   and the rotation of a head by interleaved pairs. -/
module

public import proofs.«01_k».proof.Proof.Oproj.Row

@[expose] public section

namespace Cert.Qkv

open Idealize.ShloMosaic Cert.Lib

/-- One channel of the product with the row's codes. -/
noncomputable def linE (h w : Fin 2304 → EReal) (s : EReal) : EReal :=
  (∑ k : Fin 2304, codeE (h k) (scaleE (topE h)) * w k) * scaleE (topE h) * s

/-- The norm of a head, times its gain. -/
noncomputable def headE (g V : Fin 96 → EReal) (d : Fin 96) : EReal :=
  Ideal.div (V d) (Ideal.sqrt (msE (1 / 96) V)) * g d

/-- The other channel of a pair. -/
def mate (d : Fin 96) : Fin 96 := if h : d.val % 2 = 0 then ⟨d.val + 1, by omega⟩ else ⟨d.val - 1, by omega⟩

/-- The pair a channel belongs to. -/
def half (d : Fin 96) : Fin 48 := ⟨d.val / 2, by omega⟩

/-- A head's channels rotated pair by pair. -/
noncomputable def ropeE (co si : Fin 48 → EReal) (V : Fin 96 → EReal) (d : Fin 96) : EReal :=
  if d.val % 2 = 0 then V d * co (half d) - V (mate d) * si (half d)
  else V (mate d) * si (half d) + V d * co (half d)

end Cert.Qkv
-- ==== Proof.Qkv.Rows.lean ====
/- The steps of the kernel read at an index, in terms of the row spec. -/
module

public import proofs.«01_k».proof.Proof.Qkv.Pay
public import proofs.«01_k».proof.Proof.Qkv.Row
public import Idealize.ShloMosaic.Lib.Pipeline.ValueKit.Tiles

@[expose] public section

set_option maxRecDepth 16384

namespace Cert.QkvIdeal.Gen

open Idealize.ShloMosaic Idealize.ShloMosaic.TcCoe Cert.Lib Cert.Qkv

theorem named_inv_448 : Named.named (F := Ideal) (φ := .f32) κ "inv_448" 0x3B124925#32 = ((1 / 448 : ℝ) : EReal) :=
  IdealRules.named_const.ideal_named_scalar _ _ _ _ rfl

theorem named_inv_2304 : Named.named (F := Ideal) (φ := .f32) κ "inv_2304" 0x39E38E39#32 = ((1 / 2304 : ℝ) : EReal) :=
  IdealRules.named_const.ideal_named_scalar _ _ _ _ rfl

theorem named_inv_96 : Named.named (F := Ideal) (φ := .f32) κ "inv_96" 0x3C2AAAAB#32 = ((1 / 96 : ℝ) : EReal) :=
  IdealRules.named_const.ideal_named_scalar _ _ _ _ rfl

/-- A head's channel among the 768 of eight heads. -/
def ri (h : Fin 8) (d : Fin 96) : Fin 768 := ⟨h.val * 96 + d.val, by omega⟩

/-- A token's lane in its group of 128. -/
def lo (n : Fin 512) : Fin 128 := ⟨n.val % 128, Nat.mod_lt _ (by norm_num)⟩

section
variable (x0 : Vec Ideal S1x512x2304 .bf16) (x1 : Vec Ideal S1x2304 .f32) (x2 : Vec Ideal S1x1x2304 .f32) (n : Fin 512)

/-- A token's normed row. -/
noncomputable def bx : Fin 2304 → EReal := Cert.Oproj.normE (fun j => x1 (ix2 (0 : Fin 1) j)) (fun j => x2 (ix3 (0 : Fin 1) (0 : Fin 1) j)) fun j => x0 (ix3 (0 : Fin 1) n j)

theorem pay2_apply (j : Fin 2304) : k0_pay2 x0 x1 x2 (ix2 n j) = bx x0 x1 x2 n j := by
  unfold k0_pay2 bx Cert.Oproj.normE
  rw [← mul_rsqrt _ _ (msE_pos _ (by norm_num) _)]
  unfold msE
  rw [← named_inv_2304]
  pointwise [lit_one]

theorem pay3_apply (i : Fin 1) : k0_pay3 x0 x1 x2 (ix2 n i) = scaleE (topE (bx x0 x1 x2 n)) := by
  unfold k0_pay3
  dsimp only
  rw [scale_mul_apply _ _ named_inv_448]
  have key : ∀ (A : FVec Ideal S512x2304 .f32) (h : S512x2304.Reduces [1] S512) (h1 h2) (h3 : S512.ShapeCasts S512x1),
      shapeCast S512x1 (multiReduction .maximumf [1] S512 A 0xFF800000#32 h h1 h2) h3 (ix2 n i)
        = (Finset.univ : Finset (Fin 2304)).fold max (Ideal.ofBits .f32 0xFF800000#32) fun k => A (ix2 n k) := by
    intro A h h1 h2 h3; pointwise
  refine congrArg scaleE ((key _ _ _ _ _).trans ?_)
  rw [lit_bot]
  simp only [absf_apply, pay2_apply]
  rfl

theorem pay6_apply (k : Fin 2304) : k0_pay6 (k0_pay4 x0 x1 x2) k0_pay5 (ix2 n k) = codeE (bx x0 x1 x2 n k) (scaleE (topE (bx x0 x1 x2 n))) := by
  unfold k0_pay6 k0_pay4 k0_pay5
  have key : ∀ (A : FVec Ideal S512x1 .f32) (h : S512x1.Broadcasts S512x2304), broadcastTo S512x2304 A h (ix2 n k) = A (ix2 n (0 : Fin 1)) := by
    intro A h; pointwise
  dsimp only
  rw [codes_apply, ValueIdx.mulf_apply, key, recip_apply, pay2_apply, pay3_apply, clamp_mul]

theorem pay7_apply (i : Fin 1) (k : Fin 2304) : k0_pay7 (k0_pay4 x0 x1 x2) k0_pay5 (ix3 i n k) = codeE (bx x0 x1 x2 n k) (scaleE (topE (bx x0 x1 x2 n))) := by
  have key : ∀ (A : FVec Ideal S512x2304 .fp8e4m3), shapeCast S1x512x2304 A shapeCasts_S512x2304_S1x512x2304 (ix3 i n k) = A (ix2 n k) := by
    intro A; pointwise
  unfold k0_pay7
  exact (key _).trans (pay6_apply x0 x1 x2 n k)

theorem pay8_apply (i : Fin 8) : k0_pay8 (k0_pay3 x0 x1 x2) (ix2 i n) = scaleE (topE (bx x0 x1 x2 n)) := by
  have key : ∀ (A : FVec Ideal S512x1 .f32), extractStridedSlice S8x512 ![0, 0] (transpose S128x512 [1, 0] (broadcastTo S512x128
      (shapeCast S512x1 A shapeCasts_S512x1_S512x1) broadcasts_S512x1_S512x128) transposes_S512x128_p1_0_S128x512) slices_S128x512_o0_0_S8x512 (ix2 i n) = A (ix2 n (0 : Fin 1)) := by
    intro A; pointwise
  unfold k0_pay8
  exact (key _).trans (pay3_apply x0 x1 x2 n 0)

theorem pay9_apply (i p : Fin 1) : k0_pay9 (k0_pay3 x0 x1 x2) (ix3 i p n) = scaleE (topE (bx x0 x1 x2 n)) := by
  have key : ∀ (A : FVec Ideal S8x512 .f32), shapeCast S1x1x512 (extractStridedSlice S1x512 ![0, 0] A slices_S8x512_o0_0_S1x512) shapeCasts_S1x512_S1x1x512 (ix3 i p n) = A (ix2 (0 : Fin 8) n) := by
    intro A; pointwise
  unfold k0_pay9
  exact (key _).trans (pay8_apply x0 x1 x2 n 0)
end

section
variable (hd : Fin 8) (d : Fin 96) (n : Fin 512)

theorem cat768_apply (x : FVec Ideal S768x128 .f32) (p : Fin 768) :
    concatenate S768x512 1 [⟨S768x128, x⟩, ⟨S768x128, x⟩, ⟨S768x128, x⟩, ⟨S768x128, x⟩] concatenates_S768x128_S768x128_S768x128_S768x128_S768x512_d1 (ix2 p n) = x (ix2 p (lo n)) :=
  concatenate_replicate_apply (t := S768x512) (s₁ := S768x128) 1 4 x concatenates_S768x128_S768x128_S768x128_S768x128_S768x512_d1 rfl (ix2 p n) (ix2 p (lo n)) rfl
    (by intro b hb; fin_cases b <;> simp_all [ix2])

theorem cat96_apply (f : Fin 4 → FVec Ideal S96x128 .f32) (d : Fin 96) (q : Fin 4) (hq : n.val / 128 = q.val) :
    concatenate S96x512 1 [⟨S96x128, f 0⟩, ⟨S96x128, f 1⟩, ⟨S96x128, f 2⟩, ⟨S96x128, f 3⟩] concatenates_S96x128_S96x128_S96x128_S96x128_S96x512_d1 (ix2 d n) = f q (ix2 d (lo n)) :=
  concatenate_ofFn_apply (t := S96x512) (s₁ := S96x128) 1 f concatenates_S96x128_S96x128_S96x128_S96x128_S96x512_d1 rfl 128 rfl (ix2 d n) q hq (ix2 d (lo n)) rfl
    (by intro b hb; fin_cases b <;> simp_all [ix2])

theorem pay45_apply (g : Vec Ideal S96x128 .f32) : k0_pay45 g (ix2 d n) = g (ix2 d (lo n)) := by
  have key : ∀ (A : FVec Ideal S96x128 .f32), shapeCast S96x128 A shapeCasts_S96x128_S96x128 (ix2 d (lo n)) = A (ix2 d (lo n)) := by
    intro A; pointwise
  unfold k0_pay45
  exact (cat96_apply n (fun _ => shapeCast S96x128 g shapeCasts_S96x128_S96x128) d ⟨n.val / 128, by omega⟩ rfl).trans (key g)

/-- Eight heads' channels of the product. -/
theorem pay44_apply (h : FVec Ideal S512x2304 .fp8e4m3) (r : FVec Ideal S8x512 .f32) (w : Vec Ideal S768x2304 .fp8e4m3) (s : Vec Ideal S768x128 .f32) :
    k0_pay44 h r w s (ix3 hd d n)
      = (∑ k : Fin 2304, w (ix2 (ri hd d) k) * h (ix2 n k)) * r (ix2 (⟨(ri hd d).val % 8, Nat.mod_lt _ (by norm_num)⟩ : Fin 8) n) * s (ix2 (ri hd d) (lo n)) := by
  have k1 : ∀ (A : FVec Ideal S768x512 .f32), shapeCast S8x96x512 A shapeCasts_S768x512_S8x96x512 (ix3 hd d n) = A (ix2 (ri hd d) n) := by
    intro A; pointwise; rfl
  have k2 : ∀ (A : FVec Ideal S96x8x512 .f32) (p : Fin 768), shapeCast S768x512 A shapeCasts_S96x8x512_S768x512 (ix2 p n)
      = A (ix3 (⟨p.val / 8, by omega⟩ : Fin 96) (⟨p.val % 8, by omega⟩ : Fin 8) n) := by
    intro A p; pointwise
  have k3 : ∀ (A : FVec Ideal S768x512 .f32) (p : Fin 768), shapeCast S96x8x512 A shapeCasts_S768x512_S96x8x512 (ix3 (⟨p.val / 8, by omega⟩ : Fin 96) (⟨p.val % 8, by omega⟩ : Fin 8) n)
      = A (ix2 p n) := by
    intro A p; pointwise
  have k4 : ∀ (A : FVec Ideal S8x512 .f32) (a : Fin 96) (b : Fin 8), broadcastTo S96x8x512 (shapeCast S1x8x512 A shapeCasts_S8x512_S1x8x512) broadcasts_S1x8x512_S96x8x512 (ix3 a b n)
      = A (ix2 b n) := by
    intro A a b; pointwise
  have k5 : ∀ (A : FVec Ideal S768x2304 .fp8e4m3) (B : FVec Ideal S512x2304 .fp8e4m3) (p : Fin 768), matmul (F := Ideal) dot_S768x2304_S512x2304_S768x512_1_1_0_0_n_n none
      (shapeCast S768x2304 A shapeCasts_S768x2304_S768x2304) B (constant S768x512 .f32 0x00000000#32) (ix2 p n) = ∑ k : Fin 2304, A (ix2 p k) * B (ix2 n k) := by
    intro A B p; pointwise [lit_zero]
  have k6 : ∀ (A : FVec Ideal S768x128 .f32) (p : Fin 768), shapeCast S768x128 A shapeCasts_S768x128_S768x128 (ix2 p (lo n)) = A (ix2 p (lo n)) := by
    intro A p; pointwise
  unfold k0_pay44
  refine (k1 _).trans ?_
  refine congrArg₂ (· * ·) ((k2 _ _).trans (congrArg₂ (· * ·) ((k3 _ _).trans (k5 _ _ _)) (k4 _ _ _))) ((cat768_apply n _ _).trans (k6 _ _))

theorem nrm_apply (L : FVec Ideal S8x96x512 .f32) (G : FVec Ideal S96x512 .f32) :
    nrm L G (ix3 hd d n) = headE (fun d => G (ix2 d n)) (fun d => L (ix3 hd d n)) d := by
  unfold nrm headE
  rw [← mul_rsqrt _ _ (msE_pos _ (by norm_num) _)]
  unfold msE
  rw [← named_inv_96]
  pointwise [lit_one]

theorem top_apply (V : FVec Ideal S8x96x512 .f32) (i : Fin 1) (h : S8x96x512.Reduces [1] S8x512) (h1 h2) (h3 : S8x512.ShapeCasts S8x1x512) :
    shapeCast S8x1x512 (multiReduction .maximumf [1] S8x512 (absf V) 0xFF800000#32 h h1 h2) h3 (ix3 hd i n) = topE fun d => V (ix3 hd d n) := by
  have key : ∀ (A : FVec Ideal S8x96x512 .f32),
      shapeCast S8x1x512 (multiReduction .maximumf [1] S8x512 A 0xFF800000#32 h h1 h2) h3 (ix3 hd i n)
        = (Finset.univ : Finset (Fin 96)).fold max (Ideal.ofBits .f32 0xFF800000#32) fun k => A (ix3 hd k n) := by
    intro A; pointwise
  refine (key _).trans ?_
  rw [lit_bot]
  simp only [absf_apply]
  rfl

theorem hscl_apply (V : FVec Ideal S8x96x512 .f32) (i : Fin 1) : hscl V (ix3 hd i n) = scaleE (topE fun d => V (ix3 hd d n)) := by
  unfold hscl
  rw [scale_mul_apply _ _ named_inv_448]
  exact congrArg scaleE (top_apply hd n V i _ _ _ _)

theorem out768 (φ : FTy) (A : FVec Ideal S8x96x512 φ) (i : Fin 1) (p : Fin 768) :
    shapeCast S1x768x512 (shapeCast S768x512 A shapeCasts_S8x96x512_S768x512) shapeCasts_S768x512_S1x768x512 (ix3 i p n)
      = A (ix3 (⟨p.val / 96, by omega⟩ : Fin 8) (⟨p.val % 96, by omega⟩ : Fin 96) n) := by
  pointwise

theorem hcod_apply (V : FVec Ideal S8x96x512 .f32) (i : Fin 1) (p : Fin 768) : hcod V (ix3 i p n)
    = codeE (V (ix3 (⟨p.val / 96, by omega⟩ : Fin 8) (⟨p.val % 96, by omega⟩ : Fin 96) n)) (scaleE (topE fun d => V (ix3 (⟨p.val / 96, by omega⟩ : Fin 8) d n))) := by
  have key : ∀ (A : FVec Ideal S8x1x512 .f32) (a : Fin 8) (b : Fin 96), broadcastTo S8x96x512 A broadcasts_S8x1x512_S8x96x512 (ix3 a b n) = A (ix3 a (0 : Fin 1) n) := by
    intro A a b; pointwise
  unfold hcod
  refine (out768 n _ _ _ _).trans ?_
  rw [codes_apply, ValueIdx.mulf_apply, key, recip_apply, hscl_apply, clamp_mul]

theorem hsst_apply (V : FVec Ideal S8x96x512 .f32) (i : Fin 1) : hsst V (ix3 i hd n) = scaleE (topE fun d => V (ix3 hd d n)) := by
  have key : ∀ (A : FVec Ideal S8x1x512 .f32), shapeCast S1x8x512 (shapeCast S8x512 A shapeCasts_S8x1x512_S8x512) shapeCasts_S8x512_S1x8x512 (ix3 i hd n) = A (ix3 hd (0 : Fin 1) n) := by
    intro A; pointwise
  unfold hsst
  exact (key _).trans (hscl_apply hd n V 0)

theorem qst_apply (V : FVec Ideal S8x96x512 .f32) (i : Fin 1) (p : Fin 768) : qst V (ix3 i p n)
    = V (ix3 (⟨p.val / 96, by omega⟩ : Fin 8) (⟨p.val % 96, by omega⟩ : Fin 96) n) := by
  unfold qst
  exact out768 n .bf16 _ _ _
end

end Cert.QkvIdeal.Gen
-- ==== Proof.Qkv.Rot.lean ====
/- The turning of a head's pairs read at an index. -/
module

public import proofs.«01_k».proof.Proof.Qkv.Rows
public import Idealize.ShloMosaic.Lib.KernelVsHost

@[expose] public section

set_option maxRecDepth 16384

namespace Cert.QkvIdeal.Gen

open Idealize.ShloMosaic Idealize.ShloMosaic.TcCoe Cert.Lib Cert.Qkv

section
variable (hd : Fin 8) (d : Fin 96) (n : Fin 512)

theorem odd_apply (X Y : FVec Ideal S96x8x512 .f32) (a : Fin 96) (b : Fin 8) :
    select (cmpi .eq k0_pay50 (broadcast S96x8x512 1#32)) X Y (ix3 a b n) = if b.val % 2 = 1 then X (ix3 a b n) else Y (ix3 a b n) := by
  have key : ∀ K : IVec S96x8x512 32, select (cmpi .eq K (broadcast S96x8x512 1#32)) X Y (ix3 a b n) = if K (ix3 a b n) = 1#32 then X (ix3 a b n) else Y (ix3 a b n) := by
    intro K
    show Scalar.select (IntOp.cmpi .eq (K (ix3 a b n)) 1#32) (X (ix3 a b n)) (Y (ix3 a b n)) = _
    by_cases hK : K (ix3 a b n) = 1#32
    · rw [if_pos hK]; simp [Scalar.select, IntOp.cmpi, hK]
    · rw [if_neg hK]
      have hb : (K (ix3 a b n) == 1#32) = false := beq_eq_false_iff_ne.mpr hK
      simp [Scalar.select, IntOp.cmpi, hb]
  have hp : k0_pay50 (ix3 a b n) = if b.val % 2 = 1 then 1#32 else 0#32 := by
    have hi : iota .tc S96x8x512 32 [1] iota_S96x8x512_d1_w32 (ix3 a b n) = BitVec.ofNat 32 b.val := by
      pointwise
    unfold k0_pay50
    revert hi
    generalize iota .tc S96x8x512 32 [1] iota_S96x8x512_d1_w32 = I
    intro hi
    pointwise
    rw [hi]
    fin_cases b <;> rfl
  rw [key, hp]
  by_cases hb : b.val % 2 = 1
  · rw [if_pos hb, if_pos rfl, if_pos hb]
  · rw [if_neg hb, if_neg (by decide), if_neg hb]

theorem swap_apply (V : FVec Ideal S8x96x512 .f32) : swap V (ix3 hd d n) = V (ix3 hd (mate d) n) := by
  have k1 : ∀ (A : FVec Ideal S96x8x512 .f32) (a : Fin 96) (b : Fin 8) (h : (ri hd d).val = a.val * 8 + b.val),
      shapeCast S8x96x512 A shapeCasts_S96x8x512_S8x96x512 (ix3 hd d n) = A (ix3 a b n) := by
    intro A a b h
    have e : shapeCast S8x96x512 A shapeCasts_S96x8x512_S8x96x512 (ix3 hd d n)
      = A (ix3 (⟨(ri hd d).val / 8, by have := (ri hd d).isLt; omega⟩ : Fin 96) (⟨(ri hd d).val % 8, by omega⟩ : Fin 8) n) := by
      unfold ri; pointwise
      congr 2 <;> (apply Fin.ext; simp only []; omega)
    rw [e]
    congr 2 <;> (apply Fin.ext; simp only []; omega)
  have k2 : ∀ (A : FVec Ideal S8x96x512 .f32) (a : Fin 96) (b : Fin 8) (d' : Fin 96) (h : hd.val * 96 + d'.val = a.val * 8 + b.val),
      shapeCast S96x8x512 A shapeCasts_S8x96x512_S96x8x512 (ix3 a b n) = A (ix3 hd d' n) := by
    intro A a b d' h
    have e : shapeCast S96x8x512 A shapeCasts_S8x96x512_S96x8x512 (ix3 a b n)
      = A (ix3 (⟨(a.val * 8 + b.val) / 96, by omega⟩ : Fin 8) (⟨(a.val * 8 + b.val) % 96, by omega⟩ : Fin 96) n) := by
      pointwise
      congr 2 <;> (apply Fin.ext; simp only []; omega)
    rw [e]
    congr 2 <;> (apply Fin.ext; simp only []; omega)
  have r1 : ∀ (A : FVec Ideal S96x8x512 .f32) (a : Fin 96) (b : Fin 8), dynamicRotate 1 1#32 none A rotates_S96x8x512_d1 (ix3 a b n)
      = A (ix3 a (⟨(b.val + 8 - 1) % 8, by omega⟩ : Fin 8) n) := by
    intro A a b
    exact dynamicRotate_apply (s := S96x8x512) 1 1#32 A rotates_S96x8x512_d1 (ix3 a b n) _ (by intro c; fin_cases c <;> simp [ix3, S96x8x512])
  have r7 : ∀ (A : FVec Ideal S96x8x512 .f32) (a : Fin 96) (b : Fin 8), dynamicRotate 1 7#32 none A rotates_S96x8x512_d1 (ix3 a b n)
      = A (ix3 a (⟨(b.val + 8 - 7) % 8, by omega⟩ : Fin 8) n) := by
    intro A a b
    exact dynamicRotate_apply (s := S96x8x512) 1 7#32 A rotates_S96x8x512_d1 (ix3 a b n) _ (by intro c; fin_cases c <;> simp [ix3, S96x8x512])
  have hr : (ri hd d).val = hd.val * 96 + d.val := rfl
  unfold swap
  refine (k1 _ ⟨(hd.val * 96 + d.val) / 8, by omega⟩ ⟨(hd.val * 96 + d.val) % 8, by omega⟩ (by rw [hr]; simp only []; omega)).trans ?_
  rw [odd_apply]
  by_cases hd2 : d.val % 2 = 0
  · rw [if_neg (by simp only []; omega), r7]
    refine k2 _ _ _ _ ?_
    unfold mate
    rw [dif_pos hd2]
    simp only []
    omega
  · rw [if_pos (by simp only []; omega), r1]
    refine k2 _ _ _ _ ?_
    unfold mate
    rw [dif_neg hd2]
    simp only []
    omega

/-- The rotated heads, whatever sign the sines carry. -/
theorem rot_apply (c s : FVec Ideal S96x512 .f32) (V : FVec Ideal S8x96x512 .f32) :
    rot c s V (ix3 hd d n) = V (ix3 hd d n) * c (ix2 d n) + V (ix3 hd (mate d) n) * s (ix2 d n) := by
  have key : ∀ (A : FVec Ideal S96x512 .f32), broadcastTo S8x96x512 (shapeCast S1x96x512 A shapeCasts_S96x512_S1x96x512) broadcasts_S1x96x512_S8x96x512 (ix3 hd d n) = A (ix2 d n) := by
    intro A; pointwise
  unfold rot
  rw [ValueIdx.addf_apply, ValueIdx.mulf_apply, ValueIdx.mulf_apply, key, key, swap_apply]
end

end Cert.QkvIdeal.Gen
-- ==== Proof.Qkv.Block.lean ====
/- The seven results of a block as lists of stores, in terms of the nine blocks it reads. -/
module

public import proofs.«01_k».proof.Proof.Qkv.Pay

@[expose] public section

set_option maxRecDepth 16384

namespace Cert.QkvIdeal.Gen

open Idealize.ShloMosaic Idealize.ShloMosaic.TcCoe Idealize.ShloMosaic.Tactic

variable {F : FTy → Type} [FloatOps F] [Named F]

section
variable (x0 : Vec F S1x512x2304 .bf16) (x1 : Vec F S1x2304 .f32) (x2 : Vec F S1x1x2304 .f32) (x3 : Vec F S3840x2304 .fp8e4m3)
  (x4 : Vec F S3840x128 .f32) (x5 x6 : Vec F S96x128 .f32) (x7 x8 : Vec F S1x48x512 .f32)

noncomputable def l0 : Vec F S1x512x2304 .bf16 := View.ld x0 (Rect.unit (s := S1x512x2304) ![0, 0, 0] ![1, 512, 2304] inb_S1x512x2304_S1x512x2304_0_0_0)
noncomputable def l1 : Vec F S1x2304 .f32 := View.ld x1 (Rect.unit (s := S1x2304) ![0, 0] ![1, 2304] inb_S1x2304_S1x2304_0_0)
noncomputable def l2 : Vec F S1x1x2304 .f32 := View.ld x2 (Rect.unit (s := S1x1x2304) ![0, 0, 0] ![1, 1, 2304] inb_S1x1x2304_S1x1x2304_0_0_0)
noncomputable def l5 : Vec F S96x128 .f32 := View.ld x5 (Rect.unit (s := S96x128) ![0, 0] ![96, 128] inb_S96x128_S96x128_0_0)
noncomputable def l7 : Vec F S1x48x512 .f32 := View.ld x7 (Rect.unit (s := S1x48x512) ![0, 0, 0] ![1, 48, 512] inb_S1x48x512_S1x48x512_0_0_0)

/-- The codes of the normed rows. -/
noncomputable def bh : FVec F S512x2304 .fp8e4m3 := k0_pay6 (k0_pay4 (l0 x0) (l1 x1) (l2 x2)) k0_pay5
/-- Their scales, along the lanes. -/
noncomputable def br : FVec F S8x512 .f32 := k0_pay8 (k0_pay3 (l0 x0) (l1 x1) (l2 x2))

theorem inbW (o : ℕ) (ho : o ≤ 3072) : ∀ a, (![o, 0] : Fin 2 → Nat) a + S768x2304.size a ≤ S3840x2304.size a := by
  intro a; fin_cases a <;> simp [S768x2304, S3840x2304] <;> omega
theorem inbC (o : ℕ) (ho : o ≤ 3072) : ∀ a, (![o, 0] : Fin 2 → Nat) a + S768x128.size a ≤ S3840x128.size a := by
  intro a; fin_cases a <;> simp [S768x128, S3840x128] <;> omega

/-- The channels `o` to `o + 767` of eight heads, before any norm. -/
noncomputable def blin (o : ℕ) (ho : o ≤ 3072) : FVec F S8x96x512 .f32 :=
  k0_pay44 (bh x0 x1 x2) (br x0 x1 x2) (View.ld x3 (Rect.unit (s := S3840x2304) ![o, 0] S768x2304.size (inbW o ho)))
    (View.ld x4 (Rect.unit (s := S3840x128) ![o, 0] S768x128.size (inbC o ho)))

theorem inbP (i p : ℕ) (hi : i ≤ 3) (hp : p ≤ 1) :
    ∀ a, S1x48x128.size a = 0 ∨ (![i, p, 0] : Fin 3 → Nat) a + (![1, 2, 1] : Fin 3 → Nat) a * (S1x48x128.size a - 1) < S4x96x128.size a := by
  intro a; right; fin_cases a <;> simp [S1x48x128, S4x96x128] <;> omega
theorem posP : ∀ a, 0 < (![1, 2, 1] : Fin 3 → Nat) a := by decide
/-- Every second row of a tile of the scratch. -/
def strip (i p : ℕ) (hi : i ≤ 3) (hp : p ≤ 1) : Rect S4x96x128 :=
  { off := ![i, p, 0], size := S1x48x128.size, stride := ![1, 2, 1], inb := inbP i p hi hp, stride_pos := posP }

/-- A group of 128 lanes of the angles, as stored. -/
noncomputable def lane (o : ℕ) (h : S48x512.Slices ![0, o] S48x128) : FVec F S1x48x128 .f32 :=
  shapeCast S1x48x128 (extractStridedSlice S48x128 ![0, o] (shapeCast S48x512 (l7 x7) shapeCasts_S1x48x512_S48x512) h) shapeCasts_S48x128_S1x48x128
/-- The same with the sign turned. -/
noncomputable def nlane (o : ℕ) (h : S48x512.Slices ![0, o] S48x128) : FVec F S1x48x128 .f32 :=
  shapeCast S1x48x128 (subf (broadcast S48x128 (Scalar.ofBits .f32 0x00000000#32)) (extractStridedSlice S48x128 ![0, o] (shapeCast S48x512 (l7 x7) shapeCasts_S1x48x512_S48x512) h)) shapeCasts_S48x128_S1x48x128

/-- The stores of the cosines. -/
noncomputable def cosL : List (View.Piece (Elt F) S4x96x128 .f32) :=
  [⟨strip 3 1 (by decide) (by decide), lane x7 384 slices_S48x512_o0_384_S48x128⟩, ⟨strip 3 0 (by decide) (by decide), lane x7 384 slices_S48x512_o0_384_S48x128⟩,
   ⟨strip 2 1 (by decide) (by decide), lane x7 256 slices_S48x512_o0_256_S48x128⟩, ⟨strip 2 0 (by decide) (by decide), lane x7 256 slices_S48x512_o0_256_S48x128⟩,
   ⟨strip 1 1 (by decide) (by decide), lane x7 128 slices_S48x512_o0_128_S48x128⟩, ⟨strip 1 0 (by decide) (by decide), lane x7 128 slices_S48x512_o0_128_S48x128⟩,
   ⟨strip 0 1 (by decide) (by decide), lane x7 0 slices_S48x512_o0_0_S48x128⟩, ⟨strip 0 0 (by decide) (by decide), lane x7 0 slices_S48x512_o0_0_S48x128⟩]
/-- The stores of the sines. -/
noncomputable def sinL : List (View.Piece (Elt F) S4x96x128 .f32) :=
  [⟨strip 3 1 (by decide) (by decide), lane x8 384 slices_S48x512_o0_384_S48x128⟩, ⟨strip 3 0 (by decide) (by decide), nlane x8 384 slices_S48x512_o0_384_S48x128⟩,
   ⟨strip 2 1 (by decide) (by decide), lane x8 256 slices_S48x512_o0_256_S48x128⟩, ⟨strip 2 0 (by decide) (by decide), nlane x8 256 slices_S48x512_o0_256_S48x128⟩,
   ⟨strip 1 1 (by decide) (by decide), lane x8 128 slices_S48x512_o0_128_S48x128⟩, ⟨strip 1 0 (by decide) (by decide), nlane x8 128 slices_S48x512_o0_128_S48x128⟩,
   ⟨strip 0 1 (by decide) (by decide), lane x8 0 slices_S48x512_o0_0_S48x128⟩, ⟨strip 0 0 (by decide) (by decide), nlane x8 0 slices_S48x512_o0_0_S48x128⟩]

theorem inbT (i : ℕ) (hi : i ≤ 3) : ∀ a, (![i, 0, 0] : Fin 3 → Nat) a + S1x96x128.size a ≤ S4x96x128.size a := by
  intro a; fin_cases a <;> simp [S1x96x128, S4x96x128] <;> omega
/-- A tile of the scratch. -/
def tile (i : ℕ) (hi : i ≤ 3) : Rect S4x96x128 := Rect.unit (s := S4x96x128) ![i, 0, 0] S1x96x128.size (inbT i hi)

/-- A tile of the cosines as loaded. -/
noncomputable def ctile (i : ℕ) (hi : i ≤ 3) : Vec F S1x96x128 .f32 := (View.whole cc0_scratch0).readCov (cosL x7) (tile i hi).toLoadRect
/-- A tile of the sines as loaded. -/
noncomputable def stile (i : ℕ) (hi : i ≤ 3) : Vec F S1x96x128 .f32 := (View.whole cc0_scratch1).readCov (sinL x8) (tile i hi).toLoadRect

/-- The cosines for every row of a head. -/
noncomputable def bc : FVec F S96x512 .f32 := k0_pay33 (ctile x7 0 (by decide)) (ctile x7 1 (by decide)) (ctile x7 2 (by decide)) (ctile x7 3 (by decide))
/-- The sines for every row of a head, the sign turned on the even rows. -/
noncomputable def bs : FVec F S96x512 .f32 := k0_pay33 (stile x8 0 (by decide)) (stile x8 1 (by decide)) (stile x8 2 (by decide)) (stile x8 3 (by decide))

/-- Eight heads normed and rotated. -/
noncomputable def brot (o : ℕ) (ho : o ≤ 3072) (g : Vec F S96x128 .f32) : FVec F S8x96x512 .f32 :=
  rot (bc x7) (bs x8) (nrm (blin x0 x1 x2 x3 x4 o ho) (k0_pay45 (l5 g)))

theorem inbQ (o : ℕ) (ho : o ≤ 1536) : ∀ a, (![0, o, 0] : Fin 3 → Nat) a + S1x768x512.size a ≤ S1x2304x512.size a := by
  intro a; fin_cases a <;> simp [S1x768x512, S1x2304x512] <;> omega
/-- A third of q's block. -/
def third (o : ℕ) (ho : o ≤ 1536) : Rect S1x2304x512 := Rect.unit (s := S1x2304x512) ![0, o, 0] S1x768x512.size (inbQ o ho)

noncomputable def ob9 : Vec F S1x512x2304 .fp8e4m3 :=
  View.canon [⟨Rect.unit (s := S1x512x2304) ![0, 0, 0] S1x512x2304.size inb_S1x512x2304_S1x512x2304_0_0_0, k0_pay7 (k0_pay4 (l0 x0) (l1 x1) (l2 x2)) k0_pay5⟩]
noncomputable def ob10 : Vec F S1x1x512 .f32 :=
  View.canon [⟨Rect.unit (s := S1x1x512) ![0, 0, 0] S1x1x512.size inb_S1x1x512_S1x1x512_0_0_0, k0_pay9 (k0_pay3 (l0 x0) (l1 x1) (l2 x2))⟩]
noncomputable def ob11L : List (View.Piece (Elt F) S1x2304x512 .bf16) :=
  [⟨third 1536 (by decide), qst (brot x0 x1 x2 x3 x4 x7 x8 1536 (by decide) x5)⟩, ⟨third 768 (by decide), qst (brot x0 x1 x2 x3 x4 x7 x8 768 (by decide) x5)⟩,
   ⟨third 0 (by decide), qst (brot x0 x1 x2 x3 x4 x7 x8 0 (by decide) x5)⟩]
noncomputable def ob11 : Vec F S1x2304x512 .bf16 := View.canon (ob11L x0 x1 x2 x3 x4 x5 x7 x8)
noncomputable def ob12 : Vec F S1x768x512 .fp8e4m3 :=
  View.canon [⟨Rect.unit (s := S1x768x512) ![0, 0, 0] S1x768x512.size inb_S1x768x512_S1x768x512_0_0_0, hcod (brot x0 x1 x2 x3 x4 x7 x8 2304 (by decide) x6)⟩]
noncomputable def ob13 : Vec F S1x8x512 .f32 :=
  View.canon [⟨Rect.unit (s := S1x8x512) ![0, 0, 0] S1x8x512.size inb_S1x8x512_S1x8x512_0_0_0, hsst (brot x0 x1 x2 x3 x4 x7 x8 2304 (by decide) x6)⟩]
noncomputable def ob14 : Vec F S1x768x512 .fp8e4m3 :=
  View.canon [⟨Rect.unit (s := S1x768x512) ![0, 0, 0] S1x768x512.size inb_S1x768x512_S1x768x512_0_0_0, hcod (blin x0 x1 x2 x3 x4 3072 (by decide))⟩]
noncomputable def ob15 : Vec F S1x8x512 .f32 :=
  View.canon [⟨Rect.unit (s := S1x8x512) ![0, 0, 0] S1x8x512.size inb_S1x8x512_S1x8x512_0_0_0, hsst (blin x0 x1 x2 x3 x4 3072 (by decide))⟩]
end

section
variable (m : (ℓ : Loc nD τ sig) → Buf (Elt F) ℓ)

theorem out9_read (c : Dev nD) (t : Fin grid0.N) :
    (outsAt0 m c t).1 = ob9 (iblk m c 0 t) (iblk m c 1 t) (iblk m c 2 t) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rfl

theorem out10_read (c : Dev nD) (t : Fin grid0.N) :
    (outsAt0 m c t).2.1 = ob10 (iblk m c 0 t) (iblk m c 1 t) (iblk m c 2 t) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rfl

theorem ob11L_of (x0 : Vec F S1x512x2304 .bf16) (x1 : Vec F S1x2304 .f32) (x2 : Vec F S1x1x2304 .f32) (x3 : Vec F S3840x2304 .fp8e4m3)
    (x4 : Vec F S3840x128 .f32) (x5 : Vec F S96x128 .f32) (x7 x8 : Vec F S1x48x512 .f32) (q0 q1 q2 : FVec F S1x768x512 .bf16)
    (h2 : q2 = qst (brot x0 x1 x2 x3 x4 x7 x8 1536 (by decide) x5)) (h1 : q1 = qst (brot x0 x1 x2 x3 x4 x7 x8 768 (by decide) x5))
    (h0 : q0 = qst (brot x0 x1 x2 x3 x4 x7 x8 0 (by decide) x5)) :
    ([⟨third 1536 (by decide), q2⟩, ⟨third 768 (by decide), q1⟩, ⟨third 0 (by decide), q0⟩] : List (View.Piece (Elt F) S1x2304x512 .bf16)) = ob11L x0 x1 x2 x3 x4 x5 x7 x8 := by
  subst h0 h1 h2; rfl

theorem out11_read (c : Dev nD) (t : Fin grid0.N) :
    (outsAt0 m c t).2.2.1 = ob11 (iblk m c 0 t) (iblk m c 1 t) (iblk m c 2 t) (iblk m c 3 t) (iblk m c 4 t) (iblk m c 5 t) (iblk m c 7 t) (iblk m c 8 t) := by
  have e4 := (hs0_4 t).read_unread (iblk m c 4 t)
  have e5 := (hs0_5 t).read_unread (iblk m c 5 t)
  have e7 := (hs0_7 t).read_unread (iblk m c 7 t)
  have e8 := (hs0_8 t).read_unread (iblk m c 8 t)
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [e4, e5, e7, e8]
  refine congrArg View.canon (ob11L_of _ _ _ _ _ _ _ _ _ _ _ ?_ ?_ ?_)
  · rfl
  · rfl
  · rfl

theorem out12_read (c : Dev nD) (t : Fin grid0.N) :
    (outsAt0 m c t).2.2.2.1 = ob12 (iblk m c 0 t) (iblk m c 1 t) (iblk m c 2 t) (iblk m c 3 t) (iblk m c 4 t) (iblk m c 6 t) (iblk m c 7 t) (iblk m c 8 t) := by
  have e7 := (hs0_7 t).read_unread (iblk m c 7 t)
  have e8 := (hs0_8 t).read_unread (iblk m c 8 t)
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [e7, e8]
  rfl

theorem out13_read (c : Dev nD) (t : Fin grid0.N) :
    (outsAt0 m c t).2.2.2.2.1 = ob13 (iblk m c 0 t) (iblk m c 1 t) (iblk m c 2 t) (iblk m c 3 t) (iblk m c 4 t) (iblk m c 6 t) (iblk m c 7 t) (iblk m c 8 t) := by
  have e7 := (hs0_7 t).read_unread (iblk m c 7 t)
  have e8 := (hs0_8 t).read_unread (iblk m c 8 t)
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [e7, e8]
  rfl

theorem out14_read (c : Dev nD) (t : Fin grid0.N) :
    (outsAt0 m c t).2.2.2.2.2.1 = ob14 (iblk m c 0 t) (iblk m c 1 t) (iblk m c 2 t) (iblk m c 3 t) (iblk m c 4 t) := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rfl

theorem out15_read (c : Dev nD) (t : Fin grid0.N) :
    (outsAt0 m c t).2.2.2.2.2.2 = ob15 (iblk m c 0 t) (iblk m c 1 t) (iblk m c 2 t) (iblk m c 3 t) (iblk m c 4 t) := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rfl
end

end Cert.QkvIdeal.Gen
-- ==== Proof.Qkv.Tables.lean ====
/- The tables of cosines and sines, laid out row by row of a head, read at an index. -/
module

public import proofs.«01_k».proof.Proof.Qkv.Rows
public import proofs.«01_k».proof.Proof.Qkv.Block

@[expose] public section

set_option maxRecDepth 16384

namespace Cert.QkvIdeal.Gen

open Idealize.ShloMosaic Idealize.ShloMosaic.TcCoe Cert.Lib Cert.Qkv

section
variable (x : Vec Ideal S1x48x512 .f32)

theorem l7_eq : l7 x = x := View.ld_unit_zero (S := S1x48x512) (by decide : (![0, 0, 0] : Fin 3 → Nat) = fun _ => 0) _ x

theorem lane_apply (o : ℕ) (h : S48x512.Slices ![0, o] S48x128) (ho : o ≤ 384) (i : Fin 1) (r : Fin 48) (l : Fin 128) :
    lane x o h (ix3 i r l) = x (ix3 (0 : Fin 1) r (⟨o + l.val, by omega⟩ : Fin 512)) := by
  unfold lane
  rw [l7_eq]
  pointwise

theorem nlane_apply (o : ℕ) (h : S48x512.Slices ![0, o] S48x128) (ho : o ≤ 384) (i : Fin 1) (r : Fin 48) (l : Fin 128) :
    nlane x o h (ix3 i r l) = - x (ix3 (0 : Fin 1) r (⟨o + l.val, by omega⟩ : Fin 512)) := by
  have key : ∀ A : FVec Ideal S48x128 .f32, shapeCast S1x48x128 (subf (broadcast S48x128 (Scalar.ofBits .f32 0x00000000#32)) A) shapeCasts_S48x128_S1x48x128 (ix3 i r l)
      = 0 - A (ix2 r l) := by
    intro A; pointwise [lit_zero]
  have k2 : ∀ A : FVec Ideal S1x48x512 .f32, extractStridedSlice S48x128 ![0, o] (shapeCast S48x512 A shapeCasts_S1x48x512_S48x512) h (ix2 r l)
      = A (ix3 (0 : Fin 1) r (⟨o + l.val, by omega⟩ : Fin 512)) := by
    intro A; pointwise
  unfold nlane
  rw [l7_eq]
  refine (key _).trans ?_
  rw [k2, zero_sub]

theorem strip_idx (i p : ℕ) (hi : i ≤ 3) (hp : p ≤ 1) (a : Fin 1) (r : Fin 48) (l : Fin 128) :
    (strip i p hi hp).idx (ix3 a r l) = (ix3 (⟨i, by omega⟩ : Fin 4) (⟨p + 2 * r.val, by omega⟩ : Fin 96) l : S4x96x128.Idx) := by
  funext b; apply Fin.ext; fin_cases b <;> simp [ix3, strip]

theorem tile_idx (i : ℕ) (hi : i ≤ 3) (a : Fin 1) (r : Fin 96) (l : Fin 128) :
    (tile i hi).idx (ix3 a r l) = (ix3 (⟨i, by omega⟩ : Fin 4) r l : S4x96x128.Idx) := by
  funext b; apply Fin.ext; fin_cases b <;> simp [ix3, tile]

/-- The cosine that row `d` of a head takes at a token. -/
noncomputable def cosG (y : S4x96x128.Idx) : EReal :=
  x (ix3 (0 : Fin 1) (half (y 1)) (⟨128 * (y 0).val + (y 2).val, by have h0 : (y 0).val < 4 := (y 0).isLt; have h2 : (y 2).val < 128 := (y 2).isLt; omega⟩ : Fin 512))

/-- The sine that row `d` of a head takes at a token, its sign turned on the even rows. -/
noncomputable def sinG (y : S4x96x128.Idx) : EReal :=
  if (y 1).val % 2 = 0 then - cosG x y else cosG x y

theorem lane_G (i p o : ℕ) (hi : i ≤ 3) (hp : p ≤ 1) (h : S48x512.Slices ![0, o] S48x128) (ho : o = 128 * i) (j : S1x48x128.Idx) :
    lane x o h j = cosG x ((strip i p hi hp).emb j) := by
  subst ho
  obtain ⟨a, r, l, rfl⟩ : ∃ (a : Fin 1) (r : Fin 48) (l : Fin 128), j = ix3 a r l := ⟨j 0, j 1, j 2, by funext b; fin_cases b <;> rfl⟩
  rw [lane_apply x _ h (by omega), show (strip i p hi hp).emb (ix3 a r l) = (strip i p hi hp).idx (ix3 a r l) from rfl, strip_idx]
  unfold cosG half
  congr 2
  apply Fin.ext
  show r.val = (p + 2 * r.val) / 2
  omega

theorem lane_S (i o : ℕ) (hi : i ≤ 3) (h : S48x512.Slices ![0, o] S48x128) (ho : o = 128 * i) (j : S1x48x128.Idx) :
    lane x o h j = sinG x ((strip i 1 hi (le_refl 1)).emb j) := by
  rw [lane_G x i 1 o hi (le_refl 1) h ho j]
  obtain ⟨a, r, l, rfl⟩ : ∃ (a : Fin 1) (r : Fin 48) (l : Fin 128), j = ix3 a r l := ⟨j 0, j 1, j 2, by funext b; fin_cases b <;> rfl⟩
  unfold sinG
  rw [if_neg]
  rw [show (strip i 1 hi (le_refl 1)).emb (ix3 a r l) = (strip i 1 hi (le_refl 1)).idx (ix3 a r l) from rfl, strip_idx]
  show ¬ (1 + 2 * r.val) % 2 = 0
  omega

theorem nlane_S (i o : ℕ) (hi : i ≤ 3) (h : S48x512.Slices ![0, o] S48x128) (ho : o = 128 * i) (j : S1x48x128.Idx) :
    nlane x o h j = sinG x ((strip i 0 hi (Nat.zero_le 1)).emb j) := by
  have h1 := lane_G x i 0 o hi (Nat.zero_le 1) h ho j
  obtain ⟨a, r, l, rfl⟩ : ∃ (a : Fin 1) (r : Fin 48) (l : Fin 128), j = ix3 a r l := ⟨j 0, j 1, j 2, by funext b; fin_cases b <;> rfl⟩
  unfold sinG
  rw [if_pos, ← h1, nlane_apply x _ h (by omega), lane_apply x _ h (by omega)]
  rw [show (strip i 0 hi (Nat.zero_le 1)).emb (ix3 a r l) = (strip i 0 hi (Nat.zero_le 1)).idx (ix3 a r l) from rfl, strip_idx]
  show (0 + 2 * r.val) % 2 = 0
  omega

theorem mem_strip (i p : ℕ) (hi : i ≤ 3) (hp : p ≤ 1) (r : Fin 96) (hr : r.val % 2 = p) (l : Fin 128) :
    (ix3 (⟨i, by omega⟩ : Fin 4) r l : S4x96x128.Idx) ∈ (strip i p hi hp).set := by
  have e : (ix3 (⟨i, by omega⟩ : Fin 4) r l : S4x96x128.Idx) = (strip i p hi hp).idx (ix3 (0 : Fin 1) (⟨r.val / 2, by omega⟩ : Fin 48) l) := by
    rw [strip_idx]
    congr 1
    apply Fin.ext
    show r.val = p + 2 * (r.val / 2)
    omega
  rw [e]
  exact LoadRect.idx_mem _ _

theorem cosL_piece : ∀ p ∈ cosL x, ∀ j : p.1.shape.Idx, p.2 j = cosG x (p.1.emb j) := by
  unfold cosL
  refine List.forall_mem_cons.2 ⟨fun j => lane_G x 3 1 384 (by decide) (by decide) slices_S48x512_o0_384_S48x128 rfl j, ?_⟩
  refine List.forall_mem_cons.2 ⟨fun j => lane_G x 3 0 384 (by decide) (by decide) slices_S48x512_o0_384_S48x128 rfl j, ?_⟩
  refine List.forall_mem_cons.2 ⟨fun j => lane_G x 2 1 256 (by decide) (by decide) slices_S48x512_o0_256_S48x128 rfl j, ?_⟩
  refine List.forall_mem_cons.2 ⟨fun j => lane_G x 2 0 256 (by decide) (by decide) slices_S48x512_o0_256_S48x128 rfl j, ?_⟩
  refine List.forall_mem_cons.2 ⟨fun j => lane_G x 1 1 128 (by decide) (by decide) slices_S48x512_o0_128_S48x128 rfl j, ?_⟩
  refine List.forall_mem_cons.2 ⟨fun j => lane_G x 1 0 128 (by decide) (by decide) slices_S48x512_o0_128_S48x128 rfl j, ?_⟩
  refine List.forall_mem_cons.2 ⟨fun j => lane_G x 0 1 0 (by decide) (by decide) slices_S48x512_o0_0_S48x128 rfl j, ?_⟩
  refine List.forall_mem_cons.2 ⟨fun j => lane_G x 0 0 0 (by decide) (by decide) slices_S48x512_o0_0_S48x128 rfl j, ?_⟩
  exact fun _ h => absurd h List.not_mem_nil

theorem cosL_mem31 (r : Fin 96) (hr : r.val % 2 = 1) (l : Fin 128) : ∃ q ∈ cosL x, (ix3 (⟨3, by decide⟩ : Fin 4) r l : S4x96x128.Idx) ∈ q.1.set := by
  unfold cosL
  exact ⟨_, (List.mem_cons_self), mem_strip 3 1 (by decide) (by decide) r hr l⟩
theorem cosL_mem30 (r : Fin 96) (hr : r.val % 2 = 0) (l : Fin 128) : ∃ q ∈ cosL x, (ix3 (⟨3, by decide⟩ : Fin 4) r l : S4x96x128.Idx) ∈ q.1.set := by
  unfold cosL
  exact ⟨_, (List.mem_cons_of_mem _ (List.mem_cons_self)), mem_strip 3 0 (by decide) (by decide) r hr l⟩
theorem cosL_mem21 (r : Fin 96) (hr : r.val % 2 = 1) (l : Fin 128) : ∃ q ∈ cosL x, (ix3 (⟨2, by decide⟩ : Fin 4) r l : S4x96x128.Idx) ∈ q.1.set := by
  unfold cosL
  exact ⟨_, (List.mem_cons_of_mem _ (List.mem_cons_of_mem _ (List.mem_cons_self))), mem_strip 2 1 (by decide) (by decide) r hr l⟩
theorem cosL_mem20 (r : Fin 96) (hr : r.val % 2 = 0) (l : Fin 128) : ∃ q ∈ cosL x, (ix3 (⟨2, by decide⟩ : Fin 4) r l : S4x96x128.Idx) ∈ q.1.set := by
  unfold cosL
  exact ⟨_, (List.mem_cons_of_mem _ (List.mem_cons_of_mem _ (List.mem_cons_of_mem _ (List.mem_cons_self)))), mem_strip 2 0 (by decide) (by decide) r hr l⟩
theorem cosL_mem11 (r : Fin 96) (hr : r.val % 2 = 1) (l : Fin 128) : ∃ q ∈ cosL x, (ix3 (⟨1, by decide⟩ : Fin 4) r l : S4x96x128.Idx) ∈ q.1.set := by
  unfold cosL
  exact ⟨_, (List.mem_cons_of_mem _ (List.mem_cons_of_mem _ (List.mem_cons_of_mem _ (List.mem_cons_of_mem _ (List.mem_cons_self))))), mem_strip 1 1 (by decide) (by decide) r hr l⟩
theorem cosL_mem10 (r : Fin 96) (hr : r.val % 2 = 0) (l : Fin 128) : ∃ q ∈ cosL x, (ix3 (⟨1, by decide⟩ : Fin 4) r l : S4x96x128.Idx) ∈ q.1.set := by
  unfold cosL
  exact ⟨_, (List.mem_cons_of_mem _ (List.mem_cons_of_mem _ (List.mem_cons_of_mem _ (List.mem_cons_of_mem _ (List.mem_cons_of_mem _ (List.mem_cons_self)))))), mem_strip 1 0 (by decide) (by decide) r hr l⟩
theorem cosL_mem01 (r : Fin 96) (hr : r.val % 2 = 1) (l : Fin 128) : ∃ q ∈ cosL x, (ix3 (⟨0, by decide⟩ : Fin 4) r l : S4x96x128.Idx) ∈ q.1.set := by
  unfold cosL
  exact ⟨_, (List.mem_cons_of_mem _ (List.mem_cons_of_mem _ (List.mem_cons_of_mem _ (List.mem_cons_of_mem _ (List.mem_cons_of_mem _ (List.mem_cons_of_mem _ (List.mem_cons_self))))))), mem_strip 0 1 (by decide) (by decide) r hr l⟩
theorem cosL_mem00 (r : Fin 96) (hr : r.val % 2 = 0) (l : Fin 128) : ∃ q ∈ cosL x, (ix3 (⟨0, by decide⟩ : Fin 4) r l : S4x96x128.Idx) ∈ q.1.set := by
  unfold cosL
  exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), mem_strip 0 0 (by decide) (by decide) r hr l⟩

theorem cosL_mem (i : Fin 4) (r : Fin 96) (l : Fin 128) : ∃ q ∈ cosL x, (ix3 i r l : S4x96x128.Idx) ∈ q.1.set := by
  rcases Nat.mod_two_eq_zero_or_one r.val with h | h
  · match i with
    | ⟨0, _⟩ => exact cosL_mem00 x r h l
    | ⟨1, _⟩ => exact cosL_mem10 x r h l
    | ⟨2, _⟩ => exact cosL_mem20 x r h l
    | ⟨3, _⟩ => exact cosL_mem30 x r h l
  · match i with
    | ⟨0, _⟩ => exact cosL_mem01 x r h l
    | ⟨1, _⟩ => exact cosL_mem11 x r h l
    | ⟨2, _⟩ => exact cosL_mem21 x r h l
    | ⟨3, _⟩ => exact cosL_mem31 x r h l

theorem ctile_apply (i : Fin 4) (a : Fin 1) (r : Fin 96) (l : Fin 128) : ctile x i.val (by omega) (ix3 a r l) = cosG x (ix3 i r l) := by
  unfold ctile
  rw [View.readCov_eq_canon']
  have e : (tile i.val (by omega)).toLoadRect.idx (ix3 a r l) = (ix3 i r l : S4x96x128.Idx) := tile_idx _ _ a r l
  show View.canon (cosL x) ((tile i.val (by omega)).toLoadRect.idx (ix3 a r l)) = _
  rw [e]
  exact View.canon_apply_of_pieces (S := S4x96x128) (Val := Elt Ideal) (e := .f32) (cosG x) (cosL x) (cosL_piece x) _ (cosL_mem x i r l)

theorem sinL_piece : ∀ p ∈ sinL x, ∀ j : p.1.shape.Idx, p.2 j = sinG x (p.1.emb j) := by
  unfold sinL
  refine List.forall_mem_cons.2 ⟨fun j => lane_S x 3 384 (by decide) slices_S48x512_o0_384_S48x128 rfl j, ?_⟩
  refine List.forall_mem_cons.2 ⟨fun j => nlane_S x 3 384 (by decide) slices_S48x512_o0_384_S48x128 rfl j, ?_⟩
  refine List.forall_mem_cons.2 ⟨fun j => lane_S x 2 256 (by decide) slices_S48x512_o0_256_S48x128 rfl j, ?_⟩
  refine List.forall_mem_cons.2 ⟨fun j => nlane_S x 2 256 (by decide) slices_S48x512_o0_256_S48x128 rfl j, ?_⟩
  refine List.forall_mem_cons.2 ⟨fun j => lane_S x 1 128 (by decide) slices_S48x512_o0_128_S48x128 rfl j, ?_⟩
  refine List.forall_mem_cons.2 ⟨fun j => nlane_S x 1 128 (by decide) slices_S48x512_o0_128_S48x128 rfl j, ?_⟩
  refine List.forall_mem_cons.2 ⟨fun j => lane_S x 0 0 (by decide) slices_S48x512_o0_0_S48x128 rfl j, ?_⟩
  refine List.forall_mem_cons.2 ⟨fun j => nlane_S x 0 0 (by decide) slices_S48x512_o0_0_S48x128 rfl j, ?_⟩
  exact fun _ h => absurd h List.not_mem_nil

theorem sinL_mem31 (r : Fin 96) (hr : r.val % 2 = 1) (l : Fin 128) : ∃ q ∈ sinL x, (ix3 (⟨3, by decide⟩ : Fin 4) r l : S4x96x128.Idx) ∈ q.1.set := by
  unfold sinL
  exact ⟨_, (List.mem_cons_self), mem_strip 3 1 (by decide) (by decide) r hr l⟩
theorem sinL_mem30 (r : Fin 96) (hr : r.val % 2 = 0) (l : Fin 128) : ∃ q ∈ sinL x, (ix3 (⟨3, by decide⟩ : Fin 4) r l : S4x96x128.Idx) ∈ q.1.set := by
  unfold sinL
  exact ⟨_, (List.mem_cons_of_mem _ (List.mem_cons_self)), mem_strip 3 0 (by decide) (by decide) r hr l⟩
theorem sinL_mem21 (r : Fin 96) (hr : r.val % 2 = 1) (l : Fin 128) : ∃ q ∈ sinL x, (ix3 (⟨2, by decide⟩ : Fin 4) r l : S4x96x128.Idx) ∈ q.1.set := by
  unfold sinL
  exact ⟨_, (List.mem_cons_of_mem _ (List.mem_cons_of_mem _ (List.mem_cons_self))), mem_strip 2 1 (by decide) (by decide) r hr l⟩
theorem sinL_mem20 (r : Fin 96) (hr : r.val % 2 = 0) (l : Fin 128) : ∃ q ∈ sinL x, (ix3 (⟨2, by decide⟩ : Fin 4) r l : S4x96x128.Idx) ∈ q.1.set := by
  unfold sinL
  exact ⟨_, (List.mem_cons_of_mem _ (List.mem_cons_of_mem _ (List.mem_cons_of_mem _ (List.mem_cons_self)))), mem_strip 2 0 (by decide) (by decide) r hr l⟩
theorem sinL_mem11 (r : Fin 96) (hr : r.val % 2 = 1) (l : Fin 128) : ∃ q ∈ sinL x, (ix3 (⟨1, by decide⟩ : Fin 4) r l : S4x96x128.Idx) ∈ q.1.set := by
  unfold sinL
  exact ⟨_, (List.mem_cons_of_mem _ (List.mem_cons_of_mem _ (List.mem_cons_of_mem _ (List.mem_cons_of_mem _ (List.mem_cons_self))))), mem_strip 1 1 (by decide) (by decide) r hr l⟩
theorem sinL_mem10 (r : Fin 96) (hr : r.val % 2 = 0) (l : Fin 128) : ∃ q ∈ sinL x, (ix3 (⟨1, by decide⟩ : Fin 4) r l : S4x96x128.Idx) ∈ q.1.set := by
  unfold sinL
  exact ⟨_, (List.mem_cons_of_mem _ (List.mem_cons_of_mem _ (List.mem_cons_of_mem _ (List.mem_cons_of_mem _ (List.mem_cons_of_mem _ (List.mem_cons_self)))))), mem_strip 1 0 (by decide) (by decide) r hr l⟩
theorem sinL_mem01 (r : Fin 96) (hr : r.val % 2 = 1) (l : Fin 128) : ∃ q ∈ sinL x, (ix3 (⟨0, by decide⟩ : Fin 4) r l : S4x96x128.Idx) ∈ q.1.set := by
  unfold sinL
  exact ⟨_, (List.mem_cons_of_mem _ (List.mem_cons_of_mem _ (List.mem_cons_of_mem _ (List.mem_cons_of_mem _ (List.mem_cons_of_mem _ (List.mem_cons_of_mem _ (List.mem_cons_self))))))), mem_strip 0 1 (by decide) (by decide) r hr l⟩
theorem sinL_mem00 (r : Fin 96) (hr : r.val % 2 = 0) (l : Fin 128) : ∃ q ∈ sinL x, (ix3 (⟨0, by decide⟩ : Fin 4) r l : S4x96x128.Idx) ∈ q.1.set := by
  unfold sinL
  exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), mem_strip 0 0 (by decide) (by decide) r hr l⟩

theorem sinL_mem (i : Fin 4) (r : Fin 96) (l : Fin 128) : ∃ q ∈ sinL x, (ix3 i r l : S4x96x128.Idx) ∈ q.1.set := by
  rcases Nat.mod_two_eq_zero_or_one r.val with h | h
  · match i with
    | ⟨0, _⟩ => exact sinL_mem00 x r h l
    | ⟨1, _⟩ => exact sinL_mem10 x r h l
    | ⟨2, _⟩ => exact sinL_mem20 x r h l
    | ⟨3, _⟩ => exact sinL_mem30 x r h l
  · match i with
    | ⟨0, _⟩ => exact sinL_mem01 x r h l
    | ⟨1, _⟩ => exact sinL_mem11 x r h l
    | ⟨2, _⟩ => exact sinL_mem21 x r h l
    | ⟨3, _⟩ => exact sinL_mem31 x r h l

theorem stile_apply (i : Fin 4) (a : Fin 1) (r : Fin 96) (l : Fin 128) : stile x i.val (by omega) (ix3 a r l) = sinG x (ix3 i r l) := by
  unfold stile
  rw [View.readCov_eq_canon']
  have e : (tile i.val (by omega)).toLoadRect.idx (ix3 a r l) = (ix3 i r l : S4x96x128.Idx) := tile_idx _ _ a r l
  show View.canon (sinL x) ((tile i.val (by omega)).toLoadRect.idx (ix3 a r l)) = _
  rw [e]
  exact View.canon_apply_of_pieces (S := S4x96x128) (Val := Elt Ideal) (e := .f32) (sinG x) (sinL x) (sinL_piece x) _ (sinL_mem x i r l)

theorem tiles_apply (f : Fin 4 → Vec Ideal S1x96x128 .f32) (d : Fin 96) (n : Fin 512) :
    k0_pay33 (f 0) (f 1) (f 2) (f 3) (ix2 d n) = f ⟨n.val / 128, by omega⟩ (ix3 (0 : Fin 1) d (lo n)) := by
  have key : ∀ (A : FVec Ideal S1x96x128 .f32) (l : Fin 128), shapeCast S96x128 A shapeCasts_S1x96x128_S96x128 (ix2 d l) = A (ix3 (0 : Fin 1) d l) := by
    intro A l; pointwise
  unfold k0_pay33
  exact (cat96_apply n (fun q => shapeCast S96x128 (f q) shapeCasts_S1x96x128_S96x128) d ⟨n.val / 128, by omega⟩ rfl).trans (key _ _)

theorem bc_apply (d : Fin 96) (n : Fin 512) : bc x (ix2 d n) = x (ix3 (0 : Fin 1) (half d) n) := by
  unfold bc
  refine (tiles_apply (fun q => ctile x q.val (by omega)) d n).trans ((ctile_apply x _ _ _ _).trans ?_)
  unfold cosG lo
  congr 2
  apply Fin.ext
  show 128 * (n.val / 128) + n.val % 128 = n.val
  omega

theorem bs_apply (d : Fin 96) (n : Fin 512) : bs x (ix2 d n) = if d.val % 2 = 0 then - x (ix3 (0 : Fin 1) (half d) n) else x (ix3 (0 : Fin 1) (half d) n) := by
  have e : cosG x (ix3 (⟨n.val / 128, by omega⟩ : Fin 4) d (lo n)) = x (ix3 (0 : Fin 1) (half d) n) := by
    unfold cosG lo
    congr 2
    apply Fin.ext
    show 128 * (n.val / 128) + n.val % 128 = n.val
    omega
  unfold bs
  refine (tiles_apply (fun q => stile x q.val (by omega)) d n).trans ((stile_apply x _ _ _ _).trans ?_)
  unfold sinG
  rw [e]
  rfl
end

end Cert.QkvIdeal.Gen
-- ==== Proof.Qkv.Turn.lean ====
/- The rotation of a head's pairs read at an index. -/
module

public import proofs.«01_k».proof.Proof.Qkv.Rot
public import proofs.«01_k».proof.Proof.Qkv.Tables

@[expose] public section

set_option maxRecDepth 16384

namespace Cert.QkvIdeal.Gen

open Idealize.ShloMosaic Idealize.ShloMosaic.TcCoe Cert.Lib Cert.Qkv

/-- The rotated heads in terms of the row spec. -/
theorem turn_apply (x7 x8 : Vec Ideal S1x48x512 .f32) (V : FVec Ideal S8x96x512 .f32) (hd : Fin 8) (d : Fin 96) (n : Fin 512) :
    rot (bc x7) (bs x8) V (ix3 hd d n)
      = ropeE (fun i => x7 (ix3 (0 : Fin 1) i n)) (fun i => x8 (ix3 (0 : Fin 1) i n)) (fun d => V (ix3 hd d n)) d := by
  rw [rot_apply, bc_apply, bs_apply]
  unfold ropeE
  by_cases h : d.val % 2 = 0
  · rw [if_pos h, if_pos h, sub_eq_add_neg, mul_neg]
  · rw [if_neg h, if_neg h, add_comm]

end Cert.QkvIdeal.Gen
-- ==== Proof.Qkv.Spec.lean ====
/- What the call computes at a token, in extended reals, from the token's normed row. -/
module

public import proofs.«01_k».proof.Proof.Qkv.Row

@[expose] public section

namespace Cert.Qkv

open Idealize.ShloMosaic Cert.Lib

/-- Channel `d` of head `H`, of q's twenty-four, k's eight and v's eight heads. -/
def chn (H : Fin 40) (d : Fin 96) : Fin 3840 := ⟨H.val * 96 + d.val, by omega⟩

/-- A head's channels before any norm. -/
noncomputable def vecE (h : Fin 2304 → EReal) (W : Fin 2304 → Fin 3840 → EReal) (s : Fin 3840 → EReal) (H : Fin 40) (d : Fin 96) : EReal :=
  linE h (fun k => W k (chn H d)) (s (chn H d))

/-- A head's channels, normed and rotated. -/
noncomputable def rotE (h : Fin 2304 → EReal) (W : Fin 2304 → Fin 3840 → EReal) (s : Fin 3840 → EReal) (g : Fin 96 → EReal) (co si : Fin 48 → EReal)
    (H : Fin 40) (d : Fin 96) : EReal :=
  ropeE co si (headE g (vecE h W s H)) d

end Cert.Qkv
-- ==== Proof.Qkv.Outs.lean ====
/- The blocks the kernel stores, index by index. -/
module

public import proofs.«01_k».proof.Proof.Qkv.Turn
public import proofs.«01_k».proof.Proof.Qkv.Spec

@[expose] public section

set_option maxRecDepth 16384

namespace Cert.QkvIdeal.Gen

open Idealize.ShloMosaic Idealize.ShloMosaic.TcCoe Cert.Lib Cert.Qkv

theorem z2 : (![0, 0] : Fin 2 → Nat) = fun _ => 0 := by decide
theorem z3 : (![0, 0, 0] : Fin 3 → Nat) = fun _ => 0 := by decide

section
variable (x0 : Vec Ideal S1x512x2304 .bf16) (x1 : Vec Ideal S1x2304 .f32) (x2 : Vec Ideal S1x1x2304 .f32) (x3 : Vec Ideal S3840x2304 .fp8e4m3)
  (x4 : Vec Ideal S3840x128 .f32) (x5 x6 : Vec Ideal S96x128 .f32) (x7 x8 : Vec Ideal S1x48x512 .f32) (n : Fin 512)

theorem l0_eq : l0 x0 = x0 := View.ld_unit_zero (S := S1x512x2304) z3 _ x0
theorem l1_eq : l1 x1 = x1 := View.ld_unit_zero (S := S1x2304) z2 _ x1
theorem l2_eq : l2 x2 = x2 := View.ld_unit_zero (S := S1x1x2304) z3 _ x2
theorem l5_eq : l5 x5 = x5 := View.ld_unit_zero (S := S96x128) z2 _ x5

/-- The weights, by input and output channel. -/
noncomputable def kW (k : Fin 2304) (j : Fin 3840) : EReal := x3 (ix2 j k)
/-- The weights' scales at a token's lane. -/
noncomputable def kS (j : Fin 3840) : EReal := x4 (ix2 j (lo n))
/-- A gain at a token's lane. -/
noncomputable def kG (d : Fin 96) : EReal := x5 (ix2 d (lo n))
/-- A token's angles. -/
noncomputable def kA (i : Fin 48) : EReal := x7 (ix3 (0 : Fin 1) i n)

theorem bh_apply (k : Fin 2304) : bh x0 x1 x2 (ix2 n k) = codeE (bx x0 x1 x2 n k) (scaleE (topE (bx x0 x1 x2 n))) := by
  unfold bh
  rw [l0_eq, l1_eq, l2_eq, pay6_apply]

theorem br_apply (i : Fin 8) : br x0 x1 x2 (ix2 i n) = scaleE (topE (bx x0 x1 x2 n)) := by
  unfold br
  rw [l0_eq, l1_eq, l2_eq, pay8_apply]

theorem ldW (o : ℕ) (ho : o ≤ 3072) (a : Fin 768) (k : Fin 2304) :
    View.ld x3 (Rect.unit (s := S3840x2304) ![o, 0] S768x2304.size (inbW o ho)) (ix2 a k) = x3 (ix2 (⟨o + a.val, by omega⟩ : Fin 3840) k) := by
  refine congrArg x3 ?_
  funext b; apply Fin.ext; fin_cases b <;> simp [ix2]

theorem ldC (o : ℕ) (ho : o ≤ 3072) (a : Fin 768) (l : Fin 128) :
    View.ld x4 (Rect.unit (s := S3840x128) ![o, 0] S768x128.size (inbC o ho)) (ix2 a l) = x4 (ix2 (⟨o + a.val, by omega⟩ : Fin 3840) l) := by
  refine congrArg x4 ?_
  funext b; apply Fin.ext; fin_cases b <;> simp [ix2]

theorem blin_apply (o : ℕ) (ho : o ≤ 3072) (hd : Fin 8) (d : Fin 96) (H : Fin 40) (hH : H.val * 96 = o + hd.val * 96) :
    blin x0 x1 x2 x3 x4 o ho (ix3 hd d n) = vecE (bx x0 x1 x2 n) (kW x3) (kS x4 n) H d := by
  have hc : (⟨o + (ri hd d).val, by have := (ri hd d).isLt; omega⟩ : Fin 3840) = chn H d := by
    apply Fin.ext
    show o + (hd.val * 96 + d.val) = H.val * 96 + d.val
    omega
  unfold blin
  rw [pay44_apply, br_apply, ldC x4 o ho, hc]
  unfold vecE linE kW kS
  congr 2
  refine Finset.sum_congr rfl fun k _ => ?_
  rw [ldW x3 o ho, hc, bh_apply, mul_comm]

theorem brot_apply (o : ℕ) (ho : o ≤ 3072) (hd : Fin 8) (d : Fin 96) (H : Fin 40) (hH : H.val * 96 = o + hd.val * 96) :
    brot x0 x1 x2 x3 x4 x7 x8 o ho x5 (ix3 hd d n) = rotE (bx x0 x1 x2 n) (kW x3) (kS x4 n) (kG x5 n) (kA x7 n) (kA x8 n) H d := by
  have e : (fun d => nrm (blin x0 x1 x2 x3 x4 o ho) (k0_pay45 (l5 x5)) (ix3 hd d n)) = headE (kG x5 n) (vecE (bx x0 x1 x2 n) (kW x3) (kS x4 n) H) := by
    funext d
    have e1 : (fun d => k0_pay45 (l5 x5) (ix2 d n)) = kG x5 n := by
      funext d
      rw [pay45_apply, l5_eq]
      rfl
    have e2 : (fun d => blin x0 x1 x2 x3 x4 o ho (ix3 hd d n)) = vecE (bx x0 x1 x2 n) (kW x3) (kS x4 n) H := by
      funext d
      exact blin_apply x0 x1 x2 x3 x4 n o ho hd d H hH
    rw [nrm_apply, e1, e2]
  unfold brot
  rw [turn_apply, e]
  rfl

theorem ob9_apply (i : Fin 1) (k : Fin 2304) : ob9 x0 x1 x2 (ix3 i n k) = codeE (bx x0 x1 x2 n k) (scaleE (topE (bx x0 x1 x2 n))) := by
  unfold ob9
  rw [View.canon_unit_zero z3, l0_eq, l1_eq, l2_eq]
  exact pay7_apply x0 x1 x2 n i k

theorem ob10_apply (i p : Fin 1) : ob10 x0 x1 x2 (ix3 i p n) = scaleE (topE (bx x0 x1 x2 n)) := by
  unfold ob10
  rw [View.canon_unit_zero z3, l0_eq, l1_eq, l2_eq]
  exact pay9_apply x0 x1 x2 n i p

/-- A token's rotated heads. -/
noncomputable def kR : Fin 40 → Fin 96 → EReal := rotE (bx x0 x1 x2 n) (kW x3) (kS x4 n) (kG x5 n) (kA x7 n) (kA x8 n)

/-- q's block. -/
noncomputable def qG (y : S1x2304x512.Idx) : EReal :=
  kR x0 x1 x2 x3 x4 x5 x7 x8 (y 2) (⟨(y 1).val / 96, by have h : (y 1).val < 2304 := (y 1).isLt; omega⟩ : Fin 40) (⟨(y 1).val % 96, Nat.mod_lt _ (by norm_num)⟩ : Fin 96)

theorem third_idx (o : ℕ) (ho : o ≤ 1536) (i : Fin 1) (p : Fin 768) (n : Fin 512) :
    (third o ho).idx (ix3 i p n) = (ix3 i (⟨o + p.val, by omega⟩ : Fin 2304) n : S1x2304x512.Idx) := by
  funext b; apply Fin.ext; fin_cases b <;> simp [ix3, third]

theorem q_piece (o : ℕ) (ho : o ≤ 1536) (a : ℕ) (ha : o = 96 * a) (j : S1x768x512.Idx) :
    qst (brot x0 x1 x2 x3 x4 x7 x8 o (by omega) x5) j = qG x0 x1 x2 x3 x4 x5 x7 x8 ((third o ho).emb j) := by
  obtain ⟨i, p, n, rfl⟩ : ∃ (i : Fin 1) (p : Fin 768) (n : Fin 512), j = ix3 i p n := ⟨j 0, j 1, j 2, by funext b; fin_cases b <;> rfl⟩
  rw [show (third o ho).emb (ix3 i p n) = (third o ho).idx (ix3 i p n) from rfl, third_idx, qst_apply,
    brot_apply x0 x1 x2 x3 x4 x5 x7 x8 n o _ _ _ (⟨(o + p.val) / 96, by omega⟩ : Fin 40) (by show (o + p.val) / 96 * 96 = o + p.val / 96 * 96; omega)]
  have e : (⟨p.val % 96, by omega⟩ : Fin 96) = ⟨(o + p.val) % 96, Nat.mod_lt _ (by norm_num)⟩ := by
    apply Fin.ext
    show p.val % 96 = (o + p.val) % 96
    omega
  rw [e]
  rfl

theorem ob11_pieces : ∀ p ∈ ob11L x0 x1 x2 x3 x4 x5 x7 x8, ∀ j : p.1.shape.Idx, p.2 j = qG x0 x1 x2 x3 x4 x5 x7 x8 (p.1.emb j) := by
  unfold ob11L
  refine List.forall_mem_cons.2 ⟨fun j => q_piece x0 x1 x2 x3 x4 x5 x7 x8 1536 (by decide) 16 rfl j, ?_⟩
  refine List.forall_mem_cons.2 ⟨fun j => q_piece x0 x1 x2 x3 x4 x5 x7 x8 768 (by decide) 8 rfl j, ?_⟩
  refine List.forall_mem_cons.2 ⟨fun j => q_piece x0 x1 x2 x3 x4 x5 x7 x8 0 (by decide) 0 rfl j, ?_⟩
  exact fun _ h => absurd h List.not_mem_nil

theorem mem_third (o : ℕ) (ho : o ≤ 1536) (i : Fin 1) (p : Fin 2304) (h1 : o ≤ p.val) (h2 : p.val < o + 768) :
    (ix3 i p n : S1x2304x512.Idx) ∈ (third o ho).set := by
  have e : (ix3 i p n : S1x2304x512.Idx) = (third o ho).idx (ix3 i (⟨p.val - o, by omega⟩ : Fin 768) n) := by
    rw [third_idx]
    congr 1
    apply Fin.ext
    show p.val = o + (p.val - o)
    omega
  rw [e]
  exact LoadRect.idx_mem _ _

theorem ob11_mem (i : Fin 1) (p : Fin 2304) : ∃ q ∈ ob11L x0 x1 x2 x3 x4 x5 x7 x8, (ix3 i p n : S1x2304x512.Idx) ∈ q.1.set := by
  unfold ob11L
  by_cases h1 : 1536 ≤ p.val
  · exact ⟨_, List.mem_cons_self, mem_third n 1536 (by decide) i p h1 (by omega)⟩
  · by_cases h2 : 768 ≤ p.val
    · exact ⟨_, List.mem_cons_of_mem _ List.mem_cons_self, mem_third n 768 (by decide) i p h2 (by omega)⟩
    · exact ⟨_, List.mem_cons_of_mem _ (List.mem_cons_of_mem _ List.mem_cons_self), mem_third n 0 (by decide) i p (by omega) (by omega)⟩

theorem ob11_apply (i : Fin 1) (p : Fin 2304) : ob11 x0 x1 x2 x3 x4 x5 x7 x8 (ix3 i p n)
    = kR x0 x1 x2 x3 x4 x5 x7 x8 n (⟨p.val / 96, by omega⟩ : Fin 40) (⟨p.val % 96, Nat.mod_lt _ (by norm_num)⟩ : Fin 96) := by
  unfold ob11
  exact View.canon_apply_of_pieces (S := S1x2304x512) (Val := Elt Ideal) (e := .bf16) (qG x0 x1 x2 x3 x4 x5 x7 x8) (ob11L x0 x1 x2 x3 x4 x5 x7 x8)
    (ob11_pieces x0 x1 x2 x3 x4 x5 x7 x8) _ (ob11_mem x0 x1 x2 x3 x4 x5 x7 x8 n i p)

theorem kfun (hd : Fin 8) : (fun d => brot x0 x1 x2 x3 x4 x7 x8 2304 (by decide) x6 (ix3 hd d n)) = kR x0 x1 x2 x3 x4 x6 x7 x8 n (⟨24 + hd.val, by omega⟩ : Fin 40) := by
  funext d
  exact brot_apply x0 x1 x2 x3 x4 x6 x7 x8 n 2304 _ hd d ⟨24 + hd.val, by omega⟩ (by show (24 + hd.val) * 96 = 2304 + hd.val * 96; omega)

/-- A token's heads before any norm. -/
noncomputable def kV : Fin 40 → Fin 96 → EReal := vecE (bx x0 x1 x2 n) (kW x3) (kS x4 n)

theorem vfun (hd : Fin 8) : (fun d => blin x0 x1 x2 x3 x4 3072 (by decide) (ix3 hd d n)) = kV x0 x1 x2 x3 x4 n (⟨32 + hd.val, by omega⟩ : Fin 40) := by
  funext d
  exact blin_apply x0 x1 x2 x3 x4 n 3072 _ hd d ⟨32 + hd.val, by omega⟩ (by show (32 + hd.val) * 96 = 3072 + hd.val * 96; omega)

theorem ob12_apply (i : Fin 1) (p : Fin 768) : ob12 x0 x1 x2 x3 x4 x6 x7 x8 (ix3 i p n)
    = codeE (kR x0 x1 x2 x3 x4 x6 x7 x8 n (⟨24 + p.val / 96, by omega⟩ : Fin 40) (⟨p.val % 96, by omega⟩ : Fin 96))
      (scaleE (topE (kR x0 x1 x2 x3 x4 x6 x7 x8 n (⟨24 + p.val / 96, by omega⟩ : Fin 40)))) := by
  unfold ob12
  rw [View.canon_unit_zero z3, hcod_apply, kfun, ← kfun]

theorem ob13_apply (i : Fin 1) (hd : Fin 8) : ob13 x0 x1 x2 x3 x4 x6 x7 x8 (ix3 i hd n)
    = scaleE (topE (kR x0 x1 x2 x3 x4 x6 x7 x8 n (⟨24 + hd.val, by omega⟩ : Fin 40))) := by
  unfold ob13
  rw [View.canon_unit_zero z3, hsst_apply, kfun]

theorem ob14_apply (i : Fin 1) (p : Fin 768) : ob14 x0 x1 x2 x3 x4 (ix3 i p n)
    = codeE (kV x0 x1 x2 x3 x4 n (⟨32 + p.val / 96, by omega⟩ : Fin 40) (⟨p.val % 96, by omega⟩ : Fin 96))
      (scaleE (topE (kV x0 x1 x2 x3 x4 n (⟨32 + p.val / 96, by omega⟩ : Fin 40)))) := by
  unfold ob14
  rw [View.canon_unit_zero z3, hcod_apply, vfun, ← vfun]

theorem ob15_apply (i : Fin 1) (hd : Fin 8) : ob15 x0 x1 x2 x3 x4 (ix3 i hd n)
    = scaleE (topE (kV x0 x1 x2 x3 x4 n (⟨32 + hd.val, by omega⟩ : Fin 40))) := by
  unfold ob15
  rw [View.canon_unit_zero z3, hsst_apply, vfun]
end

end Cert.QkvIdeal.Gen
-- ==== Proof.Qkv.RefRun.lean ====
/- The run of the qkv reference, window by window: every window's block is its whole array, so each result of the run is
   one payload of the argument arrays (`G9` to `G15`). -/
module

public import proofs.«01_k».proof.Proof.Gen.QkvRefIdeal.Frame
public import Idealize.ShloMosaic.Lib.Pipeline.Value

@[expose] public section

noncomputable section

namespace Cert.QkvRefIdeal.Value

open Cert.QkvRefIdeal Cert.QkvRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S6x2048x2304.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S6x1x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S6x2304x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S6x768x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S6x8x2048.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S6x768x2048.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S6x8x2048.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_5) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v0_6) = (dats m 0 c).arrAt 15 cfg0.N :=
  (h c).1 15

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_v0_2) = (dats m 0 c).arrAt 11 cfg0.N
      ∧ r.2.mem ((c : Thread nD τ).loc main_v0_3) = (dats m 0 c).arrAt 12 cfg0.N
      ∧ r.2.mem ((c : Thread nD τ).loc main_v0_4) = (dats m 0 c).arrAt 13 cfg0.N
      ∧ r.2.mem ((c : Thread nD τ).loc main_v0_5) = (dats m 0 c).arrAt 14 cfg0.N
      ∧ r.2.mem ((c : Thread nD τ).loc main_v0_6) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      post13 m r h c,
      post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x2048x2304.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 2048 + 1 * (j 1).val = (j 1).val; omega
  | ⟨2, _⟩ => show win0_0.index t (2 : Fin 3) * 2304 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S2304.Idx) : ((cfg0.win 1).blk t).view.emb j = j := by
  have e0 := idx_zero1 t
  funext a; apply Fin.ext
  match a with
  | ⟨0, _⟩ => show win0_1.index t (0 : Fin 1) * 2304 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S6x2304.Idx) : ((cfg0.win 2).blk t).view.emb j = j := by
  obtain ⟨e0, e1⟩ := idx_zero2 t
  funext a; apply Fin.ext
  match a with
  | ⟨0, _⟩ => show win0_2.index t (0 : Fin 2) * 6 + 1 * (j 0).val = (j 0).val; omega
  | ⟨1, _⟩ => show win0_2.index t (1 : Fin 2) * 2304 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S2304x3840.Idx) : ((cfg0.win 3).blk t).view.emb j = j := by
  obtain ⟨e0, e1⟩ := idx_zero3 t
  funext a; apply Fin.ext
  match a with
  | ⟨0, _⟩ => show win0_3.index t (0 : Fin 2) * 2304 + 1 * (j 0).val = (j 0).val; omega
  | ⟨1, _⟩ => show win0_3.index t (1 : Fin 2) * 3840 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S3840.Idx) : ((cfg0.win 4).blk t).view.emb j = j := by
  have e0 := idx_zero4 t
  funext a; apply Fin.ext
  match a with
  | ⟨0, _⟩ => show win0_4.index t (0 : Fin 1) * 3840 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S96.Idx) : ((cfg0.win 5).blk t).view.emb j = j := by
  have e0 := idx_zero5 t
  funext a; apply Fin.ext
  match a with
  | ⟨0, _⟩ => show win0_5.index t (0 : Fin 1) * 96 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S96.Idx) : ((cfg0.win 6).blk t).view.emb j = j := by
  have e0 := idx_zero6 t
  funext a; apply Fin.ext
  match a with
  | ⟨0, _⟩ => show win0_6.index t (0 : Fin 1) * 96 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S6x48x2048.Idx) : ((cfg0.win 7).blk t).view.emb j = j := by
  obtain ⟨e0, e1, e2⟩ := idx_zero7 t
  funext a; apply Fin.ext
  match a with
  | ⟨0, _⟩ => show win0_7.index t (0 : Fin 3) * 6 + 1 * (j 0).val = (j 0).val; omega
  | ⟨1, _⟩ => show win0_7.index t (1 : Fin 3) * 48 + 1 * (j 1).val = (j 1).val; omega
  | ⟨2, _⟩ => show win0_7.index t (2 : Fin 3) * 2048 + 1 * (j 2).val = (j 2).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S6x48x2048.Idx) : ((cfg0.win 8).blk t).view.emb j = j := by
  obtain ⟨e0, e1, e2⟩ := idx_zero8 t
  funext a; apply Fin.ext
  match a with
  | ⟨0, _⟩ => show win0_8.index t (0 : Fin 3) * 6 + 1 * (j 0).val = (j 0).val; omega
  | ⟨1, _⟩ => show win0_8.index t (1 : Fin 3) * 48 + 1 * (j 1).val = (j 1).val; omega
  | ⟨2, _⟩ => show win0_8.index t (2 : Fin 3) * 2048 + 1 * (j 2).val = (j 2).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S6x2048x2304.Idx) : ((cfg0.win 9).blk t).view.emb j = j := by
  obtain ⟨e0, e1, e2⟩ := idx_zero9 t
  funext a; apply Fin.ext
  match a with
  | ⟨0, _⟩ => show win0_9.index t (0 : Fin 3) * 6 + 1 * (j 0).val = (j 0).val; omega
  | ⟨1, _⟩ => show win0_9.index t (1 : Fin 3) * 2048 + 1 * (j 1).val = (j 1).val; omega
  | ⟨2, _⟩ => show win0_9.index t (2 : Fin 3) * 2304 + 1 * (j 2).val = (j 2).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S6x1x2048.Idx) : ((cfg0.win 10).blk t).view.emb j = j := by
  obtain ⟨e0, e1, e2⟩ := idx_zero10 t
  funext a; apply Fin.ext
  match a with
  | ⟨0, _⟩ => show win0_10.index t (0 : Fin 3) * 6 + 1 * (j 0).val = (j 0).val; omega
  | ⟨1, _⟩ => show win0_10.index t (1 : Fin 3) * 1 + 1 * (j 1).val = (j 1).val; omega
  | ⟨2, _⟩ => show win0_10.index t (2 : Fin 3) * 2048 + 1 * (j 2).val = (j 2).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S6x2304x2048.Idx) : ((cfg0.win 11).blk t).view.emb j = j := by
  obtain ⟨e0, e1, e2⟩ := idx_zero11 t
  funext a; apply Fin.ext
  match a with
  | ⟨0, _⟩ => show win0_11.index t (0 : Fin 3) * 6 + 1 * (j 0).val = (j 0).val; omega
  | ⟨1, _⟩ => show win0_11.index t (1 : Fin 3) * 2304 + 1 * (j 1).val = (j 1).val; omega
  | ⟨2, _⟩ => show win0_11.index t (2 : Fin 3) * 2048 + 1 * (j 2).val = (j 2).val; omega

theorem hz12 : (![0, 0, 0] : Fin 3 → Nat) = fun _ => 0 := funext fun a => by fin_cases a <;> rfl

/-- Window 12's block index at the one point is zero on every axis. -/
theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

/-- An index of window 12's block is the same index of its array. -/
theorem emb12 (t : Fin cfg0.N) (j : S6x768x2048.Idx) : ((cfg0.win 12).blk t).view.emb j = j := by
  obtain ⟨e0, e1, e2⟩ := idx_zero12 t
  funext a; apply Fin.ext
  match a with
  | ⟨0, _⟩ => show win0_12.index t (0 : Fin 3) * 6 + 1 * (j 0).val = (j 0).val; omega
  | ⟨1, _⟩ => show win0_12.index t (1 : Fin 3) * 768 + 1 * (j 1).val = (j 1).val; omega
  | ⟨2, _⟩ => show win0_12.index t (2 : Fin 3) * 2048 + 1 * (j 2).val = (j 2).val; omega

theorem hz13 : (![0, 0, 0] : Fin 3 → Nat) = fun _ => 0 := funext fun a => by fin_cases a <;> rfl

/-- Window 13's block index at the one point is zero on every axis. -/
theorem idx_zero13 : ∀ t : Fin cfg0.N, win0_13.index t (0 : Fin 3) = 0 ∧ win0_13.index t (1 : Fin 3) = 0 ∧ win0_13.index t (2 : Fin 3) = 0 :=
  (by decide +kernel : ∀ t : Fin grid0.N, _)

/-- An index of window 13's block is the same index of its array. -/
theorem emb13 (t : Fin cfg0.N) (j : S6x8x2048.Idx) : ((cfg0.win 13).blk t).view.emb j = j := by
  obtain ⟨e0, e1, e2⟩ := idx_zero13 t
  funext a; apply Fin.ext
  match a with
  | ⟨0, _⟩ => show win0_13.index t (0 : Fin 3) * 6 + 1 * (j 0).val = (j 0).val; omega
  | ⟨1, _⟩ => show win0_13.index t (1 : Fin 3) * 8 + 1 * (j 1).val = (j 1).val; omega
  | ⟨2, _⟩ => show win0_13.index t (2 : Fin 3) * 2048 + 1 * (j 2).val = (j 2).val; omega

theorem hz14 : (![0, 0, 0] : Fin 3 → Nat) = fun _ => 0 := funext fun a => by fin_cases a <;> rfl

/-- Window 14's block index at the one point is zero on every axis. -/
theorem idx_zero14 : ∀ t : Fin cfg0.N, win0_14.index t (0 : Fin 3) = 0 ∧ win0_14.index t (1 : Fin 3) = 0 ∧ win0_14.index t (2 : Fin 3) = 0 :=
  (by decide +kernel : ∀ t : Fin grid0.N, _)

/-- An index of window 14's block is the same index of its array. -/
theorem emb14 (t : Fin cfg0.N) (j : S6x768x2048.Idx) : ((cfg0.win 14).blk t).view.emb j = j := by
  obtain ⟨e0, e1, e2⟩ := idx_zero14 t
  funext a; apply Fin.ext
  match a with
  | ⟨0, _⟩ => show win0_14.index t (0 : Fin 3) * 6 + 1 * (j 0).val = (j 0).val; omega
  | ⟨1, _⟩ => show win0_14.index t (1 : Fin 3) * 768 + 1 * (j 1).val = (j 1).val; omega
  | ⟨2, _⟩ => show win0_14.index t (2 : Fin 3) * 2048 + 1 * (j 2).val = (j 2).val; omega

theorem hz15 : (![0, 0, 0] : Fin 3 → Nat) = fun _ => 0 := funext fun a => by fin_cases a <;> rfl

/-- Window 15's block index at the one point is zero on every axis. -/
theorem idx_zero15 : ∀ t : Fin cfg0.N, win0_15.index t (0 : Fin 3) = 0 ∧ win0_15.index t (1 : Fin 3) = 0 ∧ win0_15.index t (2 : Fin 3) = 0 :=
  (by decide +kernel : ∀ t : Fin grid0.N, _)

/-- An index of window 15's block is the same index of its array. -/
theorem emb15 (t : Fin cfg0.N) (j : S6x8x2048.Idx) : ((cfg0.win 15).blk t).view.emb j = j := by
  obtain ⟨e0, e1, e2⟩ := idx_zero15 t
  funext a; apply Fin.ext
  match a with
  | ⟨0, _⟩ => show win0_15.index t (0 : Fin 3) * 6 + 1 * (j 0).val = (j 0).val; omega
  | ⟨1, _⟩ => show win0_15.index t (1 : Fin 3) * 8 + 1 * (j 1).val = (j 1).val; omega
  | ⟨2, _⟩ => show win0_15.index t (2 : Fin 3) * 2048 + 1 * (j 2).val = (j 2).val; omega

/-! ### Output window 9: the array after the run -/

/-- What the window's array ends holding: `out0_9` applied to the argument arrays in place of the input blocks (a value that the
    frame states apart, `kK_payN a…`, keeps its loads inside its own definition). -/
abbrev G9 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x2048x2304 .fp8e4m3 :=
  k0_pay24 a0 a1 a2 a3 a4 a5 a6 a7 a8

/-- The one store through the whole rectangle leaves its payload. -/
theorem out9_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_9 (F := F) a0 a1 a2 a3 a4 a5 a6 a7 a8 = G9 a0 a1 a2 a3 a4 a5 a6 a7 a8 := by
  unfold out0_9
  rw [View.canon_unit_zero hz9]

/-- Cutting the point's block out of `X` and reading `X` through the block's view give the same. -/
theorem cut9_eq (t : Fin cfg0.N) (X : Vec F S6x2048x2304 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq, iblk8_eq]
  exact cut9_eq t _

/-- Every index of the array is in the point's block. -/
theorem covered9 (i : S6x2048x2304.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 (G9 (V m c main_arg0) (V m c main_arg1) (V m c main_arg2) (V m c main_arg3) (V m c main_arg4) (V m c main_arg5) (V m c main_arg6) (V m c main_arg7) (V m c main_arg8)) (fun t _ => flushed9_eq m c t) covered9).trans (by rw [V_main_arg0, V_main_arg1, V_main_arg2, V_main_arg3, V_main_arg4, V_main_arg5, V_main_arg6, V_main_arg7, V_main_arg8])

/-! ### Output window 10: the array after the run -/

/-- What the window's array ends holding: `out0_10` applied to the argument arrays in place of the input blocks (a value that the
    frame states apart, `kK_payN a…`, keeps its loads inside its own definition). -/
abbrev G10 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x1x2048 .f32 :=
  k0_pay17 (k0_pay23 a0 a1 a2 a3 a4 a5 a6 a7 a8)

/-- The one store through the whole rectangle leaves its payload. -/
theorem out10_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_10 (F := F) a0 a1 a2 a3 a4 a5 a6 a7 a8 = G10 a0 a1 a2 a3 a4 a5 a6 a7 a8 := by
  unfold out0_10
  rw [View.canon_unit_zero hz10]

/-- Cutting the point's block out of `X` and reading `X` through the block's view give the same. -/
theorem cut10_eq (t : Fin cfg0.N) (X : Vec F S6x1x2048 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq]
  exact cut10_eq t _

/-- Every index of the array is in the point's block. -/
theorem covered10 (i : S6x1x2048.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 (G10 (V m c main_arg0) (V m c main_arg1) (V m c main_arg2) (V m c main_arg3) (V m c main_arg4) (V m c main_arg5) (V m c main_arg6) (V m c main_arg7) (V m c main_arg8)) (fun t _ => flushed10_eq m c t) covered10).trans (by rw [V_main_arg0, V_main_arg1, V_main_arg2, V_main_arg3, V_main_arg4, V_main_arg5, V_main_arg6, V_main_arg7, V_main_arg8])

/-! ### Output window 11: the array after the run -/

/-- What the window's array ends holding: `out0_11` applied to the argument arrays in place of the input blocks (a value that the
    frame states apart, `kK_payN a…`, keeps its loads inside its own definition). -/
abbrev G11 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x2304x2048 .bf16 :=
  k0_pay18 (k0_pay11 (k0_pay10 (k0_pay23 a0 a1 a2 a3 a4 a5 a6 a7 a8) (k0_pay24 a0 a1 a2 a3 a4 a5 a6 a7 a8) a3 a4 (k0_pay22 a0 a1 a2 a3 a4 a5 a6 a7 a8) a7 a8 a5))

/-- A load of the whole of a block reads the block, and the one store through the whole rectangle leaves its payload. -/
theorem out11_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_11 (F := F) a0 a1 a2 a3 a4 a5 a6 a7 a8 = G11 a0 a1 a2 a3 a4 a5 a6 a7 a8 := by
  unfold out0_11
  rw [View.canon_unit_zero hz11, View.ld_unit_zero (S := S2304x3840) hz3 _ a3, View.ld_unit_zero (S := S3840) hz4 _ a4, View.ld_unit_zero (S := S6x48x2048) hz7 _ a7, View.ld_unit_zero (S := S6x48x2048) hz8 _ a8, View.ld_unit_zero (S := S96) hz5 _ a5]

/-- Cutting the point's block out of `X` and reading `X` through the block's view give the same. -/
theorem cut11_eq (t : Fin cfg0.N) (X : Vec F S6x2304x2048 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq]
  exact cut11_eq t _

/-- Every index of the array is in the point's block. -/
theorem covered11 (i : S6x2304x2048.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 11 (G11 (V m c main_arg0) (V m c main_arg1) (V m c main_arg2) (V m c main_arg3) (V m c main_arg4) (V m c main_arg5) (V m c main_arg6) (V m c main_arg7) (V m c main_arg8)) (fun t _ => flushed11_eq m c t) covered11).trans (by rw [V_main_arg0, V_main_arg1, V_main_arg2, V_main_arg3, V_main_arg4, V_main_arg5, V_main_arg6, V_main_arg7, V_main_arg8])

/-! ### Output window 12: the array after the run -/

/-- What the window's array ends holding: `out0_12` applied to the argument arrays in place of the input blocks (a value that the
    frame states apart, `kK_payN a…`, keeps its loads inside its own definition). -/
abbrev G12 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x768x2048 .fp8e4m3 :=
  k0_pay19 (k0_pay14 (k0_pay25 a0 a1 a2 a3 a4 a5 a6 a7 a8) (k0_pay26 a0 a1 a2 a3 a4 a5 a6 a7 a8) (k0_pay27 a0 a1 a2 a3 a4 a5 a6 a7 a8) a6) (k0_pay15 (F := F))

/-- A load of the whole of a block reads the block, and the one store through the whole rectangle leaves its payload. -/
theorem out12_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_12 (F := F) a0 a1 a2 a3 a4 a5 a6 a7 a8 = G12 a0 a1 a2 a3 a4 a5 a6 a7 a8 := by
  unfold out0_12
  rw [View.canon_unit_zero hz12, View.ld_unit_zero (S := S96) hz6 _ a6]

/-- Cutting the point's block out of `X` and reading `X` through the block's view give the same. -/
theorem cut12_eq (t : Fin cfg0.N) (X : Vec F S6x768x2048 .fp8e4m3) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq]
  exact cut12_eq t _

/-- Every index of the array is in the point's block. -/
theorem covered12 (i : S6x768x2048.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 12 (G12 (V m c main_arg0) (V m c main_arg1) (V m c main_arg2) (V m c main_arg3) (V m c main_arg4) (V m c main_arg5) (V m c main_arg6) (V m c main_arg7) (V m c main_arg8)) (fun t _ => flushed12_eq m c t) covered12).trans (by rw [V_main_arg0, V_main_arg1, V_main_arg2, V_main_arg3, V_main_arg4, V_main_arg5, V_main_arg6, V_main_arg7, V_main_arg8])

/-! ### Output window 13: the array after the run -/

/-- What the window's array ends holding: `out0_13` applied to the argument arrays in place of the input blocks (a value that the
    frame states apart, `kK_payN a…`, keeps its loads inside its own definition). -/
abbrev G13 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x8x2048 .f32 :=
  k0_pay20 (k0_pay13 (k0_pay25 a0 a1 a2 a3 a4 a5 a6 a7 a8) (k0_pay26 a0 a1 a2 a3 a4 a5 a6 a7 a8) (k0_pay27 a0 a1 a2 a3 a4 a5 a6 a7 a8) a6)

/-- A load of the whole of a block reads the block, and the one store through the whole rectangle leaves its payload. -/
theorem out13_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_13 (F := F) a0 a1 a2 a3 a4 a5 a6 a7 a8 = G13 a0 a1 a2 a3 a4 a5 a6 a7 a8 := by
  unfold out0_13
  rw [View.canon_unit_zero hz13, View.ld_unit_zero (S := S96) hz6 _ a6]

/-- Cutting the point's block out of `X` and reading `X` through the block's view give the same. -/
theorem cut13_eq (t : Fin cfg0.N) (X : Vec F S6x8x2048 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq]
  exact cut13_eq t _

/-- Every index of the array is in the point's block. -/
theorem covered13 (i : S6x8x2048.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 13 (G13 (V m c main_arg0) (V m c main_arg1) (V m c main_arg2) (V m c main_arg3) (V m c main_arg4) (V m c main_arg5) (V m c main_arg6) (V m c main_arg7) (V m c main_arg8)) (fun t _ => flushed13_eq m c t) covered13).trans (by rw [V_main_arg0, V_main_arg1, V_main_arg2, V_main_arg3, V_main_arg4, V_main_arg5, V_main_arg6, V_main_arg7, V_main_arg8])

/-! ### Output window 14: the array after the run -/

/-- What the window's array ends holding: `out0_14` applied to the argument arrays in place of the input blocks (a value that the
    frame states apart, `kK_payN a…`, keeps its loads inside its own definition). -/
abbrev G14 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x768x2048 .fp8e4m3 :=
  k0_pay21 (k0_pay28 a0 a1 a2 a3 a4 a5 a6 a7 a8)

/-- The one store through the whole rectangle leaves its payload. -/
theorem out14_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_14 (F := F) a0 a1 a2 a3 a4 a5 a6 a7 a8 = G14 a0 a1 a2 a3 a4 a5 a6 a7 a8 := by
  unfold out0_14
  rw [View.canon_unit_zero hz14]

/-- Cutting the point's block out of `X` and reading `X` through the block's view give the same. -/
theorem cut14_eq (t : Fin cfg0.N) (X : Vec F S6x768x2048 .fp8e4m3) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7) (V m c main_arg8)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq, iblk8_eq]
  exact cut14_eq t _

/-- Every index of the array is in the point's block. -/
theorem covered14 (i : S6x768x2048.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 14 (G14 (V m c main_arg0) (V m c main_arg1) (V m c main_arg2) (V m c main_arg3) (V m c main_arg4) (V m c main_arg5) (V m c main_arg6) (V m c main_arg7) (V m c main_arg8)) (fun t _ => flushed14_eq m c t) covered14).trans (by rw [V_main_arg0, V_main_arg1, V_main_arg2, V_main_arg3, V_main_arg4, V_main_arg5, V_main_arg6, V_main_arg7, V_main_arg8])

/-! ### Output window 15: the array after the run -/

/-- What the window's array ends holding: `out0_15` applied to the argument arrays in place of the input blocks (a value that the
    frame states apart, `kK_payN a…`, keeps its loads inside its own definition). -/
abbrev G15 (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : Vec F S6x8x2048 .f32 :=
  k0_pay1 (k0_pay16 (k0_pay28 a0 a1 a2 a3 a4 a5 a6 a7 a8))

/-- The one store through the whole rectangle leaves its payload. -/
theorem out15_eq (a0 : Vec F S6x2048x2304 .bf16) (a1 : Vec F S2304 .f32) (a2 : Vec F S6x2304 .f32) (a3 : Vec F S2304x3840 .fp8e4m3) (a4 : Vec F S3840 .f32) (a5 : Vec F S96 .f32) (a6 : Vec F S96 .f32) (a7 : Vec F S6x48x2048 .f32) (a8 : Vec F S6x48x2048 .f32) : out0_15 (F := F) a0 a1 a2 a3 a4 a5 a6 a7 a8 = G15 a0 a1 a2 a3 a4 a5 a6 a7 a8 := by
  unfold out0_15
  rw [View.canon_unit_zero hz15]

/-- Cutting the point's block out of `X` and reading `X` through the block's view give the same. -/
theorem cut15_eq (t : Fin cfg0.N) (X : Vec F S6x8x2048 .f32) :
    (cfg0.win 15).cut (grid0.coords t) X = ((cfg0.win 15).blk t).view.read (Elt F) X := by
  funext j
  show X j = X (((cfg0.win 15).blk t).view.emb j)
  rw [emb15]

/-- WHAT THE POINT WRITES BACK is its block of `G15` of the argument arrays as the region finds them. -/
theorem flushed15_eq (c : Dev nD) (t : Fin cfg0.N) :
    (dats m 0 c).flushed 15 t = ((cfg0.win 15).blk t).view.read (Elt F) (G15 (V m c main_arg0) (V m c main_arg1) (V m c main_arg2) (V m c main_arg3) (V m c main_arg4) (V m c main_arg5) (V m c main_arg6) (V m c main_arg7) (V m c main_arg8)) := by
  show (cfg0.win 15).cut (grid0.coords t) ((dats m 0 c).after 15 t) = _
  rw [after0_15, out15_eq, iblk0_eq, iblk1_eq, iblk2_eq, iblk3_eq, iblk4_eq, iblk5_eq, iblk6_eq, iblk7_eq, iblk8_eq]
  exact cut15_eq t _

/-- Every index of the array is in the point's block. -/
theorem covered15 (i : S6x8x2048.Idx) :
    ∃ t : Fin cfg0.N, (cfg0.win 15).flush t = true ∧ i ∈ ((cfg0.win 15).blk t).view.set :=
  ⟨(⟨0, by decide⟩ : Fin cfg0.N), flush0_15 _, by have h := ((cfg0.win 15).blk (⟨0, by decide⟩ : Fin cfg0.N)).view.emb_mem_set i; rwa [emb15] at h⟩

/-- THE ARRAY after the run: `G15` of the argument arrays as launched. -/
theorem final15 (c : Dev nD) : (dats m 0 c).arrAt 15 cfg0.N = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 15 (G15 (V m c main_arg0) (V m c main_arg1) (V m c main_arg2) (V m c main_arg3) (V m c main_arg4) (V m c main_arg5) (V m c main_arg6) (V m c main_arg7) (V m c main_arg8)) (fun t _ => flushed15_eq m c t) covered15).trans (by rw [V_main_arg0, V_main_arg1, V_main_arg2, V_main_arg3, V_main_arg4, V_main_arg5, V_main_arg6, V_main_arg7, V_main_arg8])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_2) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_3) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_4) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_5) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_6) = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post9 m r h c).trans (final9 m c),
      (post10 m r h c).trans (final10 m c),
      (post11 m r h c).trans (final11 m c),
      (post12 m r h c).trans (final12 m c),
      (post13 m r h c).trans (final13 m c),
      (post14 m r h c).trans (final14 m c),
      (post15 m r h c).trans (final15 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.QkvRefIdeal.Value

end
-- ==== Proof.Qkv.RefHead.lean ====
/- A head's channels in the reference: the norm, the turning of the pairs, the scale and the codes, each read at an index. -/
module

public import proofs.«01_k».proof.Proof.Gen.QkvRefIdeal.Frame
public import proofs.«01_k».proof.Proof.Qkv.Spec
public import Idealize.ShloMosaic.Lib.Pipeline.Value

@[expose] public section

set_option maxRecDepth 16384

namespace Cert.QkvRefIdeal.Gen

open Idealize.ShloMosaic Idealize.ShloMosaic.TcCoe Cert.Lib Cert.Qkv

section
variable {F : FTy → Type} [FloatOps F] [Named F]

/-- Twenty-four heads normed, times their gain. -/
noncomputable def norm24 (L : FVec F S6x2048x24x96 .f32) (g : Vec F S96 .f32) : FVec F S6x2048x24x96 .f32 :=
  mulf (divf L (broadcastTo S6x2048x24x96 (sqrt (addf (divf (shapeCast S6x2048x24x1 (multiReduction .add [3] S6x2048x24 (mulf L L) 0x00000000#32 reduces_S6x2048x24x96_S6x2048x24 (.inl rfl) rfl) shapeCasts_S6x2048x24_S6x2048x24x1)
    (broadcast S6x2048x24x1 (Scalar.ofBits .f32 0x42C00000#32))) (broadcast S6x2048x24x1 (Scalar.ofBits .f32 0x358637BD#32)))) broadcasts_S6x2048x24x1_S6x2048x24x96))
    (broadcastTo S6x2048x24x96 (shapeCast S1x1x1x96 g shapeCasts_S96_S1x1x1x96) broadcasts_S1x1x1x96_S6x2048x24x96)

/-- The even channels of the pairs. -/
noncomputable def even24 (V : FVec F S6x2048x24x96 .f32) : FVec F S6x2048x24x48 .f32 :=
  shapeCast S6x2048x24x48 (extractStridedSlice S6x2048x24x48x1 ![0, 0, 0, 0, 0] (shapeCast S6x2048x24x48x2 V shapeCasts_S6x2048x24x96_S6x2048x24x48x2) slices_S6x2048x24x48x2_o0_0_0_0_0_S6x2048x24x48x1) shapeCasts_S6x2048x24x48x1_S6x2048x24x48
/-- The odd channels of the pairs. -/
noncomputable def odd24 (V : FVec F S6x2048x24x96 .f32) : FVec F S6x2048x24x48 .f32 :=
  shapeCast S6x2048x24x48 (extractStridedSlice S6x2048x24x48x1 ![0, 0, 0, 0, 1] (shapeCast S6x2048x24x48x2 V shapeCasts_S6x2048x24x96_S6x2048x24x48x2) slices_S6x2048x24x48x2_o0_0_0_0_1_S6x2048x24x48x1) shapeCasts_S6x2048x24x48x1_S6x2048x24x48
/-- A token's angles for every head. -/
noncomputable def ang24 (C : FVec F S6x2048x48 .f32) : FVec F S6x2048x24x48 .f32 :=
  broadcastTo S6x2048x24x48 (shapeCast S6x2048x1x48 C shapeCasts_S6x2048x48_S6x2048x1x48) broadcasts_S6x2048x1x48_S6x2048x24x48
/-- The pairs put together again. -/
noncomputable def pair24 (X Y : FVec F S6x2048x24x48 .f32) : FVec F S6x2048x24x96 .f32 :=
  shapeCast S6x2048x24x96 (concatenate S6x2048x24x48x2 4 [⟨S6x2048x24x48x1, shapeCast S6x2048x24x48x1 X shapeCasts_S6x2048x24x48_S6x2048x24x48x1⟩, ⟨S6x2048x24x48x1, shapeCast S6x2048x24x48x1 Y shapeCasts_S6x2048x24x48_S6x2048x24x48x1⟩]
    concatenates_S6x2048x24x48x1_S6x2048x24x48x1_S6x2048x24x48x2_d4) shapeCasts_S6x2048x24x48x2_S6x2048x24x96
/-- The pairs turned. -/
noncomputable def turn24 (V : FVec F S6x2048x24x96 .f32) (C S : FVec F S6x2048x48 .f32) : FVec F S6x2048x24x96 .f32 :=
  pair24 (subf (mulf (even24 V) (ang24 C)) (mulf (odd24 V) (ang24 S))) (addf (mulf (even24 V) (ang24 S)) (mulf (odd24 V) (ang24 C)))

/-- Eight heads normed, times their gain. -/
noncomputable def norm8 (L : FVec F S6x2048x8x96 .f32) (g : Vec F S96 .f32) : FVec F S6x2048x8x96 .f32 :=
  mulf (divf L (broadcastTo S6x2048x8x96 (sqrt (addf (divf (shapeCast S6x2048x8x1 (multiReduction .add [3] S6x2048x8 (mulf L L) 0x00000000#32 reduces_S6x2048x8x96_S6x2048x8 (.inl rfl) rfl) shapeCasts_S6x2048x8_S6x2048x8x1)
    (broadcast S6x2048x8x1 (Scalar.ofBits .f32 0x42C00000#32))) (broadcast S6x2048x8x1 (Scalar.ofBits .f32 0x358637BD#32)))) broadcasts_S6x2048x8x1_S6x2048x8x96))
    (broadcastTo S6x2048x8x96 (shapeCast S1x1x1x96 g shapeCasts_S96_S1x1x1x96) broadcasts_S1x1x1x96_S6x2048x8x96)

/-- The even channels of the pairs. -/
noncomputable def even8 (V : FVec F S6x2048x8x96 .f32) : FVec F S6x2048x8x48 .f32 :=
  shapeCast S6x2048x8x48 (extractStridedSlice S6x2048x8x48x1 ![0, 0, 0, 0, 0] (shapeCast S6x2048x8x48x2 V shapeCasts_S6x2048x8x96_S6x2048x8x48x2) slices_S6x2048x8x48x2_o0_0_0_0_0_S6x2048x8x48x1) shapeCasts_S6x2048x8x48x1_S6x2048x8x48
/-- The odd channels of the pairs. -/
noncomputable def odd8 (V : FVec F S6x2048x8x96 .f32) : FVec F S6x2048x8x48 .f32 :=
  shapeCast S6x2048x8x48 (extractStridedSlice S6x2048x8x48x1 ![0, 0, 0, 0, 1] (shapeCast S6x2048x8x48x2 V shapeCasts_S6x2048x8x96_S6x2048x8x48x2) slices_S6x2048x8x48x2_o0_0_0_0_1_S6x2048x8x48x1) shapeCasts_S6x2048x8x48x1_S6x2048x8x48
/-- A token's angles for every head. -/
noncomputable def ang8 (C : FVec F S6x2048x48 .f32) : FVec F S6x2048x8x48 .f32 :=
  broadcastTo S6x2048x8x48 (shapeCast S6x2048x1x48 C shapeCasts_S6x2048x48_S6x2048x1x48) broadcasts_S6x2048x1x48_S6x2048x8x48
/-- The pairs put together again. -/
noncomputable def pair8 (X Y : FVec F S6x2048x8x48 .f32) : FVec F S6x2048x8x96 .f32 :=
  shapeCast S6x2048x8x96 (concatenate S6x2048x8x48x2 4 [⟨S6x2048x8x48x1, shapeCast S6x2048x8x48x1 X shapeCasts_S6x2048x8x48_S6x2048x8x48x1⟩, ⟨S6x2048x8x48x1, shapeCast S6x2048x8x48x1 Y shapeCasts_S6x2048x8x48_S6x2048x8x48x1⟩]
    concatenates_S6x2048x8x48x1_S6x2048x8x48x1_S6x2048x8x48x2_d4) shapeCasts_S6x2048x8x48x2_S6x2048x8x96
/-- The pairs turned. -/
noncomputable def turn8 (V : FVec F S6x2048x8x96 .f32) (C S : FVec F S6x2048x48 .f32) : FVec F S6x2048x8x96 .f32 :=
  pair8 (subf (mulf (even8 V) (ang8 C)) (mulf (odd8 V) (ang8 S))) (addf (mulf (even8 V) (ang8 S)) (mulf (odd8 V) (ang8 C)))

theorem pay12_eq (C S : FVec F S6x2048x48 .f32) (L : FVec F S6x2048x8x96 .f32) (g : Vec F S96 .f32) : k0_pay12 C S L g = turn8 (norm8 L g) C S := rfl

/-- q's heads before any norm. -/
noncomputable def heads24 (P : FVec F S6x2048x3840 .f32) : FVec F S6x2048x24x96 .f32 :=
  shapeCast S6x2048x24x96 (extractStridedSlice S6x2048x2304 ![0, 0, 0] P slices_S6x2048x3840_o0_0_0_S6x2048x2304) shapeCasts_S6x2048x2304_S6x2048x24x96

theorem pay11_eq (v30 : FVec F S6x2048x1 .f32) (v37 : FVec F S6x2048x2304 .fp8e4m3) (v38 : Vec F S2304x3840 .fp8e4m3) (v39 : Vec F S3840 .f32) (z : FVec F S6x2048x3840 .f32)
    (v46 v48 : Vec F S6x48x2048 .f32) (g : Vec F S96 .f32) :
    k0_pay11 (k0_pay10 v30 v37 v38 v39 z v46 v48 g) = turn24 (norm24 (heads24 (k0_pay5 v30 v37 v38 v39 z)) g) (k0_pay6 v46) (k0_pay7 v48) := rfl
end

section
variable (b : Fin 6) (n : Fin 2048) (H : Fin 24) (d : Fin 96)

theorem norm24_apply (L : FVec Ideal S6x2048x24x96 .f32) (g : Vec Ideal S96 .f32) :
    norm24 L g (ix4 b n H d) = headE (fun d => g (ix1 d)) (fun d => L (ix4 b n H d)) d := by
  have key : ∀ c e : Ideal .f32, mulf (divf L (broadcastTo S6x2048x24x96 (sqrt (addf (divf (shapeCast S6x2048x24x1 (multiReduction .add [3] S6x2048x24 (mulf L L) 0x00000000#32 reduces_S6x2048x24x96_S6x2048x24 (.inl rfl) rfl) shapeCasts_S6x2048x24_S6x2048x24x1)
      (broadcast S6x2048x24x1 c)) (broadcast S6x2048x24x1 e))) broadcasts_S6x2048x24x1_S6x2048x24x96))
      (broadcastTo S6x2048x24x96 (shapeCast S1x1x1x96 g shapeCasts_S96_S1x1x1x96) broadcasts_S1x1x1x96_S6x2048x24x96) (ix4 b n H d)
      = Ideal.div (L (ix4 b n H d)) (Ideal.sqrt (Ideal.div (∑ d : Fin 96, L (ix4 b n H d) * L (ix4 b n H d)) c + e)) * g (ix1 d) := by
    intro c e; pointwise [lit_zero]
  unfold norm24
  refine (key _ _).trans ?_
  show Ideal.div _ (Ideal.sqrt (Ideal.div _ (Ideal.ofBits .f32 0x42C00000#32) + Ideal.ofBits .f32 0x358637BD#32)) * _ = _
  rw [lit_96, div_of _ _ (by norm_num)]
  rfl

theorem split24_apply (V : FVec Ideal S6x2048x24x96 .f32) (i : Fin 48) (p : Fin 2) :
    shapeCast S6x2048x24x48x2 V shapeCasts_S6x2048x24x96_S6x2048x24x48x2 (ix5 b n H i p) = V (ix4 b n H (⟨i.val * 2 + p.val, by omega⟩ : Fin 96)) := by
  pointwise

theorem even24_apply (V : FVec Ideal S6x2048x24x96 .f32) (i : Fin 48) : even24 V (ix4 b n H i) = V (ix4 b n H (⟨i.val * 2, by omega⟩ : Fin 96)) := by
  have key : ∀ W : FVec Ideal S6x2048x24x48x2 .f32, shapeCast S6x2048x24x48 (extractStridedSlice S6x2048x24x48x1 ![0, 0, 0, 0, 0] W slices_S6x2048x24x48x2_o0_0_0_0_0_S6x2048x24x48x1) shapeCasts_S6x2048x24x48x1_S6x2048x24x48 (ix4 b n H i) = W (ix5 b n H i (0 : Fin 2)) := by
    intro W; pointwise
  unfold even24
  exact (key _).trans (split24_apply b n H V i 0)

theorem odd24_apply (V : FVec Ideal S6x2048x24x96 .f32) (i : Fin 48) : odd24 V (ix4 b n H i) = V (ix4 b n H (⟨i.val * 2 + 1, by omega⟩ : Fin 96)) := by
  have key : ∀ W : FVec Ideal S6x2048x24x48x2 .f32, shapeCast S6x2048x24x48 (extractStridedSlice S6x2048x24x48x1 ![0, 0, 0, 0, 1] W slices_S6x2048x24x48x2_o0_0_0_0_1_S6x2048x24x48x1) shapeCasts_S6x2048x24x48x1_S6x2048x24x48 (ix4 b n H i) = W (ix5 b n H i (1 : Fin 2)) := by
    intro W; pointwise
  unfold odd24
  exact (key _).trans (split24_apply b n H V i 1)

theorem ang24_apply (C : FVec Ideal S6x2048x48 .f32) (i : Fin 48) : ang24 C (ix4 b n H i) = C (ix3 b n i) := by
  unfold ang24; pointwise

theorem pair24_apply (X Y : FVec Ideal S6x2048x24x48 .f32) : pair24 X Y (ix4 b n H d) = if d.val % 2 = 0 then X (ix4 b n H (half d)) else Y (ix4 b n H (half d)) := by
  have k1 : ∀ W : FVec Ideal S6x2048x24x48x2 .f32, shapeCast S6x2048x24x96 W shapeCasts_S6x2048x24x48x2_S6x2048x24x96 (ix4 b n H d) = W (ix5 b n H (⟨d.val / 2, by omega⟩ : Fin 48) (⟨d.val % 2, by omega⟩ : Fin 2)) := by
    intro W; pointwise
  have k2 : ∀ W : FVec Ideal S6x2048x24x48 .f32, ∀ i : Fin 48, shapeCast S6x2048x24x48x1 W shapeCasts_S6x2048x24x48_S6x2048x24x48x1 (ix5 b n H i (0 : Fin 1)) = W (ix4 b n H i) := by
    intro W i; pointwise
  unfold pair24
  refine (k1 _).trans ?_
  by_cases h : d.val % 2 = 0
  · rw [if_pos h]
    refine (concatenate_pair_apply_left (t := S6x2048x24x48x2) (s₁ := S6x2048x24x48x1) (s₂ := S6x2048x24x48x1) 4 _ _ concatenates_S6x2048x24x48x1_S6x2048x24x48x1_S6x2048x24x48x2_d4 _ rfl (ix5 b n H (half d) (0 : Fin 1)) ?_).trans (k2 X (half d))
    intro q; fin_cases q <;> first | rfl | exact h.symm
  · rw [if_neg h]
    refine (concatenate_pair_apply_right (t := S6x2048x24x48x2) (s₁ := S6x2048x24x48x1) (s₂ := S6x2048x24x48x1) 4 _ _ concatenates_S6x2048x24x48x1_S6x2048x24x48x1_S6x2048x24x48x2_d4 _ rfl rfl (ix5 b n H (half d) (0 : Fin 1)) ?_ ?_).trans (k2 Y (half d))
    · intro q hq; fin_cases q <;> first | rfl | exact absurd rfl hq
    · show 0 + 1 = d.val % 2
      omega

theorem turn24_apply (V : FVec Ideal S6x2048x24x96 .f32) (C S : FVec Ideal S6x2048x48 .f32) : turn24 V C S (ix4 b n H d)
    = ropeE (fun i => C (ix3 b n i)) (fun i => S (ix3 b n i)) (fun d => V (ix4 b n H d)) d := by
  unfold turn24 ropeE
  rw [pair24_apply]
  by_cases h : d.val % 2 = 0
  · have e0 : (⟨(half d).val * 2, by omega⟩ : Fin 96) = d := by
      apply Fin.ext; show d.val / 2 * 2 = d.val; omega
    have e1 : (⟨(half d).val * 2 + 1, by omega⟩ : Fin 96) = mate d := by
      unfold mate; rw [dif_pos h]; apply Fin.ext; show d.val / 2 * 2 + 1 = d.val + 1; omega
    rw [if_pos h, if_pos h, ValueIdx.subf_apply, ValueIdx.mulf_apply, ValueIdx.mulf_apply, even24_apply, odd24_apply, ang24_apply, ang24_apply, e0, e1]
  · have e0 : (⟨(half d).val * 2, by omega⟩ : Fin 96) = mate d := by
      unfold mate; rw [dif_neg h]; apply Fin.ext; show d.val / 2 * 2 = d.val - 1; omega
    have e1 : (⟨(half d).val * 2 + 1, by omega⟩ : Fin 96) = d := by
      apply Fin.ext; show d.val / 2 * 2 + 1 = d.val; omega
    rw [if_neg h, if_neg h, ValueIdx.addf_apply, ValueIdx.mulf_apply, ValueIdx.mulf_apply, even24_apply, odd24_apply, ang24_apply, ang24_apply, e0, e1]
end

section
variable (b : Fin 6) (n : Fin 2048) (H : Fin 8) (d : Fin 96)

theorem norm8_apply (L : FVec Ideal S6x2048x8x96 .f32) (g : Vec Ideal S96 .f32) :
    norm8 L g (ix4 b n H d) = headE (fun d => g (ix1 d)) (fun d => L (ix4 b n H d)) d := by
  have key : ∀ c e : Ideal .f32, mulf (divf L (broadcastTo S6x2048x8x96 (sqrt (addf (divf (shapeCast S6x2048x8x1 (multiReduction .add [3] S6x2048x8 (mulf L L) 0x00000000#32 reduces_S6x2048x8x96_S6x2048x8 (.inl rfl) rfl) shapeCasts_S6x2048x8_S6x2048x8x1)
      (broadcast S6x2048x8x1 c)) (broadcast S6x2048x8x1 e))) broadcasts_S6x2048x8x1_S6x2048x8x96))
      (broadcastTo S6x2048x8x96 (shapeCast S1x1x1x96 g shapeCasts_S96_S1x1x1x96) broadcasts_S1x1x1x96_S6x2048x8x96) (ix4 b n H d)
      = Ideal.div (L (ix4 b n H d)) (Ideal.sqrt (Ideal.div (∑ d : Fin 96, L (ix4 b n H d) * L (ix4 b n H d)) c + e)) * g (ix1 d) := by
    intro c e; pointwise [lit_zero]
  unfold norm8
  refine (key _ _).trans ?_
  show Ideal.div _ (Ideal.sqrt (Ideal.div _ (Ideal.ofBits .f32 0x42C00000#32) + Ideal.ofBits .f32 0x358637BD#32)) * _ = _
  rw [lit_96, div_of _ _ (by norm_num)]
  rfl

theorem split8_apply (V : FVec Ideal S6x2048x8x96 .f32) (i : Fin 48) (p : Fin 2) :
    shapeCast S6x2048x8x48x2 V shapeCasts_S6x2048x8x96_S6x2048x8x48x2 (ix5 b n H i p) = V (ix4 b n H (⟨i.val * 2 + p.val, by omega⟩ : Fin 96)) := by
  pointwise

theorem even8_apply (V : FVec Ideal S6x2048x8x96 .f32) (i : Fin 48) : even8 V (ix4 b n H i) = V (ix4 b n H (⟨i.val * 2, by omega⟩ : Fin 96)) := by
  have key : ∀ W : FVec Ideal S6x2048x8x48x2 .f32, shapeCast S6x2048x8x48 (extractStridedSlice S6x2048x8x48x1 ![0, 0, 0, 0, 0] W slices_S6x2048x8x48x2_o0_0_0_0_0_S6x2048x8x48x1) shapeCasts_S6x2048x8x48x1_S6x2048x8x48 (ix4 b n H i) = W (ix5 b n H i (0 : Fin 2)) := by
    intro W; pointwise
  unfold even8
  exact (key _).trans (split8_apply b n H V i 0)

theorem odd8_apply (V : FVec Ideal S6x2048x8x96 .f32) (i : Fin 48) : odd8 V (ix4 b n H i) = V (ix4 b n H (⟨i.val * 2 + 1, by omega⟩ : Fin 96)) := by
  have key : ∀ W : FVec Ideal S6x2048x8x48x2 .f32, shapeCast S6x2048x8x48 (extractStridedSlice S6x2048x8x48x1 ![0, 0, 0, 0, 1] W slices_S6x2048x8x48x2_o0_0_0_0_1_S6x2048x8x48x1) shapeCasts_S6x2048x8x48x1_S6x2048x8x48 (ix4 b n H i) = W (ix5 b n H i (1 : Fin 2)) := by
    intro W; pointwise
  unfold odd8
  exact (key _).trans (split8_apply b n H V i 1)

theorem ang8_apply (C : FVec Ideal S6x2048x48 .f32) (i : Fin 48) : ang8 C (ix4 b n H i) = C (ix3 b n i) := by
  unfold ang8; pointwise

theorem pair8_apply (X Y : FVec Ideal S6x2048x8x48 .f32) : pair8 X Y (ix4 b n H d) = if d.val % 2 = 0 then X (ix4 b n H (half d)) else Y (ix4 b n H (half d)) := by
  have k1 : ∀ W : FVec Ideal S6x2048x8x48x2 .f32, shapeCast S6x2048x8x96 W shapeCasts_S6x2048x8x48x2_S6x2048x8x96 (ix4 b n H d) = W (ix5 b n H (⟨d.val / 2, by omega⟩ : Fin 48) (⟨d.val % 2, by omega⟩ : Fin 2)) := by
    intro W; pointwise
  have k2 : ∀ W : FVec Ideal S6x2048x8x48 .f32, ∀ i : Fin 48, shapeCast S6x2048x8x48x1 W shapeCasts_S6x2048x8x48_S6x2048x8x48x1 (ix5 b n H i (0 : Fin 1)) = W (ix4 b n H i) := by
    intro W i; pointwise
  unfold pair8
  refine (k1 _).trans ?_
  by_cases h : d.val % 2 = 0
  · rw [if_pos h]
    refine (concatenate_pair_apply_left (t := S6x2048x8x48x2) (s₁ := S6x2048x8x48x1) (s₂ := S6x2048x8x48x1) 4 _ _ concatenates_S6x2048x8x48x1_S6x2048x8x48x1_S6x2048x8x48x2_d4 _ rfl (ix5 b n H (half d) (0 : Fin 1)) ?_).trans (k2 X (half d))
    intro q; fin_cases q <;> first | rfl | exact h.symm
  · rw [if_neg h]
    refine (concatenate_pair_apply_right (t := S6x2048x8x48x2) (s₁ := S6x2048x8x48x1) (s₂ := S6x2048x8x48x1) 4 _ _ concatenates_S6x2048x8x48x1_S6x2048x8x48x1_S6x2048x8x48x2_d4 _ rfl rfl (ix5 b n H (half d) (0 : Fin 1)) ?_ ?_).trans (k2 Y (half d))
    · intro q hq; fin_cases q <;> first | rfl | exact absurd rfl hq
    · show 0 + 1 = d.val % 2
      omega

theorem turn8_apply (V : FVec Ideal S6x2048x8x96 .f32) (C S : FVec Ideal S6x2048x48 .f32) : turn8 V C S (ix4 b n H d)
    = ropeE (fun i => C (ix3 b n i)) (fun i => S (ix3 b n i)) (fun d => V (ix4 b n H d)) d := by
  unfold turn8 ropeE
  rw [pair8_apply]
  by_cases h : d.val % 2 = 0
  · have e0 : (⟨(half d).val * 2, by omega⟩ : Fin 96) = d := by
      apply Fin.ext; show d.val / 2 * 2 = d.val; omega
    have e1 : (⟨(half d).val * 2 + 1, by omega⟩ : Fin 96) = mate d := by
      unfold mate; rw [dif_pos h]; apply Fin.ext; show d.val / 2 * 2 + 1 = d.val + 1; omega
    rw [if_pos h, if_pos h, ValueIdx.subf_apply, ValueIdx.mulf_apply, ValueIdx.mulf_apply, even8_apply, odd8_apply, ang8_apply, ang8_apply, e0, e1]
  · have e0 : (⟨(half d).val * 2, by omega⟩ : Fin 96) = mate d := by
      unfold mate; rw [dif_neg h]; apply Fin.ext; show d.val / 2 * 2 = d.val - 1; omega
    have e1 : (⟨(half d).val * 2 + 1, by omega⟩ : Fin 96) = d := by
      apply Fin.ext; show d.val / 2 * 2 + 1 = d.val; omega
    rw [if_neg h, if_neg h, ValueIdx.addf_apply, ValueIdx.mulf_apply, ValueIdx.mulf_apply, even8_apply, odd8_apply, ang8_apply, ang8_apply, e0, e1]
end

section
variable (b : Fin 6) (n : Fin 2048)

theorem heads24_apply (P : FVec Ideal S6x2048x3840 .f32) (H : Fin 24) (d : Fin 96) : heads24 P (ix4 b n H d) = P (ix3 b n (chn ⟨H.val, by omega⟩ d)) := by
  have key : ∀ W : FVec Ideal S6x2048x2304 .f32, shapeCast S6x2048x24x96 W shapeCasts_S6x2048x2304_S6x2048x24x96 (ix4 b n H d) = W (ix3 b n (⟨H.val * 96 + d.val, by omega⟩ : Fin 2304)) := by
    intro W; pointwise
  unfold heads24
  refine (key _).trans (congrArg P ?_)
  funext q; apply Fin.ext; fin_cases q <;> simp [ix3, chn]

theorem cast8 (W : FVec Ideal S6x2048x768 .f32) (H : Fin 8) (d : Fin 96) :
    shapeCast S6x2048x8x96 W shapeCasts_S6x2048x768_S6x2048x8x96 (ix4 b n H d) = W (ix3 b n (⟨H.val * 96 + d.val, by omega⟩ : Fin 768)) := by
  pointwise

theorem pay8_apply (v30 : FVec Ideal S6x2048x1 .f32) (v37 : FVec Ideal S6x2048x2304 .fp8e4m3) (v38 : Vec Ideal S2304x3840 .fp8e4m3) (v39 : Vec Ideal S3840 .f32) (z : FVec Ideal S6x2048x3840 .f32)
    (H : Fin 8) (d : Fin 96) : k0_pay8 v30 v37 v38 v39 z (ix4 b n H d) = k0_pay5 v30 v37 v38 v39 z (ix3 b n (chn ⟨24 + H.val, by omega⟩ d)) := by
  unfold k0_pay8
  generalize k0_pay5 v30 v37 v38 v39 z = P
  refine (cast8 b n _ H d).trans (congrArg P ?_)
  funext q; apply Fin.ext; fin_cases q <;> simp [ix3, chn] <;> omega

theorem pay9_apply (v30 : FVec Ideal S6x2048x1 .f32) (v37 : FVec Ideal S6x2048x2304 .fp8e4m3) (v38 : Vec Ideal S2304x3840 .fp8e4m3) (v39 : Vec Ideal S3840 .f32) (z : FVec Ideal S6x2048x3840 .f32)
    (H : Fin 8) (d : Fin 96) : k0_pay9 v30 v37 v38 v39 z (ix4 b n H d) = k0_pay5 v30 v37 v38 v39 z (ix3 b n (chn ⟨32 + H.val, by omega⟩ d)) := by
  unfold k0_pay9
  generalize k0_pay5 v30 v37 v38 v39 z = P
  refine (cast8 b n _ H d).trans (congrArg P ?_)
  funext q; apply Fin.ext; fin_cases q <;> simp [ix3, chn] <;> omega

theorem pay6_apply (A : Vec Ideal S6x48x2048 .f32) (i : Fin 48) : k0_pay6 A (ix3 b n i) = A (ix3 b i n) := by
  unfold k0_pay6; pointwise

theorem pay7_apply (A : Vec Ideal S6x48x2048 .f32) (i : Fin 48) : k0_pay7 A (ix3 b n i) = A (ix3 b i n) := by
  unfold k0_pay7; pointwise

theorem max8_apply (A : FVec Ideal S6x2048x8x96 .f32) (H : Fin 8) (i : Fin 1) (h : S6x2048x8x96.Reduces [3] S6x2048x8) (h1 h2) (h3 : S6x2048x8.ShapeCasts S6x2048x8x1) :
    shapeCast S6x2048x8x1 (multiReduction .maximumf [3] S6x2048x8 (absf A) 0xFF800000#32 h h1 h2) h3 (ix4 b n H i) = topE fun d => A (ix4 b n H d) := by
  have key : ∀ A : FVec Ideal S6x2048x8x96 .f32, shapeCast S6x2048x8x1 (multiReduction .maximumf [3] S6x2048x8 A 0xFF800000#32 h h1 h2) h3 (ix4 b n H i)
      = (Finset.univ : Finset (Fin 96)).fold max (Ideal.ofBits .f32 0xFF800000#32) fun d => A (ix4 b n H d) := by
    intro A; pointwise
  rw [key, lit_bot]
  rfl

theorem wide8_apply (A : FVec Ideal S6x2048x8x1 .f32) (h : S6x2048x8x1.Broadcasts S6x2048x8x96) (H : Fin 8) (d : Fin 96) :
    broadcastTo S6x2048x8x96 A h (ix4 b n H d) = A (ix4 b n H (0 : Fin 1)) := by
  pointwise

theorem pay16_apply (V : FVec Ideal S6x2048x8x96 .f32) (H : Fin 8) (i : Fin 1) : k0_pay16 V (ix4 b n H i) = scaleE (topE fun d => V (ix4 b n H d)) := by
  unfold k0_pay16
  dsimp only
  rw [scale_apply]
  exact congrArg scaleE (max8_apply _ _ _ _ _ _ _ _ _)

theorem out8 (φ : FTy) (A : FVec Ideal S6x2048x8x96 φ) (p : Fin 768) :
    transpose S6x768x2048 [0, 2, 1] (shapeCast S6x2048x768 A shapeCasts_S6x2048x8x96_S6x2048x768) transposes_S6x2048x768_p0_2_1_S6x768x2048 (ix3 b p n)
      = A (ix4 b n (⟨p.val / 96, by omega⟩ : Fin 8) (⟨p.val % 96, by omega⟩ : Fin 96)) := by
  pointwise

theorem pay21_apply (V : FVec Ideal S6x2048x8x96 .f32) (p : Fin 768) : k0_pay21 V (ix3 b p n)
    = codeE (V (ix4 b n (⟨p.val / 96, by omega⟩ : Fin 8) (⟨p.val % 96, by omega⟩ : Fin 96))) (scaleE (topE fun d => V (ix4 b n (⟨p.val / 96, by omega⟩ : Fin 8) d))) := by
  unfold k0_pay21
  refine (out8 b n _ _ p).trans ?_
  rw [codes_apply, ValueIdx.divf_apply, wide8_apply, pay16_apply, clamp_div]

theorem pay21_of (V : FVec Ideal S6x2048x8x96 .f32) (W : Fin 96 → EReal) (p : Fin 768) (e : (fun d => V (ix4 b n (⟨p.val / 96, by omega⟩ : Fin 8) d)) = W) :
    k0_pay21 V (ix3 b p n) = codeE (W (⟨p.val % 96, by omega⟩ : Fin 96)) (scaleE (topE W)) := by
  subst e
  exact pay21_apply b n V p

theorem tr8_apply (A : FVec Ideal S6x2048x8x1 .f32) (H : Fin 8) :
    transpose S6x8x2048 [0, 2, 1] (shapeCast S6x2048x8 A shapeCasts_S6x2048x8x1_S6x2048x8) transposes_S6x2048x8_p0_2_1_S6x8x2048 (ix3 b H n) = A (ix4 b n H (0 : Fin 1)) := by
  pointwise

theorem pay1_apply (V : FVec Ideal S6x2048x8x96 .f32) (H : Fin 8) : k0_pay1 (k0_pay16 V) (ix3 b H n) = scaleE (topE fun d => V (ix4 b n H d)) := by
  unfold k0_pay1
  exact (tr8_apply b n _ H).trans (pay16_apply b n V H 0)

theorem pay13_eq (C S : FVec Ideal S6x2048x48 .f32) (L : FVec Ideal S6x2048x8x96 .f32) (g : Vec Ideal S96 .f32) : k0_pay13 C S L g = k0_pay16 (k0_pay12 C S L g) := rfl

theorem pay20_eq (A : FVec Ideal S6x2048x8x1 .f32) : k0_pay20 A = k0_pay1 A := rfl

theorem pay19_eq (C S : FVec Ideal S6x2048x48 .f32) (L : FVec Ideal S6x2048x8x96 .f32) (g : Vec Ideal S96 .f32) :
    k0_pay19 (k0_pay14 C S L g) (k0_pay15 (F := Ideal)) = k0_pay21 (k0_pay12 C S L g) := rfl

theorem pay18_apply (V : FVec Ideal S6x2048x24x96 .f32) (p : Fin 2304) : k0_pay18 V (ix3 b p n)
    = V (ix4 b n (⟨p.val / 96, by omega⟩ : Fin 24) (⟨p.val % 96, Nat.mod_lt _ (by norm_num)⟩ : Fin 96)) := by
  unfold k0_pay18; pointwise

theorem pay17_apply (A : FVec Ideal S6x2048x1 .f32) (i : Fin 1) : k0_pay17 A (ix3 b i n) = A (ix3 b n (0 : Fin 1)) := by
  unfold k0_pay17; pointwise
end

end Cert.QkvRefIdeal.Gen
-- ==== Proof.Qkv.Ref.lean ====
/- The reference's seven results, index by index. -/
module

public import proofs.«01_k».proof.Proof.Qkv.RefRun
public import proofs.«01_k».proof.Proof.Qkv.RefHead

@[expose] public section

set_option maxRecDepth 16384

namespace Cert.QkvRefIdeal.Gen

open Idealize.ShloMosaic Idealize.ShloMosaic.TcCoe Cert.Lib Cert.Qkv Cert.QkvRefIdeal.Value

theorem z1 : (![0] : Fin 1 → Nat) = fun _ => 0 := by decide
theorem z2 : (![0, 0] : Fin 2 → Nat) = fun _ => 0 := by decide
theorem z3 : (![0, 0, 0] : Fin 3 → Nat) = fun _ => 0 := by decide

variable (a0 : Vec Ideal S6x2048x2304 .bf16) (a1 : Vec Ideal S2304 .f32) (a2 : Vec Ideal S6x2304 .f32) (a3 : Vec Ideal S2304x3840 .fp8e4m3) (a4 : Vec Ideal S3840 .f32)
  (a5 a6 : Vec Ideal S96 .f32) (a7 a8 : Vec Ideal S6x48x2048 .f32) (b : Fin 6) (n : Fin 2048)

/-- A token's normed row. -/
noncomputable def rx : Fin 2304 → EReal := Cert.Oproj.normE (fun j => a1 (ix1 j)) (fun j => a2 (ix2 b j)) fun j => a0 (ix3 b n j)

theorem pay2_apply (j : Fin 2304) : k0_pay2 a0 a1 a2 (ix3 b n j) = rx a0 a1 a2 b n j := by
  have key : ∀ c e o : Ideal .f32, mulf (mulf (divf (extf .f32 a0 bitsLt_bf16_f32) (broadcastTo S6x2048x2304 (sqrt (addf (divf (shapeCast S6x2048x1
      (multiReduction .add [2] S6x2048 (mulf (extf .f32 a0 bitsLt_bf16_f32) (extf .f32 a0 bitsLt_bf16_f32)) 0x00000000#32 reduces_S6x2048x2304_S6x2048 (.inl rfl) rfl) shapeCasts_S6x2048_S6x2048x1)
      (broadcast S6x2048x1 c)) (broadcast S6x2048x1 e))) broadcasts_S6x2048x1_S6x2048x2304)) (broadcastTo S6x2048x2304 (shapeCast S1x1x2304 a1 shapeCasts_S2304_S1x1x2304) broadcasts_S1x1x2304_S6x2048x2304))
      (broadcastTo S6x2048x2304 (addf (broadcast S6x1x2304 o) (shapeCast S6x1x2304 a2 shapeCasts_S6x2304_S6x1x2304)) broadcasts_S6x1x2304_S6x2048x2304) (ix3 b n j)
      = Ideal.div (a0 (ix3 b n j)) (Ideal.sqrt (Ideal.div (∑ k : Fin 2304, a0 (ix3 b n k) * a0 (ix3 b n k)) c + e)) * a1 (ix1 j) * (o + a2 (ix2 b j)) := by
    intro c e o; pointwise [lit_zero]
  unfold k0_pay2
  refine (key _ _ _).trans ?_
  show Ideal.div _ (Ideal.sqrt (Ideal.div _ (Ideal.ofBits .f32 0x45100000#32) + Ideal.ofBits .f32 0x358637BD#32)) * _ * (Ideal.ofBits .f32 0x3F800000#32 + _) = _
  rw [lit_2304, lit_one, div_of _ _ (by norm_num)]
  rfl

theorem max_apply (A : FVec Ideal S6x2048x2304 .f32) (i : Fin 1) (h : S6x2048x2304.Reduces [2] S6x2048) (h1 h2) (h3 : S6x2048.ShapeCasts S6x2048x1) :
    shapeCast S6x2048x1 (multiReduction .maximumf [2] S6x2048 (absf A) 0xFF800000#32 h h1 h2) h3 (ix3 b n i) = topE fun j => A (ix3 b n j) := by
  have key : ∀ A : FVec Ideal S6x2048x2304 .f32, shapeCast S6x2048x1 (multiReduction .maximumf [2] S6x2048 A 0xFF800000#32 h h1 h2) h3 (ix3 b n i)
      = (Finset.univ : Finset (Fin 2304)).fold max (Ideal.ofBits .f32 0xFF800000#32) fun j => A (ix3 b n j) := by
    intro A; pointwise
  rw [key, lit_bot]
  rfl

theorem wide_apply (A : FVec Ideal S6x2048x1 .f32) (h : S6x2048x1.Broadcasts S6x2048x2304) (j : Fin 2304) :
    broadcastTo S6x2048x2304 A h (ix3 b n j) = A (ix3 b n (0 : Fin 1)) := by
  pointwise

theorem pay3_apply (i : Fin 1) : k0_pay3 a0 a1 a2 (ix3 b n i) = scaleE (topE (rx a0 a1 a2 b n)) := by
  unfold k0_pay3
  dsimp only
  rw [scale_apply]
  refine congrArg scaleE ((max_apply _ _ _ _ _ _ _ _).trans ?_)
  simp only [pay2_apply]

theorem pay4_apply (k : Fin 2304) : k0_pay4 a0 a1 a2 (ix3 b n k) = codeE (rx a0 a1 a2 b n k) (scaleE (topE (rx a0 a1 a2 b n))) := by
  unfold k0_pay4
  rw [codes_apply, ValueIdx.divf_apply, wide_apply, pay2_apply, pay3_apply, clamp_div]

theorem pay23_eq : k0_pay23 a0 a1 a2 a3 a4 a5 a6 a7 a8 = k0_pay3 a0 a1 a2 := by
  unfold k0_pay23
  rw [View.ld_unit_zero (S := S6x2048x2304) z3 _ a0, View.ld_unit_zero (S := S2304) z1 _ a1, View.ld_unit_zero (S := S6x2304) z2 _ a2]

theorem pay24_eq : k0_pay24 a0 a1 a2 a3 a4 a5 a6 a7 a8 = k0_pay4 a0 a1 a2 := by
  unfold k0_pay24
  rw [View.ld_unit_zero (S := S6x2048x2304) z3 _ a0, View.ld_unit_zero (S := S2304) z1 _ a1, View.ld_unit_zero (S := S6x2304) z2 _ a2]

/-- The product, with its scales. -/
noncomputable def rP : FVec Ideal S6x2048x3840 .f32 := k0_pay5 (k0_pay23 a0 a1 a2 a3 a4 a5 a6 a7 a8) (k0_pay24 a0 a1 a2 a3 a4 a5 a6 a7 a8) a3 a4 (k0_pay22 a0 a1 a2 a3 a4 a5 a6 a7 a8)

theorem pay27_eq : k0_pay27 a0 a1 a2 a3 a4 a5 a6 a7 a8 = k0_pay8 (k0_pay23 a0 a1 a2 a3 a4 a5 a6 a7 a8) (k0_pay24 a0 a1 a2 a3 a4 a5 a6 a7 a8) a3 a4 (k0_pay22 a0 a1 a2 a3 a4 a5 a6 a7 a8) := by
  unfold k0_pay27
  rw [View.ld_unit_zero (S := S2304x3840) z2 _ a3, View.ld_unit_zero (S := S3840) z1 _ a4]

theorem pay28_eq : k0_pay28 a0 a1 a2 a3 a4 a5 a6 a7 a8 = k0_pay9 (k0_pay23 a0 a1 a2 a3 a4 a5 a6 a7 a8) (k0_pay24 a0 a1 a2 a3 a4 a5 a6 a7 a8) a3 a4 (k0_pay22 a0 a1 a2 a3 a4 a5 a6 a7 a8) := by
  unfold k0_pay28
  rw [View.ld_unit_zero (S := S2304x3840) z2 _ a3, View.ld_unit_zero (S := S3840) z1 _ a4]

theorem pay25_eq : k0_pay25 a0 a1 a2 a3 a4 a5 a6 a7 a8 = k0_pay6 a7 := by
  unfold k0_pay25
  rw [View.ld_unit_zero (S := S6x48x2048) z3 _ a7]

theorem pay26_eq : k0_pay26 a0 a1 a2 a3 a4 a5 a6 a7 a8 = k0_pay7 a8 := by
  unfold k0_pay26
  rw [View.ld_unit_zero (S := S6x48x2048) z3 _ a8]

/-- The weights, by input and output channel. -/
noncomputable def rW (k : Fin 2304) (j : Fin 3840) : EReal := a3 (ix2 k j)
/-- The weights' scales. -/
noncomputable def rS (j : Fin 3840) : EReal := a4 (ix1 j)
/-- A gain. -/
noncomputable def rG (d : Fin 96) : EReal := a5 (ix1 d)
/-- A token's angles. -/
noncomputable def rA (i : Fin 48) : EReal := a7 (ix3 b i n)
/-- A token's heads before any norm. -/
noncomputable def rV : Fin 40 → Fin 96 → EReal := vecE (rx a0 a1 a2 b n) (rW a3) (rS a4)
/-- A token's rotated heads. -/
noncomputable def rR : Fin 40 → Fin 96 → EReal := rotE (rx a0 a1 a2 b n) (rW a3) (rS a4) (rG a5) (rA a7 b n) (rA a8 b n)

theorem rP_apply (H : Fin 40) (d : Fin 96) : rP a0 a1 a2 a3 a4 a5 a6 a7 a8 (ix3 b n (chn H d)) = rV a0 a1 a2 a3 a4 b n H d := by
  have key : ∀ (A : FVec Ideal S6x2048x2304 .fp8e4m3) (B : FVec Ideal S6x2048x1 .f32) (j : Fin 3840), k0_pay5 B A a3 a4 (k0_pay22 a0 a1 a2 a3 a4 a5 a6 a7 a8) (ix3 b n j)
      = (∑ k : Fin 2304, A (ix3 b n k) * a3 (ix2 k j)) * B (ix3 b n (0 : Fin 1)) * a4 (ix1 j) := by
    intro A B j
    unfold k0_pay5 k0_pay22
    pointwise [lit_zero]
  unfold rP
  rw [key, pay23_eq, pay24_eq, pay3_apply]
  simp only [pay4_apply]
  rfl

theorem q_fun (H : Fin 24) : (fun d => k0_pay11 (k0_pay10 (k0_pay23 a0 a1 a2 a3 a4 a5 a6 a7 a8) (k0_pay24 a0 a1 a2 a3 a4 a5 a6 a7 a8) a3 a4 (k0_pay22 a0 a1 a2 a3 a4 a5 a6 a7 a8) a7 a8 a5) (ix4 b n H d))
    = rR a0 a1 a2 a3 a4 a5 a7 a8 b n (⟨H.val, by omega⟩ : Fin 40) := by
  funext d
  rw [pay11_eq, turn24_apply]
  simp only [norm24_apply, heads24_apply, pay6_apply, pay7_apply]
  have e : ∀ d, k0_pay5 (k0_pay23 a0 a1 a2 a3 a4 a5 a6 a7 a8) (k0_pay24 a0 a1 a2 a3 a4 a5 a6 a7 a8) a3 a4 (k0_pay22 a0 a1 a2 a3 a4 a5 a6 a7 a8) (ix3 b n (chn ⟨H.val, by omega⟩ d)) = rV a0 a1 a2 a3 a4 b n ⟨H.val, by omega⟩ d :=
    fun d => rP_apply a0 a1 a2 a3 a4 a5 a6 a7 a8 b n ⟨H.val, by omega⟩ d
  simp only [e]
  rfl

theorem k_fun (H : Fin 8) : (fun d => k0_pay12 (k0_pay25 a0 a1 a2 a3 a4 a5 a6 a7 a8) (k0_pay26 a0 a1 a2 a3 a4 a5 a6 a7 a8) (k0_pay27 a0 a1 a2 a3 a4 a5 a6 a7 a8) a6 (ix4 b n H d))
    = rR a0 a1 a2 a3 a4 a6 a7 a8 b n (⟨24 + H.val, by omega⟩ : Fin 40) := by
  funext d
  rw [pay12_eq, turn8_apply, pay25_eq, pay26_eq, pay27_eq]
  simp only [norm8_apply, pay8_apply, pay6_apply, pay7_apply]
  have e : ∀ d, k0_pay5 (k0_pay23 a0 a1 a2 a3 a4 a5 a6 a7 a8) (k0_pay24 a0 a1 a2 a3 a4 a5 a6 a7 a8) a3 a4 (k0_pay22 a0 a1 a2 a3 a4 a5 a6 a7 a8) (ix3 b n (chn ⟨24 + H.val, by omega⟩ d)) = rV a0 a1 a2 a3 a4 b n ⟨24 + H.val, by omega⟩ d :=
    fun d => rP_apply a0 a1 a2 a3 a4 a5 a6 a7 a8 b n ⟨24 + H.val, by omega⟩ d
  simp only [e]
  rfl

theorem v_fun (H : Fin 8) : (fun d => k0_pay28 a0 a1 a2 a3 a4 a5 a6 a7 a8 (ix4 b n H d)) = rV a0 a1 a2 a3 a4 b n (⟨32 + H.val, by omega⟩ : Fin 40) := by
  funext d
  rw [pay28_eq, pay9_apply]
  exact rP_apply a0 a1 a2 a3 a4 a5 a6 a7 a8 b n ⟨32 + H.val, by omega⟩ d

theorem G9_apply (k : Fin 2304) : G9 (F := Ideal) a0 a1 a2 a3 a4 a5 a6 a7 a8 (ix3 b n k) = codeE (rx a0 a1 a2 b n k) (scaleE (topE (rx a0 a1 a2 b n))) := by
  show k0_pay24 a0 a1 a2 a3 a4 a5 a6 a7 a8 (ix3 b n k) = _
  rw [pay24_eq, pay4_apply]

theorem G10_apply (i : Fin 1) : G10 (F := Ideal) a0 a1 a2 a3 a4 a5 a6 a7 a8 (ix3 b i n) = scaleE (topE (rx a0 a1 a2 b n)) := by
  show k0_pay17 (k0_pay23 a0 a1 a2 a3 a4 a5 a6 a7 a8) (ix3 b i n) = _
  rw [pay17_apply, pay23_eq, pay3_apply]

theorem G11_apply (p : Fin 2304) : G11 (F := Ideal) a0 a1 a2 a3 a4 a5 a6 a7 a8 (ix3 b p n)
    = rR a0 a1 a2 a3 a4 a5 a7 a8 b n (⟨p.val / 96, by omega⟩ : Fin 40) (⟨p.val % 96, Nat.mod_lt _ (by norm_num)⟩ : Fin 96) := by
  refine (pay18_apply b n _ p).trans ?_
  exact congrFun (q_fun a0 a1 a2 a3 a4 a5 a6 a7 a8 b n (⟨p.val / 96, by omega⟩ : Fin 24)) _

theorem G12_apply (p : Fin 768) : G12 (F := Ideal) a0 a1 a2 a3 a4 a5 a6 a7 a8 (ix3 b p n)
    = codeE (rR a0 a1 a2 a3 a4 a6 a7 a8 b n (⟨24 + p.val / 96, by omega⟩ : Fin 40) (⟨p.val % 96, by omega⟩ : Fin 96))
      (scaleE (topE (rR a0 a1 a2 a3 a4 a6 a7 a8 b n (⟨24 + p.val / 96, by omega⟩ : Fin 40)))) := by
  exact (congrFun (pay19_eq _ _ _ _) _).trans (pay21_of b n _ _ p (k_fun a0 a1 a2 a3 a4 a5 a6 a7 a8 b n (⟨p.val / 96, by omega⟩ : Fin 8)))

theorem G13_apply (H : Fin 8) : G13 (F := Ideal) a0 a1 a2 a3 a4 a5 a6 a7 a8 (ix3 b H n) = scaleE (topE (rR a0 a1 a2 a3 a4 a6 a7 a8 b n (⟨24 + H.val, by omega⟩ : Fin 40))) := by
  refine (congrFun (pay20_eq _) _).trans ((congrFun (congrArg k0_pay1 (pay13_eq _ _ _ _)) _).trans ((pay1_apply b n _ H).trans ?_))
  exact congrArg (fun z => scaleE (topE z)) (k_fun a0 a1 a2 a3 a4 a5 a6 a7 a8 b n H)

theorem G14_apply (p : Fin 768) : G14 (F := Ideal) a0 a1 a2 a3 a4 a5 a6 a7 a8 (ix3 b p n)
    = codeE (rV a0 a1 a2 a3 a4 b n (⟨32 + p.val / 96, by omega⟩ : Fin 40) (⟨p.val % 96, by omega⟩ : Fin 96))
      (scaleE (topE (rV a0 a1 a2 a3 a4 b n (⟨32 + p.val / 96, by omega⟩ : Fin 40)))) := by
  exact pay21_of b n _ _ p (v_fun a0 a1 a2 a3 a4 a5 a6 a7 a8 b n (⟨p.val / 96, by omega⟩ : Fin 8))

theorem G15_apply (H : Fin 8) : G15 (F := Ideal) a0 a1 a2 a3 a4 a5 a6 a7 a8 (ix3 b H n) = scaleE (topE (rV a0 a1 a2 a3 a4 b n (⟨32 + H.val, by omega⟩ : Fin 40))) := by
  exact (pay1_apply b n _ H).trans (congrArg (fun z => scaleE (topE z)) (v_fun a0 a1 a2 a3 a4 a5 a6 a7 a8 b n H))

end Cert.QkvRefIdeal.Gen
-- ==== Proof.Qkv.Final.lean ====
/- The q, k and v projections of the whole sequence: the kernel's 24 blocks are the blocks of the reference's seven arrays, and
   they cover them. -/
module

public import proofs.«01_k».proof.Defs
public import proofs.«01_k».proof.Proof.Qkv.Outs
public import proofs.«01_k».proof.Proof.Qkv.Ref

@[expose] public section

set_option maxRecDepth 16384

namespace Cert.QkvIdeal.Gen

open Idealize.ShloMosaic Idealize.ShloMosaic.TcCoe Idealize.SL.Sem Cert.Lib Cert.Qkv

variable (m : (ℓ : Loc nD τ sig) → Buf (Elt Ideal) ℓ) (c : Dev nD)

/-- The batch of a grid point. -/
def bat (t : Fin grid0.N) : Fin 6 := ⟨t.val / 4, by have h : t.val < 24 := t.isLt; omega⟩

/-- The token a row of a grid point's block is. -/
def tok (t : Fin grid0.N) (n : Fin 512) : Fin 2048 := ⟨t.val % 4 * 512 + n.val, by omega⟩

/-! The kernel's operands other than the rows and the angles are arguments laid out anew. -/

theorem V_main_v0 : V m c main_v0 = shapeCast S1x2304 (m ((c : Thread nD τ).loc main_arg1)) shapeCasts_S2304_S1x2304 := by
  show StableHlo.after hostOps0 _ (Proc.devRef .tc main_v0) = _
  after_results
  rfl

theorem V_main_v1 : V m c main_v1 = shapeCast S6x1x2304 (m ((c : Thread nD τ).loc main_arg2)) shapeCasts_S6x2304_S6x1x2304 := by
  show StableHlo.after hostOps0 _ (Proc.devRef .tc main_v1) = _
  after_results
  rfl

theorem V_main_v2 : V m c main_v2 = transpose S3840x2304 [1, 0] (m ((c : Thread nD τ).loc main_arg3)) transposes_S2304x3840_S3840x2304_1_0 := by
  show StableHlo.after hostOps0 _ (Proc.devRef .tc main_v2) = _
  after_results

theorem V_main_v4 : V m c main_v4 = broadcastInDim S3840x128 ![0, 1] bcast_S3840x1_S3840x128_0_1 (broadcastInDim S3840x1 ![0] bcast_S3840_S3840x1_0 (m ((c : Thread nD τ).loc main_arg4))) := by
  show StableHlo.after hostOps0 _ (Proc.devRef .tc main_v4) = _
  after_results

theorem V_main_v6 : V m c main_v6 = broadcastInDim S96x128 ![0, 1] bcast_S96x1_S96x128_0_1 (broadcastInDim S96x1 ![0] bcast_S96_S96x1_0 (m ((c : Thread nD τ).loc main_arg5))) := by
  show StableHlo.after hostOps0 _ (Proc.devRef .tc main_v6) = _
  after_results

theorem V_main_v8 : V m c main_v8 = broadcastInDim S96x128 ![0, 1] bcast_S96x1_S96x128_0_1 (broadcastInDim S96x1 ![0] bcast_S96_S96x1_0 (m ((c : Thread nD τ).loc main_arg6))) := by
  show StableHlo.after hostOps0 _ (Proc.devRef .tc main_v8) = _
  after_results

/-! The block each operand and result has at a grid point. -/

theorem at0 : ∀ t : Fin grid0.N, win0_0.index t (0 : Fin 3) = t.val / 4 ∧ win0_0.index t (1 : Fin 3) = t.val % 4 ∧ win0_0.index t (2 : Fin 3) = 0 := by
  decide +kernel
theorem at1 : ∀ t : Fin grid0.N, win0_1.index t (0 : Fin 2) = 0 ∧ win0_1.index t (1 : Fin 2) = 0 := by
  decide +kernel
theorem at2 : ∀ t : Fin grid0.N, win0_2.index t (0 : Fin 3) = t.val / 4 ∧ win0_2.index t (1 : Fin 3) = 0 ∧ win0_2.index t (2 : Fin 3) = 0 := by
  decide +kernel
theorem at3 : ∀ t : Fin grid0.N, win0_3.index t (0 : Fin 2) = 0 ∧ win0_3.index t (1 : Fin 2) = 0 := by
  decide +kernel
theorem at4 : ∀ t : Fin grid0.N, win0_4.index t (0 : Fin 2) = 0 ∧ win0_4.index t (1 : Fin 2) = 0 := by
  decide +kernel
theorem at5 : ∀ t : Fin grid0.N, win0_5.index t (0 : Fin 2) = 0 ∧ win0_5.index t (1 : Fin 2) = 0 := by
  decide +kernel
theorem at6 : ∀ t : Fin grid0.N, win0_6.index t (0 : Fin 2) = 0 ∧ win0_6.index t (1 : Fin 2) = 0 := by
  decide +kernel
theorem at7 : ∀ t : Fin grid0.N, win0_7.index t (0 : Fin 3) = t.val / 4 ∧ win0_7.index t (1 : Fin 3) = 0 ∧ win0_7.index t (2 : Fin 3) = t.val % 4 := by
  decide +kernel
theorem at8 : ∀ t : Fin grid0.N, win0_8.index t (0 : Fin 3) = t.val / 4 ∧ win0_8.index t (1 : Fin 3) = 0 ∧ win0_8.index t (2 : Fin 3) = t.val % 4 := by
  decide +kernel
theorem at9 : ∀ t : Fin grid0.N, win0_9.index t (0 : Fin 3) = t.val / 4 ∧ win0_9.index t (1 : Fin 3) = t.val % 4 ∧ win0_9.index t (2 : Fin 3) = 0 := by
  decide +kernel
theorem at10 : ∀ t : Fin grid0.N, win0_10.index t (0 : Fin 3) = t.val / 4 ∧ win0_10.index t (1 : Fin 3) = 0 ∧ win0_10.index t (2 : Fin 3) = t.val % 4 := by
  decide +kernel
theorem at11 : ∀ t : Fin grid0.N, win0_11.index t (0 : Fin 3) = t.val / 4 ∧ win0_11.index t (1 : Fin 3) = 0 ∧ win0_11.index t (2 : Fin 3) = t.val % 4 := by
  decide +kernel
theorem at12 : ∀ t : Fin grid0.N, win0_12.index t (0 : Fin 3) = t.val / 4 ∧ win0_12.index t (1 : Fin 3) = 0 ∧ win0_12.index t (2 : Fin 3) = t.val % 4 := by
  decide +kernel
theorem at13 : ∀ t : Fin grid0.N, win0_13.index t (0 : Fin 3) = t.val / 4 ∧ win0_13.index t (1 : Fin 3) = 0 ∧ win0_13.index t (2 : Fin 3) = t.val % 4 := by
  decide +kernel
theorem at14 : ∀ t : Fin grid0.N, win0_14.index t (0 : Fin 3) = t.val / 4 ∧ win0_14.index t (1 : Fin 3) = 0 ∧ win0_14.index t (2 : Fin 3) = t.val % 4 := by
  decide +kernel
theorem at15 : ∀ t : Fin grid0.N, win0_15.index t (0 : Fin 3) = t.val / 4 ∧ win0_15.index t (1 : Fin 3) = 0 ∧ win0_15.index t (2 : Fin 3) = t.val % 4 := by
  decide +kernel

theorem emb0 (t : Fin grid0.N) (p : Fin 1) (q : Fin 512) (r : Fin 2304) :
    ((cfg0.win 0).blk t).view.emb (ix3 p q r) = ix3 (bat t) (tok t q) r := by
  obtain ⟨e0, e1, e2⟩ := at0 t
  funext a; apply Fin.ext
  match a with
  | ⟨0, _⟩ => show win0_0.index t (0 : Fin 3) * 1 + 1 * p.val = t.val / 4; omega
  | ⟨1, _⟩ => show win0_0.index t (1 : Fin 3) * 512 + 1 * q.val = t.val % 4 * 512 + q.val; omega
  | ⟨2, _⟩ => show win0_0.index t (2 : Fin 3) * 2304 + 1 * r.val = r.val; omega

theorem emb1 (t : Fin grid0.N) (p : Fin 1) (q : Fin 2304) :
    ((cfg0.win 1).blk t).view.emb (ix2 p q) = ix2 (0 : Fin 1) q := by
  obtain ⟨e0, e1⟩ := at1 t
  funext a; apply Fin.ext
  match a with
  | ⟨0, _⟩ => show win0_1.index t (0 : Fin 2) * 1 + 1 * p.val = 0; omega
  | ⟨1, _⟩ => show win0_1.index t (1 : Fin 2) * 2304 + 1 * q.val = q.val; omega

theorem emb2 (t : Fin grid0.N) (p : Fin 1) (q : Fin 1) (r : Fin 2304) :
    ((cfg0.win 2).blk t).view.emb (ix3 p q r) = ix3 (bat t) (0 : Fin 1) r := by
  obtain ⟨e0, e1, e2⟩ := at2 t
  funext a; apply Fin.ext
  match a with
  | ⟨0, _⟩ => show win0_2.index t (0 : Fin 3) * 1 + 1 * p.val = t.val / 4; omega
  | ⟨1, _⟩ => show win0_2.index t (1 : Fin 3) * 1 + 1 * q.val = 0; omega
  | ⟨2, _⟩ => show win0_2.index t (2 : Fin 3) * 2304 + 1 * r.val = r.val; omega

theorem emb3 (t : Fin grid0.N) (p : Fin 3840) (q : Fin 2304) :
    ((cfg0.win 3).blk t).view.emb (ix2 p q) = ix2 p q := by
  obtain ⟨e0, e1⟩ := at3 t
  funext a; apply Fin.ext
  match a with
  | ⟨0, _⟩ => show win0_3.index t (0 : Fin 2) * 3840 + 1 * p.val = p.val; omega
  | ⟨1, _⟩ => show win0_3.index t (1 : Fin 2) * 2304 + 1 * q.val = q.val; omega

theorem emb4 (t : Fin grid0.N) (p : Fin 3840) (q : Fin 128) :
    ((cfg0.win 4).blk t).view.emb (ix2 p q) = ix2 p q := by
  obtain ⟨e0, e1⟩ := at4 t
  funext a; apply Fin.ext
  match a with
  | ⟨0, _⟩ => show win0_4.index t (0 : Fin 2) * 3840 + 1 * p.val = p.val; omega
  | ⟨1, _⟩ => show win0_4.index t (1 : Fin 2) * 128 + 1 * q.val = q.val; omega

theorem emb5 (t : Fin grid0.N) (p : Fin 96) (q : Fin 128) :
    ((cfg0.win 5).blk t).view.emb (ix2 p q) = ix2 p q := by
  obtain ⟨e0, e1⟩ := at5 t
  funext a; apply Fin.ext
  match a with
  | ⟨0, _⟩ => show win0_5.index t (0 : Fin 2) * 96 + 1 * p.val = p.val; omega
  | ⟨1, _⟩ => show win0_5.index t (1 : Fin 2) * 128 + 1 * q.val = q.val; omega

theorem emb6 (t : Fin grid0.N) (p : Fin 96) (q : Fin 128) :
    ((cfg0.win 6).blk t).view.emb (ix2 p q) = ix2 p q := by
  obtain ⟨e0, e1⟩ := at6 t
  funext a; apply Fin.ext
  match a with
  | ⟨0, _⟩ => show win0_6.index t (0 : Fin 2) * 96 + 1 * p.val = p.val; omega
  | ⟨1, _⟩ => show win0_6.index t (1 : Fin 2) * 128 + 1 * q.val = q.val; omega

theorem emb7 (t : Fin grid0.N) (p : Fin 1) (q : Fin 48) (r : Fin 512) :
    ((cfg0.win 7).blk t).view.emb (ix3 p q r) = ix3 (bat t) q (tok t r) := by
  obtain ⟨e0, e1, e2⟩ := at7 t
  funext a; apply Fin.ext
  match a with
  | ⟨0, _⟩ => show win0_7.index t (0 : Fin 3) * 1 + 1 * p.val = t.val / 4; omega
  | ⟨1, _⟩ => show win0_7.index t (1 : Fin 3) * 48 + 1 * q.val = q.val; omega
  | ⟨2, _⟩ => show win0_7.index t (2 : Fin 3) * 512 + 1 * r.val = t.val % 4 * 512 + r.val; omega

theorem emb8 (t : Fin grid0.N) (p : Fin 1) (q : Fin 48) (r : Fin 512) :
    ((cfg0.win 8).blk t).view.emb (ix3 p q r) = ix3 (bat t) q (tok t r) := by
  obtain ⟨e0, e1, e2⟩ := at8 t
  funext a; apply Fin.ext
  match a with
  | ⟨0, _⟩ => show win0_8.index t (0 : Fin 3) * 1 + 1 * p.val = t.val / 4; omega
  | ⟨1, _⟩ => show win0_8.index t (1 : Fin 3) * 48 + 1 * q.val = q.val; omega
  | ⟨2, _⟩ => show win0_8.index t (2 : Fin 3) * 512 + 1 * r.val = t.val % 4 * 512 + r.val; omega

theorem emb9 (t : Fin grid0.N) (p : Fin 1) (q : Fin 512) (r : Fin 2304) :
    ((cfg0.win 9).blk t).view.emb (ix3 p q r) = ix3 (bat t) (tok t q) r := by
  obtain ⟨e0, e1, e2⟩ := at9 t
  funext a; apply Fin.ext
  match a with
  | ⟨0, _⟩ => show win0_9.index t (0 : Fin 3) * 1 + 1 * p.val = t.val / 4; omega
  | ⟨1, _⟩ => show win0_9.index t (1 : Fin 3) * 512 + 1 * q.val = t.val % 4 * 512 + q.val; omega
  | ⟨2, _⟩ => show win0_9.index t (2 : Fin 3) * 2304 + 1 * r.val = r.val; omega

theorem emb10 (t : Fin grid0.N) (p : Fin 1) (q : Fin 1) (r : Fin 512) :
    ((cfg0.win 10).blk t).view.emb (ix3 p q r) = ix3 (bat t) (0 : Fin 1) (tok t r) := by
  obtain ⟨e0, e1, e2⟩ := at10 t
  funext a; apply Fin.ext
  match a with
  | ⟨0, _⟩ => show win0_10.index t (0 : Fin 3) * 1 + 1 * p.val = t.val / 4; omega
  | ⟨1, _⟩ => show win0_10.index t (1 : Fin 3) * 1 + 1 * q.val = 0; omega
  | ⟨2, _⟩ => show win0_10.index t (2 : Fin 3) * 512 + 1 * r.val = t.val % 4 * 512 + r.val; omega

theorem emb11 (t : Fin grid0.N) (p : Fin 1) (q : Fin 2304) (r : Fin 512) :
    ((cfg0.win 11).blk t).view.emb (ix3 p q r) = ix3 (bat t) q (tok t r) := by
  obtain ⟨e0, e1, e2⟩ := at11 t
  funext a; apply Fin.ext
  match a with
  | ⟨0, _⟩ => show win0_11.index t (0 : Fin 3) * 1 + 1 * p.val = t.val / 4; omega
  | ⟨1, _⟩ => show win0_11.index t (1 : Fin 3) * 2304 + 1 * q.val = q.val; omega
  | ⟨2, _⟩ => show win0_11.index t (2 : Fin 3) * 512 + 1 * r.val = t.val % 4 * 512 + r.val; omega

theorem emb12 (t : Fin grid0.N) (p : Fin 1) (q : Fin 768) (r : Fin 512) :
    ((cfg0.win 12).blk t).view.emb (ix3 p q r) = ix3 (bat t) q (tok t r) := by
  obtain ⟨e0, e1, e2⟩ := at12 t
  funext a; apply Fin.ext
  match a with
  | ⟨0, _⟩ => show win0_12.index t (0 : Fin 3) * 1 + 1 * p.val = t.val / 4; omega
  | ⟨1, _⟩ => show win0_12.index t (1 : Fin 3) * 768 + 1 * q.val = q.val; omega
  | ⟨2, _⟩ => show win0_12.index t (2 : Fin 3) * 512 + 1 * r.val = t.val % 4 * 512 + r.val; omega

theorem emb13 (t : Fin grid0.N) (p : Fin 1) (q : Fin 8) (r : Fin 512) :
    ((cfg0.win 13).blk t).view.emb (ix3 p q r) = ix3 (bat t) q (tok t r) := by
  obtain ⟨e0, e1, e2⟩ := at13 t
  funext a; apply Fin.ext
  match a with
  | ⟨0, _⟩ => show win0_13.index t (0 : Fin 3) * 1 + 1 * p.val = t.val / 4; omega
  | ⟨1, _⟩ => show win0_13.index t (1 : Fin 3) * 8 + 1 * q.val = q.val; omega
  | ⟨2, _⟩ => show win0_13.index t (2 : Fin 3) * 512 + 1 * r.val = t.val % 4 * 512 + r.val; omega

theorem emb14 (t : Fin grid0.N) (p : Fin 1) (q : Fin 768) (r : Fin 512) :
    ((cfg0.win 14).blk t).view.emb (ix3 p q r) = ix3 (bat t) q (tok t r) := by
  obtain ⟨e0, e1, e2⟩ := at14 t
  funext a; apply Fin.ext
  match a with
  | ⟨0, _⟩ => show win0_14.index t (0 : Fin 3) * 1 + 1 * p.val = t.val / 4; omega
  | ⟨1, _⟩ => show win0_14.index t (1 : Fin 3) * 768 + 1 * q.val = q.val; omega
  | ⟨2, _⟩ => show win0_14.index t (2 : Fin 3) * 512 + 1 * r.val = t.val % 4 * 512 + r.val; omega

theorem emb15 (t : Fin grid0.N) (p : Fin 1) (q : Fin 8) (r : Fin 512) :
    ((cfg0.win 15).blk t).view.emb (ix3 p q r) = ix3 (bat t) q (tok t r) := by
  obtain ⟨e0, e1, e2⟩ := at15 t
  funext a; apply Fin.ext
  match a with
  | ⟨0, _⟩ => show win0_15.index t (0 : Fin 3) * 1 + 1 * p.val = t.val / 4; omega
  | ⟨1, _⟩ => show win0_15.index t (1 : Fin 3) * 8 + 1 * q.val = q.val; omega
  | ⟨2, _⟩ => show win0_15.index t (2 : Fin 3) * 512 + 1 * r.val = t.val % 4 * 512 + r.val; omega

theorem row_apply (v : Vec Ideal S2304 .f32) (h : S2304.ShapeCasts S1x2304) (j : Fin 2304) :
    shapeCast S1x2304 v h (ix2 (0 : Fin 1) j) = v (ix1 j) := by
  pointwise

theorem mid_apply (v : Vec Ideal S6x2304 .f32) (h : S6x2304.ShapeCasts S6x1x2304) (b : Fin 6) (j : Fin 2304) :
    shapeCast S6x1x2304 v h (ix3 b (0 : Fin 1) j) = v (ix2 b j) := by
  pointwise

theorem tr_apply (v : FVec Ideal S2304x3840 .fp8e4m3) (j : Fin 3840) (k : Fin 2304) :
    transpose S3840x2304 [1, 0] v transposes_S2304x3840_S3840x2304_1_0 (ix2 j k) = v (ix2 k j) := by
  pointwise

theorem col_apply (v : FVec Ideal S3840 .f32) (j : Fin 3840) (l : Fin 128) :
    broadcastInDim S3840x128 ![0, 1] bcast_S3840x1_S3840x128_0_1 (broadcastInDim S3840x1 ![0] bcast_S3840_S3840x1_0 v) (ix2 j l) = v (ix1 j) := by
  pointwise

theorem gain_apply (v : FVec Ideal S96 .f32) (j : Fin 96) (l : Fin 128) :
    broadcastInDim S96x128 ![0, 1] bcast_S96x1_S96x128_0_1 (broadcastInDim S96x1 ![0] bcast_S96_S96x1_0 v) (ix2 j l) = v (ix1 j) := by
  pointwise

/-! The nine arguments as launched. -/

abbrev A0 : Vec Ideal S6x2048x2304 .bf16 := m ((c : Thread nD τ).loc main_arg0)
abbrev A1 : Vec Ideal S2304 .f32 := m ((c : Thread nD τ).loc main_arg1)
abbrev A2 : Vec Ideal S6x2304 .f32 := m ((c : Thread nD τ).loc main_arg2)
abbrev A3 : Vec Ideal S2304x3840 .fp8e4m3 := m ((c : Thread nD τ).loc main_arg3)
abbrev A4 : Vec Ideal S3840 .f32 := m ((c : Thread nD τ).loc main_arg4)
abbrev A5 : Vec Ideal S96 .f32 := m ((c : Thread nD τ).loc main_arg5)
abbrev A6 : Vec Ideal S96 .f32 := m ((c : Thread nD τ).loc main_arg6)
abbrev A7 : Vec Ideal S6x48x2048 .f32 := m ((c : Thread nD τ).loc main_arg7)
abbrev A8 : Vec Ideal S6x48x2048 .f32 := m ((c : Thread nD τ).loc main_arg8)

theorem iblk0 (t : Fin grid0.N) (p : Fin 1) (q : Fin 512) (r : Fin 2304) :
    iblk m c 0 t (ix3 p q r) = A0 m c (ix3 (bat t) (tok t q) r) := by
  show V m c main_arg0 (((cfg0.win 0).blk t).view.emb (ix3 p q r)) = _
  rw [emb0, V_main_arg0]

theorem iblk1 (t : Fin grid0.N) (p : Fin 1) (q : Fin 2304) :
    iblk m c 1 t (ix2 p q) = A1 m c (ix1 q) := by
  show V m c main_v0 (((cfg0.win 1).blk t).view.emb (ix2 p q)) = _
  rw [emb1, V_main_v0]
  exact row_apply _ _ q

theorem iblk2 (t : Fin grid0.N) (p : Fin 1) (q : Fin 1) (r : Fin 2304) :
    iblk m c 2 t (ix3 p q r) = A2 m c (ix2 (bat t) r) := by
  show V m c main_v1 (((cfg0.win 2).blk t).view.emb (ix3 p q r)) = _
  rw [emb2, V_main_v1]
  exact mid_apply _ _ _ r

theorem iblk3 (t : Fin grid0.N) (p : Fin 3840) (q : Fin 2304) :
    iblk m c 3 t (ix2 p q) = A3 m c (ix2 q p) := by
  show V m c main_v2 (((cfg0.win 3).blk t).view.emb (ix2 p q)) = _
  rw [emb3, V_main_v2]
  exact tr_apply _ _ _

theorem iblk4 (t : Fin grid0.N) (p : Fin 3840) (q : Fin 128) :
    iblk m c 4 t (ix2 p q) = A4 m c (ix1 p) := by
  show V m c main_v4 (((cfg0.win 4).blk t).view.emb (ix2 p q)) = _
  rw [emb4, V_main_v4]
  exact col_apply _ _ _

theorem iblk5 (t : Fin grid0.N) (p : Fin 96) (q : Fin 128) :
    iblk m c 5 t (ix2 p q) = A5 m c (ix1 p) := by
  show V m c main_v6 (((cfg0.win 5).blk t).view.emb (ix2 p q)) = _
  rw [emb5, V_main_v6]
  exact gain_apply _ _ _

theorem iblk6 (t : Fin grid0.N) (p : Fin 96) (q : Fin 128) :
    iblk m c 6 t (ix2 p q) = A6 m c (ix1 p) := by
  show V m c main_v8 (((cfg0.win 6).blk t).view.emb (ix2 p q)) = _
  rw [emb6, V_main_v8]
  exact gain_apply _ _ _

theorem iblk7 (t : Fin grid0.N) (p : Fin 1) (q : Fin 48) (r : Fin 512) :
    iblk m c 7 t (ix3 p q r) = A7 m c (ix3 (bat t) q (tok t r)) := by
  show V m c main_arg7 (((cfg0.win 7).blk t).view.emb (ix3 p q r)) = _
  rw [emb7, V_main_arg7]

theorem iblk8 (t : Fin grid0.N) (p : Fin 1) (q : Fin 48) (r : Fin 512) :
    iblk m c 8 t (ix3 p q r) = A8 m c (ix3 (bat t) q (tok t r)) := by
  show V m c main_arg8 (((cfg0.win 8).blk t).view.emb (ix3 p q r)) = _
  rw [emb8, V_main_arg8]

section
variable {x0 : Vec Ideal S1x512x2304 .bf16} {x1 : Vec Ideal S1x2304 .f32} {x2 : Vec Ideal S1x1x2304 .f32} {x3 : Vec Ideal S3840x2304 .fp8e4m3} {x4 : Vec Ideal S3840x128 .f32} {x5 : Vec Ideal S96x128 .f32} {x6 : Vec Ideal S96x128 .f32} {x7 : Vec Ideal S1x48x512 .f32} {x8 : Vec Ideal S1x48x512 .f32}
  {a0 : Vec Ideal S6x2048x2304 .bf16} {a1 : Vec Ideal S2304 .f32} {a2 : Vec Ideal S6x2304 .f32} {a3 : Vec Ideal S2304x3840 .fp8e4m3} {a4 : Vec Ideal S3840 .f32} {a5 : Vec Ideal S96 .f32} {a6 : Vec Ideal S96 .f32} {a7 : Vec Ideal S6x48x2048 .f32} {a8 : Vec Ideal S6x48x2048 .f32}
  {b : Fin 6} {f : Fin 512 → Fin 2048} (h0 : ∀ n j, x0 (ix3 (0 : Fin 1) n j) = a0 (ix3 b (f n) j))
  (h1 : ∀ j, x1 (ix2 (0 : Fin 1) j) = a1 (ix1 j)) (h2 : ∀ j, x2 (ix3 (0 : Fin 1) (0 : Fin 1) j) = a2 (ix2 b j))
  (h3 : ∀ j k, x3 (ix2 j k) = a3 (ix2 k j)) (h4 : ∀ j l, x4 (ix2 j l) = a4 (ix1 j))
  (h5 : ∀ d l, x5 (ix2 d l) = a5 (ix1 d)) (h6 : ∀ d l, x6 (ix2 d l) = a6 (ix1 d))
  (h7 : ∀ i n, x7 (ix3 (0 : Fin 1) i n) = a7 (ix3 b i (f n))) (h8 : ∀ i n, x8 (ix3 (0 : Fin 1) i n) = a8 (ix3 b i (f n)))
include h0 h1 h2

/-- A block that reads the arrays at a batch and a run of tokens has their normed rows. -/
theorem bx_of (n : Fin 512) : bx x0 x1 x2 n = Cert.QkvRefIdeal.Gen.rx a0 a1 a2 b (f n) := by
  unfold bx Cert.QkvRefIdeal.Gen.rx
  simp only [h0, h1, h2]

include h3 h4

theorem kV_of (n : Fin 512) : kV x0 x1 x2 x3 x4 n = Cert.QkvRefIdeal.Gen.rV a0 a1 a2 a3 a4 b (f n) := by
  have e3 : kW x3 = Cert.QkvRefIdeal.Gen.rW a3 := by
    funext k j; exact h3 j k
  have e4 : kS x4 n = Cert.QkvRefIdeal.Gen.rS a4 := by
    funext j; exact h4 j _
  unfold kV Cert.QkvRefIdeal.Gen.rV
  rw [bx_of h0 h1 h2, e3, e4]

include h5 h7 h8

theorem kR_of (n : Fin 512) : kR x0 x1 x2 x3 x4 x5 x7 x8 n = Cert.QkvRefIdeal.Gen.rR a0 a1 a2 a3 a4 a5 a7 a8 b (f n) := by
  have e3 : kW x3 = Cert.QkvRefIdeal.Gen.rW a3 := by
    funext k j; exact h3 j k
  have e4 : kS x4 n = Cert.QkvRefIdeal.Gen.rS a4 := by
    funext j; exact h4 j _
  have e5 : kG x5 n = Cert.QkvRefIdeal.Gen.rG a5 := by
    funext d; exact h5 d _
  have e7 : kA x7 n = Cert.QkvRefIdeal.Gen.rA a7 b (f n) := by
    funext i; exact h7 i n
  have e8 : kA x8 n = Cert.QkvRefIdeal.Gen.rA a8 b (f n) := by
    funext i; exact h8 i n
  unfold kR Cert.QkvRefIdeal.Gen.rR
  rw [bx_of h0 h1 h2, e3, e4, e5, e7, e8]

include h6

theorem block9_of (i : Fin 1) (n : Fin 512) (j : Fin 2304) : ob9 x0 x1 x2 (ix3 i n j) = Cert.QkvRefIdeal.Value.G9 a0 a1 a2 a3 a4 a5 a6 a7 a8 (ix3 b (f n) j) := by
  rw [ob9_apply, bx_of h0 h1 h2]
  exact (Cert.QkvRefIdeal.Gen.G9_apply a0 a1 a2 a3 a4 a5 a6 a7 a8 _ _ _).symm

theorem block10_of (i : Fin 1) (n : Fin 1) (j : Fin 512) : ob10 x0 x1 x2 (ix3 i n j) = Cert.QkvRefIdeal.Value.G10 a0 a1 a2 a3 a4 a5 a6 a7 a8 (ix3 b (0 : Fin 1) (f j)) := by
  rw [ob10_apply, bx_of h0 h1 h2]
  exact (Cert.QkvRefIdeal.Gen.G10_apply a0 a1 a2 a3 a4 a5 a6 a7 a8 _ _ _).symm

theorem block11_of (i : Fin 1) (n : Fin 2304) (j : Fin 512) : ob11 x0 x1 x2 x3 x4 x5 x7 x8 (ix3 i n j) = Cert.QkvRefIdeal.Value.G11 a0 a1 a2 a3 a4 a5 a6 a7 a8 (ix3 b n (f j)) := by
  rw [ob11_apply, kR_of h0 h1 h2 h3 h4 h5 h7 h8]
  exact (Cert.QkvRefIdeal.Gen.G11_apply a0 a1 a2 a3 a4 a5 a6 a7 a8 _ _ _).symm

theorem block12_of (i : Fin 1) (n : Fin 768) (j : Fin 512) : ob12 x0 x1 x2 x3 x4 x6 x7 x8 (ix3 i n j) = Cert.QkvRefIdeal.Value.G12 a0 a1 a2 a3 a4 a5 a6 a7 a8 (ix3 b n (f j)) := by
  rw [ob12_apply, kR_of h0 h1 h2 h3 h4 h6 h7 h8]
  exact (Cert.QkvRefIdeal.Gen.G12_apply a0 a1 a2 a3 a4 a5 a6 a7 a8 _ _ _).symm

theorem block13_of (i : Fin 1) (n : Fin 8) (j : Fin 512) : ob13 x0 x1 x2 x3 x4 x6 x7 x8 (ix3 i n j) = Cert.QkvRefIdeal.Value.G13 a0 a1 a2 a3 a4 a5 a6 a7 a8 (ix3 b n (f j)) := by
  rw [ob13_apply, kR_of h0 h1 h2 h3 h4 h6 h7 h8]
  exact (Cert.QkvRefIdeal.Gen.G13_apply a0 a1 a2 a3 a4 a5 a6 a7 a8 _ _ _).symm

theorem block14_of (i : Fin 1) (n : Fin 768) (j : Fin 512) : ob14 x0 x1 x2 x3 x4 (ix3 i n j) = Cert.QkvRefIdeal.Value.G14 a0 a1 a2 a3 a4 a5 a6 a7 a8 (ix3 b n (f j)) := by
  rw [ob14_apply, kV_of h0 h1 h2 h3 h4]
  exact (Cert.QkvRefIdeal.Gen.G14_apply a0 a1 a2 a3 a4 a5 a6 a7 a8 _ _ _).symm

theorem block15_of (i : Fin 1) (n : Fin 8) (j : Fin 512) : ob15 x0 x1 x2 x3 x4 (ix3 i n j) = Cert.QkvRefIdeal.Value.G15 a0 a1 a2 a3 a4 a5 a6 a7 a8 (ix3 b n (f j)) := by
  rw [ob15_apply, kV_of h0 h1 h2 h3 h4]
  exact (Cert.QkvRefIdeal.Gen.G15_apply a0 a1 a2 a3 a4 a5 a6 a7 a8 _ _ _).symm

end

/-- An index of a rank-three array is its three coordinates. -/
theorem eta3 {p q r : ℕ} (y : (⟨3, ![p, q, r]⟩ : Shape).Idx) : ∃ (i : Fin p) (n : Fin q) (j : Fin r), y = ix3 i n j :=
  ⟨y 0, y 1, y 2, by
    funext a
    match a with
    | ⟨0, _⟩ => rfl
    | ⟨1, _⟩ => rfl
    | ⟨2, _⟩ => rfl⟩

/-! A block whose entries are an array's at the point's batch and tokens is the array's block. -/

theorem block9 (t : Fin grid0.N) (X : Vec Ideal S1x512x2304 .fp8e4m3) (G : Vec Ideal S6x2048x2304 .fp8e4m3)
    (h : ∀ (i : Fin 1) (n : Fin 512) (j : Fin 2304), X (ix3 i n j) = G (ix3 (bat t) (tok t n) j)) :
    (cfg0.win 9).cut (grid0.coords t) X = ((cfg0.win 9).blk t).view.read (Elt Ideal) G := by
  funext y
  show X y = G (((cfg0.win 9).blk t).view.emb y)
  obtain ⟨i, n, j, rfl⟩ := eta3 y
  rw [emb9]
  exact h i n j

theorem block10 (t : Fin grid0.N) (X : Vec Ideal S1x1x512 .f32) (G : Vec Ideal S6x1x2048 .f32)
    (h : ∀ (i : Fin 1) (n : Fin 1) (j : Fin 512), X (ix3 i n j) = G (ix3 (bat t) (0 : Fin 1) (tok t j))) :
    (cfg0.win 10).cut (grid0.coords t) X = ((cfg0.win 10).blk t).view.read (Elt Ideal) G := by
  funext y
  show X y = G (((cfg0.win 10).blk t).view.emb y)
  obtain ⟨i, n, j, rfl⟩ := eta3 y
  rw [emb10]
  exact h i n j

theorem block11 (t : Fin grid0.N) (X : Vec Ideal S1x2304x512 .bf16) (G : Vec Ideal S6x2304x2048 .bf16)
    (h : ∀ (i : Fin 1) (n : Fin 2304) (j : Fin 512), X (ix3 i n j) = G (ix3 (bat t) n (tok t j))) :
    (cfg0.win 11).cut (grid0.coords t) X = ((cfg0.win 11).blk t).view.read (Elt Ideal) G := by
  funext y
  show X y = G (((cfg0.win 11).blk t).view.emb y)
  obtain ⟨i, n, j, rfl⟩ := eta3 y
  rw [emb11]
  exact h i n j

theorem block12 (t : Fin grid0.N) (X : Vec Ideal S1x768x512 .fp8e4m3) (G : Vec Ideal S6x768x2048 .fp8e4m3)
    (h : ∀ (i : Fin 1) (n : Fin 768) (j : Fin 512), X (ix3 i n j) = G (ix3 (bat t) n (tok t j))) :
    (cfg0.win 12).cut (grid0.coords t) X = ((cfg0.win 12).blk t).view.read (Elt Ideal) G := by
  funext y
  show X y = G (((cfg0.win 12).blk t).view.emb y)
  obtain ⟨i, n, j, rfl⟩ := eta3 y
  rw [emb12]
  exact h i n j

theorem block13 (t : Fin grid0.N) (X : Vec Ideal S1x8x512 .f32) (G : Vec Ideal S6x8x2048 .f32)
    (h : ∀ (i : Fin 1) (n : Fin 8) (j : Fin 512), X (ix3 i n j) = G (ix3 (bat t) n (tok t j))) :
    (cfg0.win 13).cut (grid0.coords t) X = ((cfg0.win 13).blk t).view.read (Elt Ideal) G := by
  funext y
  show X y = G (((cfg0.win 13).blk t).view.emb y)
  obtain ⟨i, n, j, rfl⟩ := eta3 y
  rw [emb13]
  exact h i n j

theorem block14 (t : Fin grid0.N) (X : Vec Ideal S1x768x512 .fp8e4m3) (G : Vec Ideal S6x768x2048 .fp8e4m3)
    (h : ∀ (i : Fin 1) (n : Fin 768) (j : Fin 512), X (ix3 i n j) = G (ix3 (bat t) n (tok t j))) :
    (cfg0.win 14).cut (grid0.coords t) X = ((cfg0.win 14).blk t).view.read (Elt Ideal) G := by
  funext y
  show X y = G (((cfg0.win 14).blk t).view.emb y)
  obtain ⟨i, n, j, rfl⟩ := eta3 y
  rw [emb14]
  exact h i n j

theorem block15 (t : Fin grid0.N) (X : Vec Ideal S1x8x512 .f32) (G : Vec Ideal S6x8x2048 .f32)
    (h : ∀ (i : Fin 1) (n : Fin 8) (j : Fin 512), X (ix3 i n j) = G (ix3 (bat t) n (tok t j))) :
    (cfg0.win 15).cut (grid0.coords t) X = ((cfg0.win 15).blk t).view.read (Elt Ideal) G := by
  funext y
  show X y = G (((cfg0.win 15).blk t).view.emb y)
  obtain ⟨i, n, j, rfl⟩ := eta3 y
  rw [emb15]
  exact h i n j

/-! The seven arrays of the reference, at the kernel's arguments. -/

noncomputable def R9 : Vec Ideal S6x2048x2304 .fp8e4m3 := Cert.QkvRefIdeal.Value.G9 (A0 m c) (A1 m c) (A2 m c) (A3 m c) (A4 m c) (A5 m c) (A6 m c) (A7 m c) (A8 m c)
noncomputable def R10 : Vec Ideal S6x1x2048 .f32 := Cert.QkvRefIdeal.Value.G10 (A0 m c) (A1 m c) (A2 m c) (A3 m c) (A4 m c) (A5 m c) (A6 m c) (A7 m c) (A8 m c)
noncomputable def R11 : Vec Ideal S6x2304x2048 .bf16 := Cert.QkvRefIdeal.Value.G11 (A0 m c) (A1 m c) (A2 m c) (A3 m c) (A4 m c) (A5 m c) (A6 m c) (A7 m c) (A8 m c)
noncomputable def R12 : Vec Ideal S6x768x2048 .fp8e4m3 := Cert.QkvRefIdeal.Value.G12 (A0 m c) (A1 m c) (A2 m c) (A3 m c) (A4 m c) (A5 m c) (A6 m c) (A7 m c) (A8 m c)
noncomputable def R13 : Vec Ideal S6x8x2048 .f32 := Cert.QkvRefIdeal.Value.G13 (A0 m c) (A1 m c) (A2 m c) (A3 m c) (A4 m c) (A5 m c) (A6 m c) (A7 m c) (A8 m c)
noncomputable def R14 : Vec Ideal S6x768x2048 .fp8e4m3 := Cert.QkvRefIdeal.Value.G14 (A0 m c) (A1 m c) (A2 m c) (A3 m c) (A4 m c) (A5 m c) (A6 m c) (A7 m c) (A8 m c)
noncomputable def R15 : Vec Ideal S6x8x2048 .f32 := Cert.QkvRefIdeal.Value.G15 (A0 m c) (A1 m c) (A2 m c) (A3 m c) (A4 m c) (A5 m c) (A6 m c) (A7 m c) (A8 m c)

theorem block9_eq (t : Fin grid0.N) (i : Fin 1) (n : Fin 512) (j : Fin 2304) :
    ob9 (iblk m c 0 t) (iblk m c 1 t) (iblk m c 2 t) (ix3 i n j)
      = R9 m c (ix3 (bat t) (tok t n) j) := by
  unfold R9
  exact block9_of (iblk0 m c t 0) (iblk1 m c t 0) (iblk2 m c t 0 0) (iblk3 m c t) (iblk4 m c t) (iblk5 m c t) (iblk6 m c t) (iblk7 m c t 0) (iblk8 m c t 0) i n j

theorem flushed9_eq (t : Fin cfg0.N) :
    (dats m 0 c).flushed 9 t = ((cfg0.win 9).blk t).view.read (Elt Ideal) (R9 m c) :=
  (Cert.QkvIdeal.Value.flushed9 m c t).trans
    ((congrArg ((cfg0.win 9).cut (grid0.coords t)) (out9_read m c t)).trans (block9 t _ _ (block9_eq m c t)))

theorem block10_eq (t : Fin grid0.N) (i : Fin 1) (n : Fin 1) (j : Fin 512) :
    ob10 (iblk m c 0 t) (iblk m c 1 t) (iblk m c 2 t) (ix3 i n j)
      = R10 m c (ix3 (bat t) (0 : Fin 1) (tok t j)) := by
  unfold R10
  exact block10_of (iblk0 m c t 0) (iblk1 m c t 0) (iblk2 m c t 0 0) (iblk3 m c t) (iblk4 m c t) (iblk5 m c t) (iblk6 m c t) (iblk7 m c t 0) (iblk8 m c t 0) i n j

theorem flushed10_eq (t : Fin cfg0.N) :
    (dats m 0 c).flushed 10 t = ((cfg0.win 10).blk t).view.read (Elt Ideal) (R10 m c) :=
  (Cert.QkvIdeal.Value.flushed10 m c t).trans
    ((congrArg ((cfg0.win 10).cut (grid0.coords t)) (out10_read m c t)).trans (block10 t _ _ (block10_eq m c t)))

theorem block11_eq (t : Fin grid0.N) (i : Fin 1) (n : Fin 2304) (j : Fin 512) :
    ob11 (iblk m c 0 t) (iblk m c 1 t) (iblk m c 2 t) (iblk m c 3 t) (iblk m c 4 t) (iblk m c 5 t) (iblk m c 7 t) (iblk m c 8 t) (ix3 i n j)
      = R11 m c (ix3 (bat t) n (tok t j)) := by
  unfold R11
  exact block11_of (iblk0 m c t 0) (iblk1 m c t 0) (iblk2 m c t 0 0) (iblk3 m c t) (iblk4 m c t) (iblk5 m c t) (iblk6 m c t) (iblk7 m c t 0) (iblk8 m c t 0) i n j

theorem flushed11_eq (t : Fin cfg0.N) :
    (dats m 0 c).flushed 11 t = ((cfg0.win 11).blk t).view.read (Elt Ideal) (R11 m c) :=
  (Cert.QkvIdeal.Value.flushed11 m c t).trans
    ((congrArg ((cfg0.win 11).cut (grid0.coords t)) (out11_read m c t)).trans (block11 t _ _ (block11_eq m c t)))

theorem block12_eq (t : Fin grid0.N) (i : Fin 1) (n : Fin 768) (j : Fin 512) :
    ob12 (iblk m c 0 t) (iblk m c 1 t) (iblk m c 2 t) (iblk m c 3 t) (iblk m c 4 t) (iblk m c 6 t) (iblk m c 7 t) (iblk m c 8 t) (ix3 i n j)
      = R12 m c (ix3 (bat t) n (tok t j)) := by
  unfold R12
  exact block12_of (iblk0 m c t 0) (iblk1 m c t 0) (iblk2 m c t 0 0) (iblk3 m c t) (iblk4 m c t) (iblk5 m c t) (iblk6 m c t) (iblk7 m c t 0) (iblk8 m c t 0) i n j

theorem flushed12_eq (t : Fin cfg0.N) :
    (dats m 0 c).flushed 12 t = ((cfg0.win 12).blk t).view.read (Elt Ideal) (R12 m c) :=
  (Cert.QkvIdeal.Value.flushed12 m c t).trans
    ((congrArg ((cfg0.win 12).cut (grid0.coords t)) (out12_read m c t)).trans (block12 t _ _ (block12_eq m c t)))

theorem block13_eq (t : Fin grid0.N) (i : Fin 1) (n : Fin 8) (j : Fin 512) :
    ob13 (iblk m c 0 t) (iblk m c 1 t) (iblk m c 2 t) (iblk m c 3 t) (iblk m c 4 t) (iblk m c 6 t) (iblk m c 7 t) (iblk m c 8 t) (ix3 i n j)
      = R13 m c (ix3 (bat t) n (tok t j)) := by
  unfold R13
  exact block13_of (iblk0 m c t 0) (iblk1 m c t 0) (iblk2 m c t 0 0) (iblk3 m c t) (iblk4 m c t) (iblk5 m c t) (iblk6 m c t) (iblk7 m c t 0) (iblk8 m c t 0) i n j

theorem flushed13_eq (t : Fin cfg0.N) :
    (dats m 0 c).flushed 13 t = ((cfg0.win 13).blk t).view.read (Elt Ideal) (R13 m c) :=
  (Cert.QkvIdeal.Value.flushed13 m c t).trans
    ((congrArg ((cfg0.win 13).cut (grid0.coords t)) (out13_read m c t)).trans (block13 t _ _ (block13_eq m c t)))

theorem block14_eq (t : Fin grid0.N) (i : Fin 1) (n : Fin 768) (j : Fin 512) :
    ob14 (iblk m c 0 t) (iblk m c 1 t) (iblk m c 2 t) (iblk m c 3 t) (iblk m c 4 t) (ix3 i n j)
      = R14 m c (ix3 (bat t) n (tok t j)) := by
  unfold R14
  exact block14_of (iblk0 m c t 0) (iblk1 m c t 0) (iblk2 m c t 0 0) (iblk3 m c t) (iblk4 m c t) (iblk5 m c t) (iblk6 m c t) (iblk7 m c t 0) (iblk8 m c t 0) i n j

theorem flushed14_eq (t : Fin cfg0.N) :
    (dats m 0 c).flushed 14 t = ((cfg0.win 14).blk t).view.read (Elt Ideal) (R14 m c) :=
  (Cert.QkvIdeal.Value.flushed14 m c t).trans
    ((congrArg ((cfg0.win 14).cut (grid0.coords t)) (out14_read m c t)).trans (block14 t _ _ (block14_eq m c t)))

theorem block15_eq (t : Fin grid0.N) (i : Fin 1) (n : Fin 8) (j : Fin 512) :
    ob15 (iblk m c 0 t) (iblk m c 1 t) (iblk m c 2 t) (iblk m c 3 t) (iblk m c 4 t) (ix3 i n j)
      = R15 m c (ix3 (bat t) n (tok t j)) := by
  unfold R15
  exact block15_of (iblk0 m c t 0) (iblk1 m c t 0) (iblk2 m c t 0 0) (iblk3 m c t) (iblk4 m c t) (iblk5 m c t) (iblk6 m c t) (iblk7 m c t 0) (iblk8 m c t 0) i n j

theorem flushed15_eq (t : Fin cfg0.N) :
    (dats m 0 c).flushed 15 t = ((cfg0.win 15).blk t).view.read (Elt Ideal) (R15 m c) :=
  (Cert.QkvIdeal.Value.flushed15 m c t).trans
    ((congrArg ((cfg0.win 15).cut (grid0.coords t)) (out15_read m c t)).trans (block15 t _ _ (block15_eq m c t)))

/-- The grid point whose block holds a token. -/
def pnt (b : Fin 6) (n : Fin 2048) : Fin cfg0.N := ⟨4 * b.val + n.val / 512, by show _ < 24; omega⟩

theorem bat_pnt (b : Fin 6) (n : Fin 2048) : bat (pnt b n) = b := by
  apply Fin.ext; show (4 * b.val + n.val / 512) / 4 = b.val; omega

theorem tok_pnt (b : Fin 6) (n : Fin 2048) : tok (pnt b n) ⟨n.val % 512, by omega⟩ = n := by
  apply Fin.ext; show (4 * b.val + n.val / 512) % 4 * 512 + n.val % 512 = n.val; omega

theorem covered9 (i : S6x2048x2304.Idx) :
    ∃ t : Fin cfg0.N, (cfg0.win 9).flush t = true ∧ i ∈ ((cfg0.win 9).blk t).view.set := by
  obtain ⟨b, n, j, rfl⟩ := eta3 i
  refine ⟨pnt b n, flush0_9 _, ?_⟩
  have h := ((cfg0.win 9).blk (pnt b n)).view.emb_mem_set (ix3 (0 : Fin 1) (⟨n.val % 512, by omega⟩ : Fin 512) j)
  rwa [emb9, bat_pnt, tok_pnt] at h

theorem final9 : (dats m 0 c).arrAt 9 cfg0.N = R9 m c :=
  (dats m 0 c).arrAt_eq_of_cover 9 (R9 m c) (fun t _ => flushed9_eq m c t) covered9

theorem covered10 (i : S6x1x2048.Idx) :
    ∃ t : Fin cfg0.N, (cfg0.win 10).flush t = true ∧ i ∈ ((cfg0.win 10).blk t).view.set := by
  obtain ⟨b, n, j, rfl⟩ := eta3 i
  rw [Subsingleton.elim n (0 : Fin 1)]
  refine ⟨pnt b j, flush0_10 _, ?_⟩
  have h := ((cfg0.win 10).blk (pnt b j)).view.emb_mem_set (ix3 (0 : Fin 1) n (⟨j.val % 512, by omega⟩ : Fin 512))
  rwa [emb10, bat_pnt, tok_pnt] at h

theorem final10 : (dats m 0 c).arrAt 10 cfg0.N = R10 m c :=
  (dats m 0 c).arrAt_eq_of_cover 10 (R10 m c) (fun t _ => flushed10_eq m c t) covered10

theorem covered11 (i : S6x2304x2048.Idx) :
    ∃ t : Fin cfg0.N, (cfg0.win 11).flush t = true ∧ i ∈ ((cfg0.win 11).blk t).view.set := by
  obtain ⟨b, n, j, rfl⟩ := eta3 i
  refine ⟨pnt b j, flush0_11 _, ?_⟩
  have h := ((cfg0.win 11).blk (pnt b j)).view.emb_mem_set (ix3 (0 : Fin 1) n (⟨j.val % 512, by omega⟩ : Fin 512))
  rwa [emb11, bat_pnt, tok_pnt] at h

theorem final11 : (dats m 0 c).arrAt 11 cfg0.N = R11 m c :=
  (dats m 0 c).arrAt_eq_of_cover 11 (R11 m c) (fun t _ => flushed11_eq m c t) covered11

theorem covered12 (i : S6x768x2048.Idx) :
    ∃ t : Fin cfg0.N, (cfg0.win 12).flush t = true ∧ i ∈ ((cfg0.win 12).blk t).view.set := by
  obtain ⟨b, n, j, rfl⟩ := eta3 i
  refine ⟨pnt b j, flush0_12 _, ?_⟩
  have h := ((cfg0.win 12).blk (pnt b j)).view.emb_mem_set (ix3 (0 : Fin 1) n (⟨j.val % 512, by omega⟩ : Fin 512))
  rwa [emb12, bat_pnt, tok_pnt] at h

theorem final12 : (dats m 0 c).arrAt 12 cfg0.N = R12 m c :=
  (dats m 0 c).arrAt_eq_of_cover 12 (R12 m c) (fun t _ => flushed12_eq m c t) covered12

theorem covered13 (i : S6x8x2048.Idx) :
    ∃ t : Fin cfg0.N, (cfg0.win 13).flush t = true ∧ i ∈ ((cfg0.win 13).blk t).view.set := by
  obtain ⟨b, n, j, rfl⟩ := eta3 i
  refine ⟨pnt b j, flush0_13 _, ?_⟩
  have h := ((cfg0.win 13).blk (pnt b j)).view.emb_mem_set (ix3 (0 : Fin 1) n (⟨j.val % 512, by omega⟩ : Fin 512))
  rwa [emb13, bat_pnt, tok_pnt] at h

theorem final13 : (dats m 0 c).arrAt 13 cfg0.N = R13 m c :=
  (dats m 0 c).arrAt_eq_of_cover 13 (R13 m c) (fun t _ => flushed13_eq m c t) covered13

theorem covered14 (i : S6x768x2048.Idx) :
    ∃ t : Fin cfg0.N, (cfg0.win 14).flush t = true ∧ i ∈ ((cfg0.win 14).blk t).view.set := by
  obtain ⟨b, n, j, rfl⟩ := eta3 i
  refine ⟨pnt b j, flush0_14 _, ?_⟩
  have h := ((cfg0.win 14).blk (pnt b j)).view.emb_mem_set (ix3 (0 : Fin 1) n (⟨j.val % 512, by omega⟩ : Fin 512))
  rwa [emb14, bat_pnt, tok_pnt] at h

theorem final14 : (dats m 0 c).arrAt 14 cfg0.N = R14 m c :=
  (dats m 0 c).arrAt_eq_of_cover 14 (R14 m c) (fun t _ => flushed14_eq m c t) covered14

theorem covered15 (i : S6x8x2048.Idx) :
    ∃ t : Fin cfg0.N, (cfg0.win 15).flush t = true ∧ i ∈ ((cfg0.win 15).blk t).view.set := by
  obtain ⟨b, n, j, rfl⟩ := eta3 i
  refine ⟨pnt b j, flush0_15 _, ?_⟩
  have h := ((cfg0.win 15).blk (pnt b j)).view.emb_mem_set (ix3 (0 : Fin 1) n (⟨j.val % 512, by omega⟩ : Fin 512))
  rwa [emb15, bat_pnt, tok_pnt] at h

theorem final15 : (dats m 0 c).arrAt 15 cfg0.N = R15 m c :=
  (dats m 0 c).arrAt_eq_of_cover 15 (R15 m c) (fun t _ => flushed15_eq m c t) covered15

end Cert.QkvIdeal.Gen

namespace Cert.Qkv

open Idealize.ShloMosaic Idealize.ShloMosaic.TcCoe Idealize.SL.Sem Cert.Lib

/-- The kernel and its reference end with the same codes, scales and q. -/
theorem algebraic : Cert.algebraic_QkvIdeal_QkvRefIdeal (hQkvIdeal := Cert.QkvIdeal.Gen.facts)
    (hQkvRefIdeal := Cert.QkvRefIdeal.Gen.facts) := by
  intro m g m' g' _ hin
  refine ⟨fun c => Cert.QkvIdeal.Gen.R9 m c, fun c => Cert.QkvIdeal.Gen.R10 m c, fun c => Cert.QkvIdeal.Gen.R11 m c, fun c => Cert.QkvIdeal.Gen.R12 m c, fun c => Cert.QkvIdeal.Gen.R13 m c, fun c => Cert.QkvIdeal.Gen.R14 m c, fun c => Cert.QkvIdeal.Gen.R15 m c, ?_, ?_⟩
  · refine (θ_run _ _ _).mono (fun r h c => ?_) (Cert.QkvIdeal.Value.run_blocks (F := Ideal) m g)
    obtain ⟨h9, h10, h11, h12, h13, h14, h15, hk⟩ := h c
    exact ⟨h9.trans (Cert.QkvIdeal.Gen.final9 m c), h10.trans (Cert.QkvIdeal.Gen.final10 m c), h11.trans (Cert.QkvIdeal.Gen.final11 m c), h12.trans (Cert.QkvIdeal.Gen.final12 m c), h13.trans (Cert.QkvIdeal.Gen.final13 m c), h14.trans (Cert.QkvIdeal.Gen.final14 m c), h15.trans (Cert.QkvIdeal.Gen.final15 m c), hk⟩
  · refine (θ_run _ _ _).mono (fun r h c => ?_) (Cert.QkvRefIdeal.Value.run (F := Ideal) m' g')
    obtain ⟨h9, h10, h11, h12, h13, h14, h15, hk⟩ := h c
    obtain ⟨q0, q1, q2, q3, q4, q5, q6, q7, q8⟩ := hin c
    rw [q0, q1, q2, q3, q4, q5, q6, q7, q8] at h9 h10 h11 h12 h13 h14 h15
    exact ⟨h9, h10, h11, h12, h13, h14, h15, hk⟩

/-- The kernel's three named constants stand for the numbers their words round. -/
theorem preserves : Cert.preserves_Qkv_QkvIdeal :=
  ⟨IdealRules.named_const.statement Cert.QkvIdeal.κ "inv_2304" .f32 0x39E38E39#32 _ rfl,
    IdealRules.named_const.statement Cert.QkvIdeal.κ "inv_448" .f32 0x3B124925#32 _ rfl,
    IdealRules.named_const.statement Cert.QkvIdeal.κ "inv_96" .f32 0x3C2AAAAB#32 _ rfl⟩

end Cert.Qkv
-- ==== Proof.lean ====
module

public import proofs.«01_k».proof.Defs
public import proofs.«01_k».proof.Proof.Gen.Gateup.Frame
public import proofs.«01_k».proof.Proof.Gen.GateupIdeal.Frame
public import proofs.«01_k».proof.Proof.Gen.GateupRefIdeal.Frame
public import proofs.«01_k».proof.Proof.Gen.Down.Frame
public import proofs.«01_k».proof.Proof.Gen.DownIdeal.Frame
public import proofs.«01_k».proof.Proof.Gen.DownIdeal.Value
public import proofs.«01_k».proof.Proof.Gen.DownRef.Frame
public import proofs.«01_k».proof.Proof.Gen.DownRefIdeal.Frame
public import proofs.«01_k».proof.Proof.Gen.DownRefIdeal.Value
public import proofs.«01_k».proof.Proof.Gen.Oproj.Frame
public import proofs.«01_k».proof.Proof.Gen.OprojIdeal.Frame
public import proofs.«01_k».proof.Proof.Gen.OprojIdeal.Value
public import proofs.«01_k».proof.Proof.Gen.OprojRefIdeal.Frame
public import proofs.«01_k».proof.Proof.Gen.OprojRefIdeal.Value
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Frame
public import proofs.«01_k».proof.Proof.Gateup.Final
public import proofs.«01_k».proof.Proof.Down.Final
public import proofs.«01_k».proof.Proof.Oproj.Final
public import proofs.«01_k».proof.Proof.Qkv.Final

@[expose] public section

namespace Cert.Proof

open Idealize.ShloMosaic Idealize.SL.Sem

/-- Every claim of the certificate. -/
theorem claim : Cert.Claim :=
  ⟨Cert.Gateup.Gen.facts, Cert.GateupIdeal.Gen.facts, Cert.GateupRefIdeal.Gen.facts, Cert.Down.Gen.facts, Cert.DownIdeal.Gen.facts,
    Cert.DownRefIdeal.Gen.facts, Cert.DownRef.Gen.facts, Cert.Oproj.Gen.facts, Cert.OprojIdeal.Gen.facts, Cert.OprojRefIdeal.Gen.facts,
    Cert.Qkv.Gen.facts, Cert.QkvIdeal.Gen.facts, Cert.QkvRefIdeal.Gen.facts, Cert.Down.preFacts,
    fun m ρ _ => Cert.Gateup.Gen.frame m ρ,
    fun m ρ _ => Cert.GateupIdeal.Gen.frame m ρ,
    fun m ρ _ => Cert.GateupRefIdeal.Gen.frame m ρ,
    fun m ρ _ => Cert.Down.Gen.frame m ρ,
    fun m ρ _ => Cert.DownIdeal.Gen.frame m ρ,
    fun m ρ _ => Cert.DownIdeal.Gen.frame m ρ,
    fun m ρ _ => Cert.DownRefIdeal.Gen.frame m ρ,
    fun m ρ _ => Cert.DownRefIdeal.Gen.frame m ρ,
    fun m ρ _ => Cert.DownRef.Gen.frame m ρ,
    fun m ρ _ => Cert.Oproj.Gen.frame m ρ,
    fun m ρ _ => Cert.OprojIdeal.Gen.frame m ρ,
    fun m ρ _ => Cert.OprojRefIdeal.Gen.frame m ρ,
    fun m ρ _ => Cert.Qkv.Gen.frame m ρ,
    fun m ρ _ => Cert.QkvIdeal.Gen.frame m ρ,
    fun m ρ _ => Cert.QkvRefIdeal.Gen.frame m ρ,
    Cert.Gateup.preserves,
    Cert.Gateup.algebraic,
    Cert.Down.preserves,
    Cert.Down.algebraic,
    Cert.Down.ref_preserves,
    Cert.Oproj.preserves,
    Cert.Oproj.algebraic,
    Cert.Qkv.preserves,
    Cert.Qkv.algebraic⟩

end Cert.Proof

end
